-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v121_0)) (v1 : (c : Dev Cert.KernelIdeal.nD) → Buf (Elt Ideal) ((c.tc : Thread Cert.KernelIdeal.nD Cert.KernelIdeal.τ).loc Cert.KernelIdeal.main_v121_1)) (v2 : (c : Dev Cert.KernelIdeal.nD) → Buf (Elt Ideal) ((c.tc : Thread Cert.KernelIdeal.nD Cert.KernelIdeal.τ).loc Cert.KernelIdeal.main_v121_2)) (v3 : (c : Dev Cert.KernelIdeal.nD) → Buf (Elt Ideal) ((c.tc : Thread Cert.KernelIdeal.nD Cert.KernelIdeal.τ).loc Cert.KernelIdeal.main_v121_3)) (v4 : (c : Dev Cert.KernelIdeal.nD) → Buf (Elt Ideal) ((c.tc : Thread Cert.KernelIdeal.nD Cert.KernelIdeal.τ).loc Cert.KernelIdeal.main_v121_4)) (v5 : (c : Dev Cert.KernelIdeal.nD) → Buf (Elt Ideal) ((c.tc : Thread Cert.KernelIdeal.nD Cert.KernelIdeal.τ).loc Cert.KernelIdeal.main_v121_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121_0) = v0 c
          ∧ r.2.mem ((c.tc : Thread Cert.KernelIdeal.nD Cert.KernelIdeal.τ).loc Cert.KernelIdeal.main_v121_1) = v1 c
          ∧ r.2.mem ((c.tc : Thread Cert.KernelIdeal.nD Cert.KernelIdeal.τ).loc Cert.KernelIdeal.main_v121_2) = v2 c
          ∧ r.2.mem ((c.tc : Thread Cert.KernelIdeal.nD Cert.KernelIdeal.τ).loc Cert.KernelIdeal.main_v121_3) = v3 c
          ∧ r.2.mem ((c.tc : Thread Cert.KernelIdeal.nD Cert.KernelIdeal.τ).loc Cert.KernelIdeal.main_v121_4) = v4 c
          ∧ r.2.mem ((c.tc : Thread Cert.KernelIdeal.nD Cert.KernelIdeal.τ).loc Cert.KernelIdeal.main_v121_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_v124) = v2 c
          ∧ r.2.mem ((c.tc : Thread Cert.ReferenceIdeal.nD Cert.ReferenceIdeal.τ).loc Cert.ReferenceIdeal.main_v117) = v3 c
          ∧ r.2.mem ((c.tc : Thread Cert.ReferenceIdeal.nD Cert.ReferenceIdeal.τ).loc Cert.ReferenceIdeal.main_v116) = v4 c
          ∧ r.2.mem ((c.tc : Thread Cert.ReferenceIdeal.nD Cert.ReferenceIdeal.τ).loc Cert.ReferenceIdeal.main_v99) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S8192x1024 : Shape := ⟨2, ![8192, 1024]⟩
abbrev S8192x512 : Shape := ⟨2, ![8192, 512]⟩
abbrev S8192x128 : Shape := ⟨2, ![8192, 128]⟩
abbrev S256x128 : Shape := ⟨2, ![256, 128]⟩
abbrev S1x8 : Shape := ⟨2, ![1, 8]⟩
abbrev S_ : Shape := ⟨0, ![]⟩

class Facts : Prop where
  slices_S8192x1024_S8192x512_0_0 : S8192x1024.Slices ![0, 0] S8192x512
  bcast_S_S8192x512 : S_.BroadcastsInDim S8192x512 (![] : Fin 0 → Fin S8192x512.rank)
  bcast_S_S8192x128 : S_.BroadcastsInDim S8192x128 (![] : Fin 0 → Fin S8192x128.rank)
  bcast_S_S256x128 : S_.BroadcastsInDim S256x128 (![] : Fin 0 → Fin S256x128.rank)
  bcast_S_S1x8 : S_.BroadcastsInDim S1x8 (![] : Fin 0 → Fin S1x8.rank)

variable [Facts]

def fn_part1 {F : FTy → Type} [FloatOps F] (main_arg6 : FVec F S1x8 .f32) (main_v3 : IVec S8192x512 1) (main_v6 : IVec S8192x512 1) (main_v9 : IVec S8192x128 1) (main_v12 : IVec S8192x128 1) (main_v15 : IVec S256x128 1) (main_v16 : FVec F S256x128 .bf16) (main_v17 : FVec F S256x128 .bf16) : IVec S8192x512 1 × IVec S8192x512 1 × IVec S8192x128 1 × IVec S8192x128 1 × IVec S256x128 1 × IVec S256x128 1 × IVec S1x8 1 :=
  let main_v18 : IVec S256x128 1 := cmpf .olt main_v16 main_v17
  let main_v19 : FVec F S1x8 .f32 := Host.absf main_arg6
  let main_cst_5 : FVec F S_ .f32 := constant S_ .f32 0x7F800000#32
  let main_v20 : FVec F S1x8 .f32 := broadcastInDim S1x8 ![] bcast_S_S1x8 main_cst_5
  let main_v21 : IVec S1x8 1 := cmpf .olt main_v19 main_v20
  (main_v3, main_v6, main_v9, main_v12, main_v15, main_v18, main_v21)

def fn {F : FTy → Type} [FloatOps F] (main_arg0 : FVec F S8192x1024 .bf16) (main_arg1 : FVec F S8192x512 .bf16) (main_arg2 : FVec F S8192x128 .bf16) (main_arg3 : FVec F S8192x128 .bf16) (main_arg4 : FVec F S256x128 .bf16) (main_arg5 : FVec F S256x128 .bf16) (main_arg6 : FVec F S1x8 .f32) : IVec S8192x512 1 × IVec S8192x512 1 × IVec S8192x128 1 × IVec S8192x128 1 × IVec S256x128 1 × IVec S256x128 1 × IVec S1x8 1 :=
  let main_v0 : FVec F S8192x512 .bf16 := (extractStridedSlice S8192x512 ![0, 0] · slices_S8192x1024_S8192x512_0_0) main_arg0
  let main_v1 : FVec F S8192x512 .bf16 := Host.absf main_v0
  let main_cst : FVec F S_ .bf16 := constant S_ .bf16 0x7F80#16
  let main_v2 : FVec F S8192x512 .bf16 := broadcastInDim S8192x512 ![] bcast_S_S8192x512 main_cst
  let main_v3 : IVec S8192x512 1 := cmpf .olt main_v1 main_v2
  let main_v4 : FVec F S8192x512 .bf16 := Host.absf main_arg1
  let main_cst_0 : FVec F S_ .bf16 := constant S_ .bf16 0x7F80#16
  let main_v5 : FVec F S8192x512 .bf16 := broadcastInDim S8192x512 ![] bcast_S_S8192x512 main_cst_0
  let main_v6 : IVec S8192x512 1 := cmpf .olt main_v4 main_v5
  let main_v7 : FVec F S8192x128 .bf16 := Host.absf main_arg2
  let main_cst_1 : FVec F S_ .bf16 := constant S_ .bf16 0x7F80#16
  let main_v8 : FVec F S8192x128 .bf16 := broadcastInDim S8192x128 ![] bcast_S_S8192x128 main_cst_1
  let main_v9 : IVec S8192x128 1 := cmpf .olt main_v7 main_v8
  let main_v10 : FVec F S8192x128 .bf16 := Host.absf main_arg3
  let main_cst_2 : FVec F S_ .bf16 := constant S_ .bf16 0x7F80#16
  let main_v11 : FVec F S8192x128 .bf16 := broadcastInDim S8192x128 ![] bcast_S_S8192x128 main_cst_2
  let main_v12 : IVec S8192x128 1 := cmpf .olt main_v10 main_v11
  let main_v13 : FVec F S256x128 .bf16 := Host.absf main_arg4
  let main_cst_3 : FVec F S_ .bf16 := constant S_ .bf16 0x7F80#16
  let main_v14 : FVec F S256x128 .bf16 := broadcastInDim S256x128 ![] bcast_S_S256x128 main_cst_3
  let main_v15 : IVec S256x128 1 := cmpf .olt main_v13 main_v14
  let main_v16 : FVec F S256x128 .bf16 := Host.absf main_arg5
  let main_cst_4 : FVec F S_ .bf16 := constant S_ .bf16 0x7F80#16
  let main_v17 : FVec F S256x128 .bf16 := broadcastInDim S256x128 ![] bcast_S_S256x128 main_cst_4
  fn_part1 (F := F) main_arg6 main_v3 main_v6 main_v9 main_v12 main_v15 main_v16 main_v17
-- ==== Pre_finite2.lean ====
abbrev S8192x1024 : Shape := ⟨2, ![8192, 1024]⟩
abbrev S2816x1024 : Shape := ⟨2, ![2816, 1024]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x5632 : S_.BroadcastsInDim S8192x5632 (![] : Fin 0 → Fin S8192x5632.rank)

variable [Facts]

def fn {F : FTy → Type} [FloatOps F] (main_arg0 : FVec F S8192x1024 .bf16) (main_arg1 : FVec F S2816x1024 .bf16) (main_arg2 : FVec F S8192x5632 .bf16) : IVec S8192x1024 1 × IVec S2816x1024 1 × IVec S8192x5632 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S8192x5632 .bf16 := Host.absf main_arg2
  let main_cst_1 : FVec F S_ .bf16 := constant S_ .bf16 0x7F80#16
  let main_v7 : FVec F S8192x5632 .bf16 := broadcastInDim S8192x5632 ![] bcast_S_S8192x5632 main_cst_1
  let main_v8 : IVec S8192x5632 1 := cmpf .olt main_v6 main_v7
  (main_v2, main_v5, main_v8)
-- ==== Kernel.lean ====
abbrev S8192x1024 : Shape := ⟨2, ![8192, 1024]⟩
abbrev S8192x512 : Shape := ⟨2, ![8192, 512]⟩
abbrev S8192x128 : Shape := ⟨2, ![8192, 128]⟩
abbrev S256x128 : Shape := ⟨2, ![256, 128]⟩
abbrev S1x8 : Shape := ⟨2, ![1, 8]⟩
abbrev S8192x8x64 : Shape := ⟨3, ![8192, 8, 64]⟩
abbrev S8192x2x4x64 : Shape := ⟨4, ![8192, 2, 4, 64]⟩
abbrev S8192x2x64 : Shape := ⟨3, ![8192, 2, 64]⟩
abbrev S256x2x64 : Shape := ⟨3, ![256, 2, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8192x8192x4 : Shape := ⟨4, ![2, 8192, 8192, 4]⟩
abbrev S2x4x8192x8192 : Shape := ⟨4, ![2, 4, 8192, 8192]⟩
abbrev S2x256x8192x4 : Shape := ⟨4, ![2, 256, 8192, 4]⟩
abbrev S2x4x8192x256 : Shape := ⟨4, ![2, 4, 8192, 256]⟩
abbrev S2x4x1x1 : Shape := ⟨4, ![2, 4, 1, 1]⟩
abbrev S2x4x8192x1 : Shape := ⟨4, ![2, 4, 8192, 1]⟩
abbrev S2x4x8192x8449 : Shape := ⟨4, ![2, 4, 8192, 8449]⟩
abbrev S2x4x8192 : Shape := ⟨3, ![2, 4, 8192]⟩
abbrev S2x64x4x8192 : Shape := ⟨4, ![2, 64, 4, 8192]⟩
abbrev S8448x128 : Shape := ⟨2, ![8448, 128]⟩
abbrev S512 : Shape := ⟨1, ![512]⟩
abbrev S512x1 : Shape := ⟨2, ![512, 1]⟩
abbrev S384 : Shape := ⟨1, ![384]⟩
abbrev S1x384 : Shape := ⟨2, ![1, 384]⟩
abbrev S512x384 : Shape := ⟨2, ![512, 384]⟩
abbrev S1x512x384 : Shape := ⟨3, ![1, 512, 384]⟩
abbrev S3x512x384 : Shape := ⟨3, ![3, 512, 384]⟩
abbrev S128x512 : Shape := ⟨2, ![128, 512]⟩
abbrev S128x64 : Shape := ⟨2, ![128, 64]⟩
abbrev S512x64 : Shape := ⟨2, ![512, 64]⟩
abbrev S384x64 : Shape := ⟨2, ![384, 64]⟩
abbrev S256x64 : Shape := ⟨2, ![256, 64]⟩
abbrev S1 : Shape := ⟨1, ![1]⟩
abbrev S1x1 : Shape := ⟨2, ![1, 1]⟩
abbrev S512x256 : Shape := ⟨2, ![512, 256]⟩

abbrev nBuf : Space → Nat
  | .hbm => 196
  | .vmem => 20
  | .smem => 0
  | _ => 0

abbrev hbmTy0_0 (i : Nat) : BufTy := match i % 128 with
  | 0 => ⟨S8192x1024, .bf16⟩
  | 1 => ⟨S8192x512, .bf16⟩
  | 2 => ⟨S8192x128, .bf16⟩
  | 3 => ⟨S8192x128, .bf16⟩
  | 4 => ⟨S256x128, .bf16⟩
  | 5 => ⟨S256x128, .bf16⟩
  | 6 => ⟨S1x8, .f32⟩
  | 7 => ⟨S8192x512, .f32⟩
  | 8 => ⟨S8192x128, .f32⟩
  | 9 => ⟨S8192x128, .f32⟩
  | 10 => ⟨S256x128, .f32⟩
  | 11 => ⟨S256x128, .f32⟩
  | 12 => ⟨S8192x8x64, .f32⟩
  | 13 => ⟨S8192x2x4x64, .f32⟩
  | 14 => ⟨S8192x2x64, .f32⟩
  | 15 => ⟨S8192x2x64, .f32⟩
  | 16 => ⟨S256x2x64, .f32⟩
  | 17 => ⟨S256x2x64, .f32⟩
  | 18 => ⟨S8192, .i32⟩
  | 19 => ⟨S1x8192, .i32⟩
  | 20 => ⟨S8192x1, .i32⟩
  | 21 => ⟨S8192x8192, .i32⟩
  | 22 => ⟨S8192x8192, .i32⟩
  | 23 => ⟨S8192x8192, .i32⟩
  | 24 => ⟨S8192x8192, .i32⟩
  | 25 => ⟨S_, .i32⟩
  | 26 => ⟨S8192x8192, .i32⟩
  | 27 => ⟨S8192x8192, .i1⟩
  | 28 => ⟨S2x8192x8192x4, .f32⟩
  | 29 => ⟨S2x4x8192x8192, .f32⟩
  | 30 => ⟨S_, .f32⟩
  | 31 => ⟨S2x4x8192x8192, .f32⟩
  | 32 => ⟨S2x4x8192x8192, .f32⟩
  | 33 => ⟨S_, .f32⟩
  | 34 => ⟨S_, .f32⟩
  | 35 => ⟨S2x4x8192x8192, .i1⟩
  | 36 => ⟨S2x4x8192x8192, .f32⟩
  | 37 => ⟨S2x4x8192x8192, .f32⟩
  | 38 => ⟨S2x256x8192x4, .f32⟩
  | 39 => ⟨S2x4x8192x256, .f32⟩
  | 40 => ⟨S_, .f32⟩
  | 41 => ⟨S2x4x8192x256, .f32⟩
  | 42 => ⟨S2x4x8192x256, .f32⟩
  | 43 => ⟨S2x4x1x1, .f32⟩
  | 44 => ⟨S2x4x8192x1, .f32⟩
  | 45 => ⟨S2x4x8192x8449, .f32⟩
  | 46 => ⟨S_, .f32⟩
  | 47 => ⟨S2x4x8192, .f32⟩
  | 48 => ⟨S_, .f32⟩
  | 49 => ⟨S2x4x8192, .f32⟩
  | 50 => ⟨S2x4x8192, .f32⟩
  | 51 => ⟨S2x4x8192x1, .f32⟩
  | 52 => ⟨S2x4x8192x8449, .f32⟩
  | 53 => ⟨S2x4x8192x8449, .f32⟩
  | 54 => ⟨S2x4x8192x8449, .f32⟩
  | 55 => ⟨S_, .f32⟩
  | 56 => ⟨S2x4x8192, .f32⟩
  | 57 => ⟨S2x4x8192x1, .f32⟩
  | 58 => ⟨S2x4x8192x8449, .f32⟩
  | 59 => ⟨S2x4x8192x8449, .f32⟩
  | 60 => ⟨S2x4x8192x8192, .f32⟩
  | 61 => ⟨S2x64x4x8192, .f32⟩
  | 62 => ⟨S8192x2x4x64, .f32⟩
  | 63 => ⟨S2x4x8192x256, .f32⟩
  | 64 => ⟨S2x64x4x8192, .f32⟩
  | 65 => ⟨S8192x2x4x64, .f32⟩
  | 66 => ⟨S8192x2x4x64, .f32⟩
  | 67 => ⟨S8192x512, .f32⟩
  | 68 => ⟨S8192x512, .bf16⟩
  | 69 => ⟨S_, .i32⟩
  | 70 => ⟨S_, .bf16⟩
  | 71 => ⟨S8448x128, .bf16⟩
  | 72 => ⟨S_, .i32⟩
  | 73 => ⟨S_, .bf16⟩
  | 74 => ⟨S8448x128, .bf16⟩
  | 75 => ⟨S512, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S512, .i32⟩
  | 83 => ⟨S512, .i32⟩
  | 84 => ⟨S_, .i32⟩
  | 85 => ⟨S512, .i32⟩
  | 86 => ⟨S512, .i1⟩
  | 87 => ⟨S_, .i32⟩
  | 88 => ⟨S512, .i32⟩
  | 89 => ⟨S512, .i1⟩
  | 90 => ⟨S_, .i32⟩
  | 91 => ⟨S_, .i1⟩
  | 92 => ⟨S512, .i1⟩
  | 93 => ⟨S512, .i1⟩
  | 94 => ⟨S512, .i1⟩
  | 95 => ⟨S512, .i32⟩
  | 96 => ⟨S512, .i32⟩
  | 97 => ⟨S512, .i32⟩
  | 98 => ⟨S512x1, .i32⟩
  | 99 => ⟨S384, .i32⟩
  | 100 => ⟨S1x384, .i32⟩
  | 101 => ⟨S_, .i32⟩
  | 102 => ⟨S1x384, .i32⟩
  | 103 => ⟨S1x384, .i32⟩
  | 104 => ⟨S_, .i32⟩
  | 105 => ⟨S1x384, .i32⟩
  | 106 => ⟨S1x384, .i32⟩
  | 107 => ⟨S512x384, .i32⟩
  | 108 => ⟨S512x384, .i32⟩
  | 109 => ⟨S512x384, .i32⟩
  | 110 => ⟨S512x384, .i32⟩
  | 111 => ⟨S_, .i32⟩
  | 112 => ⟨S512x384, .i32⟩
  | 113 => ⟨S512x384, .i1⟩
  | 114 => ⟨S_, .i32⟩
  | 115 => ⟨S1x384, .i32⟩
  | 116 => ⟨S1x384, .i1⟩
  | 117 => ⟨S512x384, .i1⟩
  | 118 => ⟨S512x384, .i1⟩
  | 119 => ⟨S_, .i32⟩
  | 120 => ⟨S1x384, .i32⟩
  | 121 => ⟨S1x384, .i1⟩
  | 122 => ⟨S512x384, .i1⟩
  | 123 => ⟨S512x384, .i1⟩
  | 124 => ⟨S_, .f32⟩
  | 125 => ⟨S_, .f32⟩
  | 126 => ⟨S512x384, .f32⟩
  | 127 => ⟨S512x384, .f32⟩
  | _ => ⟨S8192x1024, .bf16⟩

abbrev hbmTy0_1 (i : Nat) : BufTy := match i % 128 with
  | 0 => ⟨S512x384, .f32⟩
  | 1 => ⟨S_, .i32⟩
  | 2 => ⟨S1x384, .i32⟩
  | 3 => ⟨S1x384, .i32⟩
  | 4 => ⟨S_, .i32⟩
  | 5 => ⟨S1x384, .i32⟩
  | 6 => ⟨S1x384, .i32⟩
  | 7 => ⟨S512x384, .i32⟩
  | 8 => ⟨S512x384, .i32⟩
  | 9 => ⟨S512x384, .i32⟩
  | 10 => ⟨S512x384, .i32⟩
  | 11 => ⟨S_, .i32⟩
  | 12 => ⟨S512x384, .i32⟩
  | 13 => ⟨S512x384, .i1⟩
  | 14 => ⟨S_, .i32⟩
  | 15 => ⟨S1x384, .i32⟩
  | 16 => ⟨S1x384, .i1⟩
  | 17 => ⟨S512x384, .i1⟩
  | 18 => ⟨S512x384, .i1⟩
  | 19 => ⟨S_, .i32⟩
  | 20 => ⟨S1x384, .i32⟩
  | 21 => ⟨S1x384, .i1⟩
  | 22 => ⟨S512x384, .i1⟩
  | 23 => ⟨S512x384, .i1⟩
  | 24 => ⟨S_, .f32⟩
  | 25 => ⟨S_, .f32⟩
  | 26 => ⟨S512x384, .f32⟩
  | 27 => ⟨S512x384, .f32⟩
  | 28 => ⟨S512x384, .f32⟩
  | 29 => ⟨S_, .i32⟩
  | 30 => ⟨S1x384, .i32⟩
  | 31 => ⟨S1x384, .i32⟩
  | 32 => ⟨S_, .i32⟩
  | 33 => ⟨S1x384, .i32⟩
  | 34 => ⟨S1x384, .i32⟩
  | 35 => ⟨S512x384, .i32⟩
  | 36 => ⟨S512x384, .i32⟩
  | 37 => ⟨S512x384, .i32⟩
  | 38 => ⟨S512x384, .i32⟩
  | 39 => ⟨S_, .i32⟩
  | 40 => ⟨S512x384, .i32⟩
  | 41 => ⟨S512x384, .i1⟩
  | 42 => ⟨S_, .i32⟩
  | 43 => ⟨S1x384, .i32⟩
  | 44 => ⟨S1x384, .i1⟩
  | 45 => ⟨S512x384, .i1⟩
  | 46 => ⟨S512x384, .i1⟩
  | 47 => ⟨S_, .i32⟩
  | 48 => ⟨S1x384, .i32⟩
  | 49 => ⟨S1x384, .i1⟩
  | 50 => ⟨S512x384, .i1⟩
  | 51 => ⟨S512x384, .i1⟩
  | 52 => ⟨S_, .f32⟩
  | 53 => ⟨S_, .f32⟩
  | 54 => ⟨S512x384, .f32⟩
  | 55 => ⟨S512x384, .f32⟩
  | 56 => ⟨S512x384, .f32⟩
  | 57 => ⟨S1x512x384, .f32⟩
  | 58 => ⟨S1x512x384, .f32⟩
  | 59 => ⟨S1x512x384, .f32⟩
  | 60 => ⟨S3x512x384, .f32⟩
  | 61 => ⟨S3x512x384, .f32⟩
  | 62 => ⟨S8192x512, .bf16⟩
  | 63 => ⟨S8448x128, .f32⟩
  | 64 => ⟨S8448x128, .f32⟩
  | 65 => ⟨S256x128, .f32⟩
  | 66 => ⟨S256x128, .f32⟩
  | 67 => ⟨S1x8, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S8448x128, .bf16⟩
  | .local _ .vmem, ⟨7, _⟩ => ⟨S8448x128, .bf16⟩
  | .local _ .vmem, ⟨8, _⟩ => ⟨S256x128, .bf16⟩
  | .local _ .vmem, ⟨9, _⟩ => ⟨S256x128, .bf16⟩
  | .local _ .vmem, ⟨10, _⟩ => ⟨S1x8, .f32⟩
  | .local _ .vmem, ⟨11, _⟩ => ⟨S1x512x384, .f32⟩
  | .local _ .vmem, ⟨12, _⟩ => ⟨S1x512x384, .f32⟩
  | .local _ .vmem, ⟨13, _⟩ => ⟨S128x512, .bf16⟩
  | .local _ .vmem, ⟨14, _⟩ => ⟨S128x512, .bf16⟩
  | .local _ .vmem, ⟨15, _⟩ => ⟨S8448x128, .f32⟩
  | .local _ .vmem, ⟨16, _⟩ => ⟨S8448x128, .f32⟩
  | .local _ .vmem, ⟨17, _⟩ => ⟨S256x128, .f32⟩
  | .local _ .vmem, ⟨18, _⟩ => ⟨S256x128, .f32⟩
  | .local _ .vmem, ⟨19, _⟩ => ⟨S1x8, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_5 : Ref sig .tc := ⟨.hbm, 69, rfl⟩
abbrev main_call1_v0 : Ref sig .tc := ⟨.hbm, 70, rfl⟩
abbrev main_v52 : Ref sig .tc := ⟨.hbm, 71, rfl⟩
abbrev main_c_6 : Ref sig .tc := ⟨.hbm, 72, rfl⟩
abbrev main_call2_v0 : Ref sig .tc := ⟨.hbm, 73, rfl⟩
abbrev main_v53 : Ref sig .tc := ⟨.hbm, 74, rfl⟩
abbrev main_v54 : Ref sig .tc := ⟨.hbm, 75, rfl⟩
abbrev main_c_7 : Ref sig .tc := ⟨.hbm, 76, rfl⟩
abbrev main_call3_v0 : Ref sig .tc := ⟨.hbm, 77, rfl⟩
abbrev main_call3_c : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_c_1 : Ref sig .tc := ⟨.hbm, 84, rfl⟩
abbrev main_call3_v5 : Ref sig .tc := ⟨.hbm, 85, rfl⟩
abbrev main_call3_v6 : Ref sig .tc := ⟨.hbm, 86, rfl⟩
abbrev main_call3_c_2 : Ref sig .tc := ⟨.hbm, 87, rfl⟩
abbrev main_call3_v7 : Ref sig .tc := ⟨.hbm, 88, rfl⟩
abbrev main_call3_v8 : Ref sig .tc := ⟨.hbm, 89, rfl⟩
abbrev main_call3_c_3 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_c_8 : Ref sig .tc := ⟨.hbm, 101, rfl⟩
abbrev main_v59 : Ref sig .tc := ⟨.hbm, 102, rfl⟩
abbrev main_v60 : Ref sig .tc := ⟨.hbm, 103, rfl⟩
abbrev main_c_9 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_c_10 : Ref sig .tc := ⟨.hbm, 111, rfl⟩
abbrev main_v67 : Ref sig .tc := ⟨.hbm, 112, rfl⟩
abbrev main_v68 : Ref sig .tc := ⟨.hbm, 113, rfl⟩
abbrev main_c_11 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_c_12 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_cst_13 : Ref sig .tc := ⟨.hbm, 124, rfl⟩
abbrev main_cst_14 : Ref sig .tc := ⟨.hbm, 125, rfl⟩
abbrev main_call4_v0 : Ref sig .tc := ⟨.hbm, 126, rfl⟩
abbrev main_call4_v1 : Ref sig .tc := ⟨.hbm, 127, rfl⟩
abbrev main_v77 : Ref sig .tc := ⟨.hbm, 128, rfl⟩
abbrev main_c_15 : Ref sig .tc := ⟨.hbm, 129, rfl⟩
abbrev main_v78 : Ref sig .tc := ⟨.hbm, 130, rfl⟩
abbrev main_v79 : Ref sig .tc := ⟨.hbm, 131, rfl⟩
abbrev main_c_16 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_c_17 : Ref sig .tc := ⟨.hbm, 139, rfl⟩
abbrev main_v86 : Ref sig .tc := ⟨.hbm, 140, rfl⟩
abbrev main_v87 : Ref sig .tc := ⟨.hbm, 141, rfl⟩
abbrev main_c_18 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_c_19 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_cst_20 : Ref sig .tc := ⟨.hbm, 152, rfl⟩
abbrev main_cst_21 : Ref sig .tc := ⟨.hbm, 153, rfl⟩
abbrev main_call5_v0 : Ref sig .tc := ⟨.hbm, 154, rfl⟩
abbrev main_call5_v1 : Ref sig .tc := ⟨.hbm, 155, rfl⟩
abbrev main_v96 : Ref sig .tc := ⟨.hbm, 156, rfl⟩
abbrev main_c_22 : Ref sig .tc := ⟨.hbm, 157, rfl⟩
abbrev main_v97 : Ref sig .tc := ⟨.hbm, 158, rfl⟩
abbrev main_v98 : Ref sig .tc := ⟨.hbm, 159, rfl⟩
abbrev main_c_23 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_c_24 : Ref sig .tc := ⟨.hbm, 167, rfl⟩
abbrev main_v105 : Ref sig .tc := ⟨.hbm, 168, rfl⟩
abbrev main_v106 : Ref sig .tc := ⟨.hbm, 169, rfl⟩
abbrev main_c_25 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_c_26 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_cst_27 : Ref sig .tc := ⟨.hbm, 180, rfl⟩
abbrev main_cst_28 : Ref sig .tc := ⟨.hbm, 181, rfl⟩
abbrev main_call6_v0 : Ref sig .tc := ⟨.hbm, 182, rfl⟩
abbrev main_call6_v1 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121_0 : Ref sig .tc := ⟨.hbm, 190, rfl⟩
abbrev main_v121_1 : Ref sig .tc := ⟨.hbm, 191, rfl⟩
abbrev main_v121_2 : Ref sig .tc := ⟨.hbm, 192, rfl⟩
abbrev main_v121_3 : Ref sig .tc := ⟨.hbm, 193, rfl⟩
abbrev main_v121_4 : Ref sig .tc := ⟨.hbm, 194, rfl⟩
abbrev main_v121_5 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c128_i32 : BitVec 32 := 128#32
  let v3 : BitVec 32 := Scalar.muli arg0 c128_i32
  v3
def k0_off1 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v23 : Index := Scalar.indexCast v4
  let c0_9 : Index := 0#32
  ![v23.toNat, 0]
def k0_off2 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v27 : Index := Scalar.indexCast v4
  let c64_10 : Index := 64#32
  ![v27.toNat, 64]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let v0 : BitVec 1 := Scalar.cmpi .eq arg0 c0_i32
  let c63_i32 : BitVec 32 := 63#32
  let v1 : BitVec 1 := Scalar.cmpi .eq arg0 c63_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, c0_i32_1.toNat, c0_i32_2.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8448x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8448x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8448x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8448x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S8192x1024 : Shape := ⟨2, ![8192, 1024]⟩
abbrev S8192x512 : Shape := ⟨2, ![8192, 512]⟩
abbrev S8192x128 : Shape := ⟨2, ![8192, 128]⟩
abbrev S256x128 : Shape := ⟨2, ![256, 128]⟩
abbrev S1x8 : Shape := ⟨2, ![1, 8]⟩
abbrev S8192x8x64 : Shape := ⟨3, ![8192, 8, 64]⟩
abbrev S8192x2x4x64 : Shape := ⟨4, ![8192, 2, 4, 64]⟩
abbrev S8192x2x64 : Shape := ⟨3, ![8192, 2, 64]⟩
abbrev S256x2x64 : Shape := ⟨3, ![256, 2, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8192x8192x4 : Shape := ⟨4, ![2, 8192, 8192, 4]⟩
abbrev S2x4x8192x8192 : Shape := ⟨4, ![2, 4, 8192, 8192]⟩
abbrev S2x256x8192x4 : Shape := ⟨4, ![2, 256, 8192, 4]⟩
abbrev S2x4x8192x256 : Shape := ⟨4, ![2, 4, 8192, 256]⟩
abbrev S2x4x1x1 : Shape := ⟨4, ![2, 4, 1, 1]⟩
abbrev S2x4x8192x1 : Shape := ⟨4, ![2, 4, 8192, 1]⟩
abbrev S2x4x8192x8449 : Shape := ⟨4, ![2, 4, 8192, 8449]⟩
abbrev S2x4x8192 : Shape := ⟨3, ![2, 4, 8192]⟩
abbrev S2x64x4x8192 : Shape := ⟨4, ![2, 64, 4, 8192]⟩
abbrev S2x64x256 : Shape := ⟨3, ![2, 64, 256]⟩
abbrev S2x64x8192 : Shape := ⟨3, ![2, 64, 8192]⟩
abbrev S2x4 : Shape := ⟨2, ![2, 4]⟩
abbrev S2x8192x4x64 : Shape := ⟨4, ![2, 8192, 4, 64]⟩
abbrev S2x256x64 : Shape := ⟨3, ![2, 256, 64]⟩
abbrev S2x8192x64 : Shape := ⟨3, ![2, 8192, 64]⟩
abbrev S8448x128 : Shape := ⟨2, ![8448, 128]⟩

abbrev nBuf : Space → Nat
  | .hbm => 164
  | .vmem => 0
  | .smem => 0
  | _ => 0

abbrev hbmTy0_0 (i : Nat) : BufTy := match i % 128 with
  | 0 => ⟨S8192x1024, .bf16⟩
  | 1 => ⟨S8192x512, .bf16⟩
  | 2 => ⟨S8192x128, .bf16⟩
  | 3 => ⟨S8192x128, .bf16⟩
  | 4 => ⟨S256x128, .bf16⟩
  | 5 => ⟨S256x128, .bf16⟩
  | 6 => ⟨S1x8, .f32⟩
  | 7 => ⟨S8192x512, .bf16⟩
  | 8 => ⟨S8192x512, .f32⟩
  | 9 => ⟨S8192x512, .f32⟩
  | 10 => ⟨S8192x128, .f32⟩
  | 11 => ⟨S8192x128, .f32⟩
  | 12 => ⟨S256x128, .f32⟩
  | 13 => ⟨S256x128, .f32⟩
  | 14 => ⟨S8192x8x64, .f32⟩
  | 15 => ⟨S8192x2x4x64, .f32⟩
  | 16 => ⟨S8192x2x64, .f32⟩
  | 17 => ⟨S8192x2x64, .f32⟩
  | 18 => ⟨S256x2x64, .f32⟩
  | 19 => ⟨S256x2x64, .f32⟩
  | 20 => ⟨S8192, .i32⟩
  | 21 => ⟨S1x8192, .i32⟩
  | 22 => ⟨S8192x1, .i32⟩
  | 23 => ⟨S8192x8192, .i32⟩
  | 24 => ⟨S8192x8192, .i32⟩
  | 25 => ⟨S8192x8192, .i32⟩
  | 26 => ⟨S8192x8192, .i32⟩
  | 27 => ⟨S_, .i32⟩
  | 28 => ⟨S8192x8192, .i32⟩
  | 29 => ⟨S8192x8192, .i1⟩
  | 30 => ⟨S2x8192x8192x4, .f32⟩
  | 31 => ⟨S2x4x8192x8192, .f32⟩
  | 32 => ⟨S_, .f32⟩
  | 33 => ⟨S2x4x8192x8192, .f32⟩
  | 34 => ⟨S2x4x8192x8192, .f32⟩
  | 35 => ⟨S_, .f32⟩
  | 36 => ⟨S_, .f32⟩
  | 37 => ⟨S2x4x8192x8192, .i1⟩
  | 38 => ⟨S2x4x8192x8192, .f32⟩
  | 39 => ⟨S2x4x8192x8192, .f32⟩
  | 40 => ⟨S_, .f32⟩
  | 41 => ⟨S2x4x8192x8192, .f32⟩
  | 42 => ⟨S2x256x8192x4, .f32⟩
  | 43 => ⟨S2x4x8192x256, .f32⟩
  | 44 => ⟨S_, .f32⟩
  | 45 => ⟨S2x4x8192x256, .f32⟩
  | 46 => ⟨S2x4x8192x256, .f32⟩
  | 47 => ⟨S2x4x1x1, .f32⟩
  | 48 => ⟨S2x4x8192x1, .f32⟩
  | 49 => ⟨S2x4x8192x8449, .f32⟩
  | 50 => ⟨S_, .f32⟩
  | 51 => ⟨S2x4x8192, .f32⟩
  | 52 => ⟨S2x4x8192x1, .f32⟩
  | 53 => ⟨S2x4x8192x8449, .f32⟩
  | 54 => ⟨S2x4x8192x8449, .i1⟩
  | 55 => ⟨S2x4x8192x8449, .f32⟩
  | 56 => ⟨S_, .f32⟩
  | 57 => ⟨S2x4x8192, .f32⟩
  | 58 => ⟨S_, .f32⟩
  | 59 => ⟨S2x4x8192, .f32⟩
  | 60 => ⟨S2x4x8192, .f32⟩
  | 61 => ⟨S_, .f32⟩
  | 62 => ⟨S2x4x8192, .f32⟩
  | 63 => ⟨S2x4x8192, .i1⟩
  | 64 => ⟨S_, .f32⟩
  | 65 => ⟨S2x4x8192, .f32⟩
  | 66 => ⟨S2x4x8192, .i1⟩
  | 67 => ⟨S_, .f32⟩
  | 68 => ⟨S2x4x8192, .f32⟩
  | 69 => ⟨S_, .f32⟩
  | 70 => ⟨S2x4x8192, .f32⟩
  | 71 => ⟨S_, .f32⟩
  | 72 => ⟨S2x4x8192, .f32⟩
  | 73 => ⟨S2x4x8192, .f32⟩
  | 74 => ⟨S2x4x8192, .f32⟩
  | 75 => ⟨S2x4x8192x1, .f32⟩
  | 76 => ⟨S2x4x8192x8449, .f32⟩
  | 77 => ⟨S2x4x8192x8449, .f32⟩
  | 78 => ⟨S2x4x8192x8449, .f32⟩
  | 79 => ⟨S_, .f32⟩
  | 80 => ⟨S2x4x8192, .f32⟩
  | 81 => ⟨S2x4x8192x1, .f32⟩
  | 82 => ⟨S2x4x8192x8449, .f32⟩
  | 83 => ⟨S2x4x8192x8449, .f32⟩
  | 84 => ⟨S2x4x8192x1, .f32⟩
  | 85 => ⟨S_, .f32⟩
  | 86 => ⟨S2x4x8192x1, .f32⟩
  | 87 => ⟨S2x4x8192x1, .f32⟩
  | 88 => ⟨S2x4x8192x8192, .f32⟩
  | 89 => ⟨S2x64x4x8192, .f32⟩
  | 90 => ⟨S8192x2x4x64, .f32⟩
  | 91 => ⟨S2x4x8192x256, .f32⟩
  | 92 => ⟨S2x64x4x8192, .f32⟩
  | 93 => ⟨S8192x2x4x64, .f32⟩
  | 94 => ⟨S8192x2x4x64, .f32⟩
  | 95 => ⟨S8192x512, .f32⟩
  | 96 => ⟨S8192x2x4x64, .f32⟩
  | 97 => ⟨S2x64x4x8192, .f32⟩
  | 98 => ⟨S2x4x8192x256, .f32⟩
  | 99 => ⟨S2x64x256, .f32⟩
  | 100 => ⟨S256x2x64, .f32⟩
  | 101 => ⟨S_, .f32⟩
  | 102 => ⟨S2x4x8192x8449, .f32⟩
  | 103 => ⟨S2x64x4x8192, .f32⟩
  | 104 => ⟨S2x4x8192x8192, .f32⟩
  | 105 => ⟨S2x64x8192, .f32⟩
  | 106 => ⟨S8192x2x64, .f32⟩
  | 107 => ⟨S_, .f32⟩
  | 108 => ⟨S2x4x8192x8449, .f32⟩
  | 109 => ⟨S2x4x8192x8449, .f32⟩
  | 110 => ⟨S2x4x8192x8449, .f32⟩
  | 111 => ⟨S2x4x8192x8449, .f32⟩
  | 112 => ⟨S2x4x8192x8449, .f32⟩
  | 113 => ⟨S_, .f32⟩
  | 114 => ⟨S2x4x8192, .f32⟩
  | 115 => ⟨S2x4x8192x1, .f32⟩
  | 116 => ⟨S2x4x8192x1, .f32⟩
  | 117 => ⟨S2x4x8192x8449, .f32⟩
  | 118 => ⟨S2x4x8192x8449, .f32⟩
  | 119 => ⟨S_, .f32⟩
  | 120 => ⟨S2x4x8192, .f32⟩
  | 121 => ⟨S2x4x8192x8449, .f32⟩
  | 122 => ⟨S2x4x8192x8449, .f32⟩
  | 123 => ⟨S2x4x8192x8449, .f32⟩
  | 124 => ⟨S2x4x8192x8192, .f32⟩
  | 125 => ⟨S2x4x8192x256, .f32⟩
  | 126 => ⟨S2x4x8192x1, .f32⟩
  | 127 => ⟨S_, .f32⟩
  | _ => ⟨S8192x1024, .bf16⟩

abbrev hbmTy0_1 (i : Nat) : BufTy := match i % 128 with
  | 0 => ⟨S2x4, .f32⟩
  | 1 => ⟨S2x4x1x1, .f32⟩
  | 2 => ⟨S1x8, .f32⟩
  | 3 => ⟨S_, .f32⟩
  | 4 => ⟨S2x4x8192x256, .f32⟩
  | 5 => ⟨S2x4x8192x256, .f32⟩
  | 6 => ⟨S2x256x8192x4, .f32⟩
  | 7 => ⟨S2x8192x4x64, .f32⟩
  | 8 => ⟨S8192x2x4x64, .f32⟩
  | 9 => ⟨S2x256x64, .f32⟩
  | 10 => ⟨S256x2x64, .f32⟩
  | 11 => ⟨S_, .f32⟩
  | 12 => ⟨S2x4x8192x8192, .f32⟩
  | 13 => ⟨S2x4x8192x8192, .f32⟩
  | 14 => ⟨S_, .f32⟩
  | 15 => ⟨S2x4x8192x8192, .f32⟩
  | 16 => ⟨S2x4x8192x8192, .f32⟩
  | 17 => ⟨S2x8192x8192x4, .f32⟩
  | 18 => ⟨S2x8192x4x64, .f32⟩
  | 19 => ⟨S8192x2x4x64, .f32⟩
  | 20 => ⟨S8192x2x4x64, .f32⟩
  | 21 => ⟨S2x8192x64, .f32⟩
  | 22 => ⟨S8192x2x64, .f32⟩
  | 23 => ⟨S256x128, .f32⟩
  | 24 => ⟨S256x128, .f32⟩
  | 25 => ⟨S8192x128, .f32⟩
  | 26 => ⟨S8192x128, .f32⟩
  | 27 => ⟨S8192x8x64, .f32⟩
  | 28 => ⟨S8192x512, .f32⟩
  | 29 => ⟨S8192x512, .bf16⟩
  | 30 => ⟨S_, .i32⟩
  | 31 => ⟨S_, .f32⟩
  | 32 => ⟨S8448x128, .f32⟩
  | 33 => ⟨S_, .i32⟩
  | 34 => ⟨S_, .f32⟩
  | 35 => ⟨S8448x128, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_call0_v0 : Ref sig .tc := ⟨.hbm, 36, rfl⟩
abbrev main_v26_1 : Ref sig .tc := ⟨.hbm, 37, rfl⟩
abbrev main_call0_v2 : Ref sig .tc := ⟨.hbm, 38, rfl⟩
abbrev main_v26_0 : Ref sig .tc := ⟨.hbm, 39, rfl⟩
abbrev main_call0_cst : Ref sig .tc := ⟨.hbm, 40, rfl⟩
abbrev main_v26_2 : Ref sig .tc := ⟨.hbm, 41, rfl⟩
abbrev main_v27 : Ref sig .tc := ⟨.hbm, 42, rfl⟩
abbrev main_v28 : Ref sig .tc := ⟨.hbm, 43, rfl⟩
abbrev main_cst_1 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_2 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_12 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_13 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_14 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_15 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_16 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_17 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_call1_cst : Ref sig .tc := ⟨.hbm, 139, rfl⟩
abbrev main_call1_v0 : Ref sig .tc := ⟨.hbm, 140, rfl⟩
abbrev main_v107 : Ref sig .tc := ⟨.hbm, 141, rfl⟩
abbrev main_cst_18 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_c_19 : Ref sig .tc := ⟨.hbm, 158, rfl⟩
abbrev main_call2_v0 : Ref sig .tc := ⟨.hbm, 159, rfl⟩
abbrev main_v123 : Ref sig .tc := ⟨.hbm, 160, rfl⟩
abbrev main_c_20 : Ref sig .tc := ⟨.hbm, 161, rfl⟩
abbrev main_call3_v0 : Ref sig .tc := ⟨.hbm, 162, rfl⟩
abbrev main_v124 : Ref sig .tc := ⟨.hbm, 163, rfl⟩

abbrev nD : Nat := 1
abbrev τ : Topo := Topo.v7x

variable {F : FTy → Type} [FloatOps F]
-- ==== Kernel2.lean ====
abbrev S8192x1024 : Shape := ⟨2, ![8192, 1024]⟩
abbrev S2816x1024 : Shape := ⟨2, ![2816, 1024]⟩
abbrev S8192x5632 : Shape := ⟨2, ![8192, 5632]⟩
abbrev S256x1024 : Shape := ⟨2, ![256, 1024]⟩
abbrev S256x5632 : Shape := ⟨2, ![256, 5632]⟩
abbrev S256x2816 : Shape := ⟨2, ![256, 2816]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x5632, .bf16⟩
  | .hbm, ⟨3, _⟩ => ⟨S8192x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S256x5632, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8192x1024 : Shape := ⟨2, ![8192, 1024]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x5632, .bf16⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S2816x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x5632, .f32⟩
  | .hbm, ⟨31, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]
-- ==== Kernel3.lean ====
abbrev S8192x5632 : Shape := ⟨2, ![8192, 5632]⟩
abbrev S5632x1024 : Shape := ⟨2, ![5632, 1024]⟩
abbrev S8192x1024 : Shape := ⟨2, ![8192, 1024]⟩
abbrev S512x5632 : Shape := ⟨2, ![512, 5632]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x1024, .bf16⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .bf16⟩
  | .local _ .vmem, ⟨4, _⟩ => ⟨S512x1024, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S5632x1024 : Shape := ⟨2, ![5632, 1024]⟩
abbrev S_ : Shape := ⟨0, ![]⟩
abbrev S8192x1024 : Shape := ⟨2, ![8192, 1024]⟩
abbrev S1024x5632 : Shape := ⟨2, ![1024, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S_, .f32⟩
  | .hbm, ⟨3, _⟩ => ⟨S8192x1024, .f32⟩
  | .hbm, ⟨4, _⟩ => ⟨S5632x1024, .f32⟩
  | .hbm, ⟨5, _⟩ => ⟨S1024x5632, .f32⟩
  | .hbm, ⟨6, _⟩ => ⟨S8192x5632, .f32⟩
  | .hbm, ⟨7, _⟩ => ⟨S8192x5632, .f32⟩
  | .hbm, ⟨8, _⟩ => ⟨S8192x1024, .f32⟩
  | .hbm, ⟨9, _⟩ => ⟨S8192x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x1024 : Shape := ⟨2, ![8192, 1024]⟩
abbrev S5632x1024 : Shape := ⟨2, ![5632, 1024]⟩
abbrev S8192x5632 : Shape := ⟨2, ![8192, 5632]⟩
abbrev S8192x2816 : Shape := ⟨2, ![8192, 2816]⟩
abbrev S256x1024 : Shape := ⟨2, ![256, 1024]⟩
abbrev S256x5632 : Shape := ⟨2, ![256, 5632]⟩
abbrev S256x2816 : Shape := ⟨2, ![256, 2816]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x5632, .bf16⟩
  | .hbm, ⟨3, _⟩ => ⟨S8192x2816, .bf16⟩
  | .local _ .vmem, ⟨0, _⟩ => ⟨S256x1024, .bf16⟩
  | .local _ .vmem, ⟨1, _⟩ => ⟨S256x1024, .bf16⟩
  | .local _ .vmem, ⟨2, _⟩ => ⟨S5632x1024, .bf16⟩
  | .local _ .vmem, ⟨3, _⟩ => ⟨S256x5632, .bf16⟩
  | .local _ .vmem, ⟨4, _⟩ => ⟨S256x5632, .bf16⟩
  | .local _ .vmem, ⟨5, _⟩ => ⟨S256x2816, .bf16⟩
  | .local _ .vmem, ⟨6, _⟩ => ⟨S256x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x5632, .bf16⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel5.lean ====
abbrev S8192x2816 : Shape := ⟨2, ![8192, 2816]⟩
abbrev S2816x1024 : Shape := ⟨2, ![2816, 1024]⟩
abbrev S8192x1024 : Shape := ⟨2, ![8192, 1024]⟩
abbrev S2048x2816 : Shape := ⟨2, ![2048, 2816]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .local _ .vmem, ⟨0, _⟩ => ⟨S2048x2816, .bf16⟩
  | .local _ .vmem, ⟨1, _⟩ => ⟨S2048x2816, .bf16⟩
  | .local _ .vmem, ⟨2, _⟩ => ⟨S2816x1024, .bf16⟩
  | .local _ .vmem, ⟨3, _⟩ => ⟨S2048x1024, .bf16⟩
  | .local _ .vmem, ⟨4, _⟩ => ⟨S2048x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | .hbm, ⟨5, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S8192x1024 : Shape := ⟨2, ![8192, 1024]⟩
abbrev S1024x2432 : Shape := ⟨2, ![1024, 2432]⟩
abbrev S8x128 : Shape := ⟨2, ![8, 128]⟩
abbrev S8192x2432 : Shape := ⟨2, ![8192, 2432]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2432, .bf16⟩
  | .hbm, ⟨2, _⟩ => ⟨S8x128, .f32⟩
  | .hbm, ⟨3, _⟩ => ⟨S8192x2432, .f32⟩
  | .local _ .vmem, ⟨0, _⟩ => ⟨S1024x1024, .bf16⟩
  | .local _ .vmem, ⟨1, _⟩ => ⟨S1024x1024, .bf16⟩
  | .local _ .vmem, ⟨2, _⟩ => ⟨S1024x2432, .bf16⟩
  | .local _ .vmem, ⟨3, _⟩ => ⟨S1024x2432, .f32⟩
  | .local _ .vmem, ⟨4, _⟩ => ⟨S1024x2432, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1024x2432 : Shape := ⟨2, ![1024, 2432]⟩
abbrev S8x128 : Shape := ⟨2, ![8, 128]⟩
abbrev S8192x2432 : Shape := ⟨2, ![8192, 2432]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2432, .bf16⟩
  | .hbm, ⟨2, _⟩ => ⟨S8x128, .f32⟩
  | .hbm, ⟨3, _⟩ => ⟨S8192x1024, .f32⟩
  | .hbm, ⟨4, _⟩ => ⟨S1024x2432, .f32⟩
  | .hbm, ⟨5, _⟩ => ⟨S8192x2432, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x2432 : Shape := ⟨2, ![8192, 2432]⟩
abbrev S1024x2432 : Shape := ⟨2, ![1024, 2432]⟩
abbrev S8x128 : Shape := ⟨2, ![8, 128]⟩
abbrev S8192x1024 : Shape := ⟨2, ![8192, 1024]⟩
abbrev S2048x2432 : Shape := ⟨2, ![2048, 2432]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x2432, .bf16⟩
  | .hbm, ⟨1, _⟩ => ⟨S1024x2432, .bf16⟩
  | .hbm, ⟨2, _⟩ => ⟨S8x128, .f32⟩
  | .hbm, ⟨3, _⟩ => ⟨S8192x1024, .bf16⟩
  | .local _ .vmem, ⟨0, _⟩ => ⟨S2048x2432, .bf16⟩
  | .local _ .vmem, ⟨1, _⟩ => ⟨S2048x2432, .bf16⟩
  | .local _ .vmem, ⟨2, _⟩ => ⟨S1024x2432, .bf16⟩
  | .local _ .vmem, ⟨3, _⟩ => ⟨S2048x1024, .bf16⟩
  | .local _ .vmem, ⟨4, _⟩ => ⟨S2048x1024, .bf16⟩
  | _, _ => ⟨S8192x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2432 : Shape := ⟨2, ![8192, 2432]⟩
abbrev S1024x2432 : Shape := ⟨2, ![1024, 2432]⟩
abbrev S8x128 : Shape := ⟨2, ![8, 128]⟩
abbrev S_ : Shape := ⟨0, ![]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2432, .bf16⟩
  | .hbm, ⟨1, _⟩ => ⟨S1024x2432, .bf16⟩
  | .hbm, ⟨2, _⟩ => ⟨S8x128, .f32⟩
  | .hbm, ⟨3, _⟩ => ⟨S_, .f32⟩
  | .hbm, ⟨4, _⟩ => ⟨S8192x1024, .f32⟩
  | .hbm, ⟨5, _⟩ => ⟨S1024x2432, .f32⟩
  | .hbm, ⟨6, _⟩ => ⟨S8192x2432, .f32⟩
  | .hbm, ⟨7, _⟩ => ⟨S8192x2432, .f32⟩
  | .hbm, ⟨8, _⟩ => ⟨S8192x1024, .f32⟩
  | .hbm, ⟨9, _⟩ => ⟨S8192x1024, .bf16⟩
  | _, _ => ⟨S8192x2432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | .local _ .vmem, ⟨3, _⟩ => ⟨S4096x1024, .bf16⟩
  | .local _ .vmem, ⟨4, _⟩ => ⟨S4096x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | .local _ .vmem, ⟨3, _⟩ => ⟨S4096x1024, .bf16⟩
  | .local _ .vmem, ⟨4, _⟩ => ⟨S4096x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S8192x2432 : Shape := ⟨2, ![8192, 2432]⟩
abbrev S1024x2432 : Shape := ⟨2, ![1024, 2432]⟩
abbrev S2048x512 : Shape := ⟨2, ![2048, 512]⟩
abbrev S2048x2432 : Shape := ⟨2, ![2048, 2432]⟩
abbrev S512x2432 : Shape := ⟨2, ![512, 2432]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x2432, .bf16⟩
  | .hbm, ⟨2, _⟩ => ⟨S1024x2432, .f32⟩
  | .hbm, ⟨3, _⟩ => ⟨S1024x2432, .f32⟩
  | .local _ .vmem, ⟨0, _⟩ => ⟨S2048x512, .bf16⟩
  | .local _ .vmem, ⟨1, _⟩ => ⟨S2048x512, .bf16⟩
  | .local _ .vmem, ⟨2, _⟩ => ⟨S2048x2432, .bf16⟩
  | .local _ .vmem, ⟨3, _⟩ => ⟨S2048x2432, .bf16⟩
  | .local _ .vmem, ⟨4, _⟩ => ⟨S512x2432, .f32⟩
  | .local _ .vmem, ⟨5, _⟩ => ⟨S512x2432, .f32⟩
  | .local _ .vmem, ⟨6, _⟩ => ⟨S512x2432, .f32⟩
  | .local _ .vmem, ⟨7, _⟩ => ⟨S512x2432, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S8192x1024 : Shape := ⟨2, ![8192, 1024]⟩
abbrev S8192x2432 : Shape := ⟨2, ![8192, 2432]⟩
abbrev S1024x2432 : Shape := ⟨2, ![1024, 2432]⟩
abbrev S_ : Shape := ⟨0, ![]⟩
abbrev S2432x1024 : Shape := ⟨2, ![2432, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2432, .bf16⟩
  | .hbm, ⟨2, _⟩ => ⟨S1024x2432, .f32⟩
  | .hbm, ⟨3, _⟩ => ⟨S_, .f32⟩
  | .hbm, ⟨4, _⟩ => ⟨S1024x2432, .f32⟩
  | .hbm, ⟨5, _⟩ => ⟨S8192x1024, .f32⟩
  | .hbm, ⟨6, _⟩ => ⟨S8192x2432, .f32⟩
  | .hbm, ⟨7, _⟩ => ⟨S8192x2432, .f32⟩
  | .hbm, ⟨8, _⟩ => ⟨S2432x1024, .f32⟩
  | .hbm, ⟨9, _⟩ => ⟨S1024x2432, .f32⟩
  | .hbm, ⟨10, _⟩ => ⟨S1024x2432, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel11.lean ====
abbrev S8192x1024 : Shape := ⟨2, ![8192, 1024]⟩
abbrev S4x2560x1024 : Shape := ⟨3, ![4, 2560, 1024]⟩
abbrev S4096x1024 : Shape := ⟨2, ![4096, 1024]⟩
abbrev S4x256x1024 : Shape := ⟨3, ![4, 256, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x2560x1024, .f32⟩
  | .hbm, ⟨3, _⟩ => ⟨S4x2560x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4x256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let c0_i32_0 : BitVec 32 := 0#32
  ![arg0.toNat, c9_i32.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference11Ideal.lean ====
abbrev S8192x1024 : Shape := ⟨2, ![8192, 1024]⟩
abbrev S4x2560x1024 : Shape := ⟨3, ![4, 2560, 1024]⟩
abbrev S_ : Shape := ⟨0, ![]⟩
abbrev S1024x1024 : Shape := ⟨2, ![1024, 1024]⟩
abbrev S4x2304x1024 : Shape := ⟨3, ![4, 2304, 1024]⟩
abbrev S4x256x1024 : Shape := ⟨3, ![4, 256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x2560x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S4x2304x1024, .f32⟩
  | .hbm, ⟨11, _⟩ => ⟨S4x256x1024, .f32⟩
  | .hbm, ⟨12, _⟩ => ⟨S4x2560x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel12.lean ====
abbrev S8192x5632 : Shape := ⟨2, ![8192, 5632]⟩
abbrev S8192x1024 : Shape := ⟨2, ![8192, 1024]⟩
abbrev S4x2560x1024 : Shape := ⟨3, ![4, 2560, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S4x2560x1024, .f32⟩
  | .hbm, ⟨3, _⟩ => ⟨S4x2560x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .f32⟩
  | .local _ .vmem, ⟨5, _⟩ => ⟨S1x1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference12Ideal.lean ====
abbrev S8192x5632 : Shape := ⟨2, ![8192, 5632]⟩
abbrev S8192x1024 : Shape := ⟨2, ![8192, 1024]⟩
abbrev S4x2560x1024 : Shape := ⟨3, ![4, 2560, 1024]⟩
abbrev S_ : Shape := ⟨0, ![]⟩
abbrev S5632x1024 : Shape := ⟨2, ![5632, 1024]⟩
abbrev S1024x5632 : Shape := ⟨2, ![1024, 5632]⟩
abbrev S4x1408x1024 : Shape := ⟨3, ![4, 1408, 1024]⟩
abbrev S4x1152x1024 : Shape := ⟨3, ![4, 1152, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S4x2560x1024, .f32⟩
  | .hbm, ⟨3, _⟩ => ⟨S_, .f32⟩
  | .hbm, ⟨4, _⟩ => ⟨S5632x1024, .f32⟩
  | .hbm, ⟨5, _⟩ => ⟨S8192x1024, .f32⟩
  | .hbm, ⟨6, _⟩ => ⟨S1024x5632, .f32⟩
  | .hbm, ⟨7, _⟩ => ⟨S8192x5632, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S4x1408x1024, .f32⟩
  | .hbm, ⟨13, _⟩ => ⟨S4x1152x1024, .f32⟩
  | .hbm, ⟨14, _⟩ => ⟨S4x2560x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel13.lean ====
abbrev S8192x2816 : Shape := ⟨2, ![8192, 2816]⟩
abbrev S8192x1024 : Shape := ⟨2, ![8192, 1024]⟩
abbrev S4x2560x1024 : Shape := ⟨3, ![4, 2560, 1024]⟩
abbrev S2048x1408 : Shape := ⟨2, ![2048, 1408]⟩
abbrev S2048x1024 : Shape := ⟨2, ![2048, 1024]⟩
abbrev S2x704x1024 : Shape := ⟨3, ![2, 704, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S4x2560x1024, .f32⟩
  | .hbm, ⟨3, _⟩ => ⟨S4x2560x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S2x704x1024, .f32⟩
  | .local _ .vmem, ⟨5, _⟩ => ⟨S2x704x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference13Ideal.lean ====
abbrev S8192x2816 : Shape := ⟨2, ![8192, 2816]⟩
abbrev S8192x1024 : Shape := ⟨2, ![8192, 1024]⟩
abbrev S4x2560x1024 : Shape := ⟨3, ![4, 2560, 1024]⟩
abbrev S_ : Shape := ⟨0, ![]⟩
abbrev S2816x1024 : Shape := ⟨2, ![2816, 1024]⟩
abbrev S1024x2816 : Shape := ⟨2, ![1024, 2816]⟩
abbrev S4x1408x1024 : Shape := ⟨3, ![4, 1408, 1024]⟩
abbrev S4x704x1024 : Shape := ⟨3, ![4, 704, 1024]⟩
abbrev S4x448x1024 : Shape := ⟨3, ![4, 448, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S4x2560x1024, .f32⟩
  | .hbm, ⟨3, _⟩ => ⟨S_, .f32⟩
  | .hbm, ⟨4, _⟩ => ⟨S2816x1024, .f32⟩
  | .hbm, ⟨5, _⟩ => ⟨S8192x2816, .f32⟩
  | .hbm, ⟨6, _⟩ => ⟨S8192x1024, .f32⟩
  | .hbm, ⟨7, _⟩ => ⟨S8192x1024, .f32⟩
  | .hbm, ⟨8, _⟩ => ⟨S1024x2816, .f32⟩
  | .hbm, ⟨9, _⟩ => ⟨S2816x1024, .f32⟩
  | .hbm, ⟨10, _⟩ => ⟨S4x1408x1024, .f32⟩
  | .hbm, ⟨11, _⟩ => ⟨S4x704x1024, .f32⟩
  | .hbm, ⟨12, _⟩ => ⟨S4x448x1024, .f32⟩
  | .hbm, ⟨13, _⟩ => ⟨S4x2560x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Reals.lean ====
module

public import Idealize.ShloMosaic.Lib.Pointwise

@[expose] public section

/-!
# Extended reals that are reals

Finite sums, the two literals and the running maximum of a softmax, where every term is a real number or the row's
masked entries are minus infinity.
-/

noncomputable section

namespace Cert.AttnBwd

open Idealize.ShloMosaic

/-- A finite sum of real numbers, taken in the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem eighth : Ideal.ofBits .f32 1040187392#32 = ((1 / 8 : ℝ) : EReal) := by
  simp [Ideal.ofBits, Ideal.ieee, -EReal.coe_mul]; norm_num

theorem minus_inf : Ideal.ofBits .f32 4286578688#32 = ⊥ := by
  simp [Ideal.ofBits, Ideal.ieee, -EReal.coe_mul]

/-- The maximum of finitely many entries none of which is plus infinity is not plus infinity. -/
theorem fold_max_ne_top {ι : Type*} (s : Finset ι) (f : ι → EReal) (hf : ∀ i, f i ≠ ⊤) : Finset.fold max ⊥ f s ≠ ⊤ := by
  rw [← lt_top_iff_ne_top, Finset.fold_max_lt]
  exact ⟨bot_lt_top, fun i _ => lt_top_iff_ne_top.mpr (hf i)⟩

/-- A maximum with a real number is a real number. -/
theorem max_real {x : EReal} (hx : x ≠ ⊤) (s : ℝ) : ∃ M : ℝ, max x (s : EReal) = (M : EReal) := by
  have h1 : max x (s : EReal) ≠ ⊤ := by
    rw [← lt_top_iff_ne_top]; exact max_lt (lt_top_iff_ne_top.mpr hx) (EReal.coe_lt_top s)
  have h2 : max x (s : EReal) ≠ ⊥ := by
    rw [← bot_lt_iff_ne_bot]; exact lt_of_lt_of_le (EReal.bot_lt_coe s) (le_max_right _ _)
  exact ⟨_, (EReal.coe_toReal h1 h2).symm⟩

theorem max_ne_top {x y : EReal} (hx : x ≠ ⊤) (hy : y ≠ ⊤) : max x y ≠ ⊤ := by
  rw [← lt_top_iff_ne_top]; exact max_lt (lt_top_iff_ne_top.mpr hx) (lt_top_iff_ne_top.mpr hy)

/-- One weight of a softmax: a masked entry weighs nothing, another the exponential of its score, shifted. -/
theorem exp_shift (ok : Bool) (S M : ℝ) :
    Ideal.exp ((if ok then (S : EReal) else ⊥) - (M : EReal)) = ((Real.exp (-M) * (if ok then Real.exp S else 0) : ℝ) : EReal) := by
  cases ok
  · simp
  · simp only [if_true]
    rw [← EReal.coe_sub, Ideal.exp_coe, ← Real.exp_add]
    congr 2; ring

end Cert.AttnBwd

end
-- ==== Proof.Infinity.lean ====
module

public import Idealize.ShloMosaic.Lib.Pointwise

@[expose] public section

/-!
# Below plus infinity

A number whose absolute value is below plus infinity is a real number.
-/

noncomputable section

namespace Cert.AttnBwd

open Idealize.ShloMosaic

theorem inf_wide : Ideal.ofBits .f32 0x7F800000#32 = ⊤ := by
  simp [Ideal.ofBits, Ideal.ieee, -EReal.coe_mul]

theorem inf_narrow : Ideal.ofBits .bf16 0x7F80#16 = ⊤ := by
  simp [Ideal.ofBits, Ideal.ieee, -EReal.coe_mul]

/-- A number whose absolute value is below plus infinity is real. -/
theorem real_of_lt (f : FTy) (x b : EReal) (hb : b = ⊤)
    (h : BitVec.ofBool (decide ((FloatOps.absf (F := Ideal) (φ := f) x : EReal) < b)) = 1#1) :
    x = ((x.toReal : ℝ) : EReal) := by
  subst hb
  have e : (FloatOps.absf (F := Ideal) (φ := f) x : EReal) = max x (-x) := rfl
  rw [e] at h
  induction x with
  | bot => simp at h
  | top => simp at h
  | coe r => rfl

end Cert.AttnBwd

end
-- ==== Proof.FfnGrad.lean ====
module

public import proofs.«01_k».proof.Defs
public import proofs.«01_k».proof.Proof.Reals
public import proofs.«01_k».proof.Proof.Infinity
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_finite2
public import Idealize.ShloMosaic.Lib.Pointwise
public import Idealize.ShloMosaic.Lib.Pipeline.ValueKit

@[expose] public section

/-!
# The gradient of the product before the swiglu

A point multiplies 256 rows of the incoming gradient with the whole weight, for the gradient of the swiglu's value, and takes
the swiglu's derivative there. The reference multiplies that derivative out, which is the same for real numbers.
-/

set_option maxRecDepth 16384

noncomputable section

namespace Cert.FfnGrad

open Cert.Kernel2Ideal Cert.Kernel2Ideal.Gen Cert.AttnBwd
open Idealize.ShloMosaic Idealize.ShloMosaic.TcCoe Idealize.ShloMosaic.Tactic
open Idealize.SL.Sem

variable {m : (ℓ : Loc nD τ sig) → Buf (Elt Ideal) ℓ} {c : Dev nD}

abbrev a0 (m : (ℓ : Loc nD τ sig) → Buf (Elt Ideal) ℓ) (c : Dev nD) : FVec Ideal S8192x1024 .bf16 :=
  m ((c : Thread nD τ).loc main_arg0)

abbrev a1 (m : (ℓ : Loc nD τ sig) → Buf (Elt Ideal) ℓ) (c : Dev nD) : FVec Ideal S2816x1024 .bf16 :=
  m ((c : Thread nD τ).loc main_arg1)

abbrev a2 (m : (ℓ : Loc nD τ sig) → Buf (Elt Ideal) ℓ) (c : Dev nD) : FVec Ideal S8192x5632 .bf16 :=
  m ((c : Thread nD τ).loc main_arg2)

theorem place : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem points (t : Fin cfg0.N) : t.val < 32 := lt_of_lt_of_eq t.isLt N_0

theorem rows_at (t : Fin cfg0.N) (i : Fin 256) (j : Fin 1024) :
    (iblk m c 0 t : FVec Ideal S256x1024 .bf16) (ix2 i j)
      = a0 m c (ix2 ⟨256 * t.val + i.val, by have := points t; omega⟩ j) := by
  blk_ext [iblk, V_main_arg0, place t]

theorem weight_at (t : Fin cfg0.N) (i : Fin 2816) (j : Fin 1024) :
    (iblk m c 1 t : FVec Ideal S2816x1024 .bf16) (ix2 i j) = a1 m c (ix2 i j) := by
  blk_ext [iblk, V_main_arg1, place t]

theorem input_at (t : Fin cfg0.N) (i : Fin 256) (j : Fin 5632) :
    (iblk m c 2 t : FVec Ideal S256x5632 .bf16) (ix2 i j)
      = a2 m c (ix2 ⟨256 * t.val + i.val, by have := points t; omega⟩ j) := by
  blk_ext [iblk, V_main_arg2, place t]

/-- The sigmoid, as both write it. -/
def gate (g : EReal) : EReal := Ideal.div 1 (1 + Ideal.exp (-g))

/-- The gradient of the swiglu's value at a row and a column. -/
def back {n : ℕ} (x : (⟨2, ![n, 1024]⟩ : Shape).Idx → EReal) (w : FVec Ideal S2816x1024 .bf16) (i : Fin n) (j : Fin 2816) : EReal :=
  ∑ k : Fin 1024, x (ix2 i k) * w (ix2 j k)

theorem pay_at (x : FVec Ideal S256x1024 .bf16) (w : FVec Ideal S2816x1024 .bf16) (u : FVec Ideal S256x5632 .bf16)
    (i : Fin 256) (j : Fin 5632) : k0_pay1 (F := Ideal) x w u (ix2 i j)
      = if h : j.val < 2816 then
          back x w i ⟨j.val, h⟩ * u (ix2 i ⟨2816 + j.val, by omega⟩)
            * (gate (u (ix2 i j)) + u (ix2 i j) * gate (u (ix2 i j)) * (1 - gate (u (ix2 i j))))
        else
          back x w i ⟨j.val - 2816, by omega⟩ * (u (ix2 i ⟨j.val - 2816, by omega⟩) * gate (u (ix2 i ⟨j.val - 2816, by omega⟩))) := by
  unfold back gate
  pointwise [k0_pay1]
  simp only [zero_sub]

open Cert.Reference2Ideal.Read in
theorem ref_back (x : FVec Ideal S8192x1024 .bf16) (w : FVec Ideal S2816x1024 .bf16) (i : Fin 8192) (j : Fin 2816) :
    val_main_v8 (F := Ideal) x w (ix2 i j) = back x w i j := by
  unfold back
  pointwise [val_main_v8, val_main_v7, val_main_v5]

open Cert.Reference2Ideal.Read in
theorem ref_gate (u : FVec Ideal S8192x5632 .bf16) (i : Fin 8192) (j : Fin 2816) :
    val_main_v3_2 (F := Ideal) u (ix2 i j) = gate (u (ix2 i ⟨j.val, by omega⟩)) := by
  unfold gate
  pointwise [val_main_v3_2, val_main_call0_v4, val_main_call0_v3, val_main_call0_v2, val_main_call0_v1, val_main_call0_v0,
    val_main_call0_cst, val_main_call0_cst_0, val_main_v1, val_main_v0]

open Cert.Reference2Ideal.Read in
theorem ref_at (x : FVec Ideal S8192x1024 .bf16) (w : FVec Ideal S2816x1024 .bf16) (u : FVec Ideal S8192x5632 .bf16)
    (i : Fin 8192) (j : Fin 5632) : val_main_v13 (F := Ideal) x w u (ix2 i j)
      = if h : j.val < 2816 then
          back x w i ⟨j.val, h⟩ * u (ix2 i ⟨2816 + j.val, by omega⟩) * gate (u (ix2 i j))
            + u (ix2 i j) * (back x w i ⟨j.val, h⟩ * u (ix2 i ⟨2816 + j.val, by omega⟩))
              * (gate (u (ix2 i j)) * (1 - gate (u (ix2 i j))))
        else
          u (ix2 i ⟨j.val - 2816, by omega⟩) * gate (u (ix2 i ⟨j.val - 2816, by omega⟩)) * back x w i ⟨j.val - 2816, by omega⟩ := by
  pointwise [val_main_v13, val_main_v12, val_main_v11, val_main_v10, val_main_v9, val_main_call1_v0, val_main_call1_v1,
    val_main_call1_v2, val_main_v3_0, val_main_v3_1, val_main_call0_v7, val_main_call0_v6, val_main_call0_cst_1, val_main_v2,
    val_main_v1, val_main_v0]
  simp only [ref_back, ref_gate]

/-- The derivative multiplied out, for real numbers. -/
theorem derivative (d t g : ℝ) : (d : EReal) * t * (gate g + g * gate g * (1 - gate g))
    = d * t * gate g + g * (d * t) * (gate g * (1 - gate g)) := by
  have h : gate (g : EReal) = ((1 / (1 + Real.exp (-g)) : ℝ) : EReal) := by
    unfold gate
    rw [← EReal.coe_neg, Ideal.exp_coe, ← EReal.coe_one, ← EReal.coe_add, Ideal.div_coe (by positivity), EReal.coe_one, one_mul]
  rw [h, ← EReal.coe_one]
  simp only [← EReal.coe_mul, ← EReal.coe_sub, ← EReal.coe_add]
  congr 1
  ring

theorem back_block (t : Fin cfg0.N) (i : Fin 256) (j : Fin 2816) :
    back (iblk m c 0 t : FVec Ideal S256x1024 .bf16) (iblk m c 1 t) i j
      = back (a0 m c) (a1 m c) ⟨256 * t.val + i.val, by have := points t; omega⟩ j :=
  Finset.sum_congr rfl fun k _ => by rw [rows_at, weight_at]

/-- Finite arguments make the gradient of the swiglu's value a real number. -/
theorem back_real (hm : Cert.Pre_Kernel2Ideal_finite2 (hPre_finite2 := Cert.Pre_finite2.Gen.facts) m) (i : Fin 8192) (j : Fin 2816) :
    ∃ d : ℝ, back (a0 m c) (a1 m c) i j = d := by
  obtain ⟨h0, h1, h2⟩ := hm c
  have r0 : ∀ k, a0 m c (ix2 i k) = ((a0 m c (ix2 i k) : EReal).toReal : EReal) := fun k => by
    have e := congrFun h0 (ix2 i k)
    pointwise [Cert.Pre_finite2.fn] at e
    exact real_of_lt .bf16 _ _ inf_narrow e
  have r1 : ∀ k, a1 m c (ix2 j k) = ((a1 m c (ix2 j k) : EReal).toReal : EReal) := fun k => by
    have e := congrFun h1 (ix2 j k)
    pointwise [Cert.Pre_finite2.fn] at e
    exact real_of_lt .bf16 _ _ inf_narrow e
  refine ⟨∑ k, (a0 m c (ix2 i k) : EReal).toReal * (a1 m c (ix2 j k) : EReal).toReal, ?_⟩
  rw [← coe_sum]
  exact Finset.sum_congr rfl fun k _ => by rw [EReal.coe_mul, ← r0, ← r1]

/-- Finite arguments make the input of the swiglu real. -/
theorem input_real (hm : Cert.Pre_Kernel2Ideal_finite2 (hPre_finite2 := Cert.Pre_finite2.Gen.facts) m) (i : Fin 8192) (j : Fin 5632) :
    ∃ g : ℝ, a2 m c (ix2 i j) = g := by
  have e := congrFun (hm c).2.2 (ix2 i j)
  pointwise [Cert.Pre_finite2.fn] at e
  exact ⟨_, real_of_lt .bf16 _ _ inf_narrow e⟩

theorem out_at (hm : Cert.Pre_Kernel2Ideal_finite2 (hPre_finite2 := Cert.Pre_finite2.Gen.facts) m) (t : Fin cfg0.N) (i : Fin 256)
    (j : Fin 5632) : k0_pay1 (F := Ideal) (iblk m c 0 t) (iblk m c 1 t) (iblk m c 2 t) (ix2 i j)
      = Cert.Reference2Ideal.Read.val_main_v13 (F := Ideal) (a0 m c) (a1 m c) (a2 m c)
          (ix2 ⟨256 * t.val + i.val, by have := points t; omega⟩ j) := by
  rw [pay_at, ref_at]
  simp only [back_block, input_at]
  by_cases h : j.val < 2816
  · rw [dif_pos h, dif_pos h]
    obtain ⟨d, hd⟩ := back_real (c := c) hm ⟨256 * t.val + i.val, by have := points t; omega⟩ ⟨j.val, h⟩
    obtain ⟨u, hu⟩ := input_real (c := c) hm ⟨256 * t.val + i.val, by have := points t; omega⟩ ⟨2816 + j.val, by omega⟩
    obtain ⟨g, hg⟩ := input_real (c := c) hm ⟨256 * t.val + i.val, by have := points t; omega⟩ j
    rw [hd, hu, hg]
    exact derivative d u g
  · rw [dif_neg h, dif_neg h, mul_comm]

theorem final (hm : Cert.Pre_Kernel2Ideal_finite2 (hPre_finite2 := Cert.Pre_finite2.Gen.facts) m) :
    (dats m 0 c).arrAt 3 cfg0.N = Cert.Reference2Ideal.Read.val_main_v13 (F := Ideal) (a0 m c) (a1 m c) (a2 m c) := by
  refine (dats m 0 c).arrAt_eq_of_covers 3 _ (by decide +kernel) fun t hf y => ?_
  blk_simp
  rw [after0_3]
  have e : (win0_3.blk t).view.emb y
      = (ix2 ⟨256 * t.val + (y 0).val, by have := points t; have : (y 0).val < 256 := (y 0).isLt; omega⟩ (y 1) :
          S8192x5632.Idx) := by
    blk_ext [place t]
  rw [e]
  frame_out
  exact (congrArg _ (eq_ix2 y)).trans (out_at hm t (y 0) (y 1))

/-- The reference terminates at every input with its arguments unchanged and its counters at zero. -/
theorem frame_reference : Cert.quiescent_Reference2Ideal (hReference2Ideal := Cert.Reference2Ideal.Gen.facts) := by
  intro m ρ _
  exact (θ_run Cert.Reference2Ideal.defs _ _).mono (fun r h => ⟨fun c => (h c).2, sem_eq_zero_of_no_sems (by decide) r.2⟩)
    (Cert.Reference2Ideal.Value.run (F := Ideal) m ρ)

open Cert.Reference2Ideal.Read in
/-- The call leaves the reference's value. -/
theorem same : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hm he
  refine ⟨fun c => val_main_v13 (F := Ideal) (a0 m c) (a1 m c) (a2 m c),
    (θ_run defs _ _).mono (fun r h c => ?_) (Cert.Kernel2Ideal.Value.run_blocks m g),
    (θ_run Cert.Reference2Ideal.defs _ _).mono (fun r h c => ?_) (Cert.Reference2Ideal.Value.run (F := Ideal) m' g')⟩
  · exact ⟨(h c).1.trans (final (c := c) hm), (h c).2⟩
  · obtain ⟨r0, ha⟩ := h c
    obtain ⟨e0, e1, e2⟩ := he c
    rw [val_main_v13_eq, e0, e1, e2] at r0
    exact ⟨r0, ha⟩

end Cert.FfnGrad

end
-- ==== Proof.FfnIn.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit

@[expose] public section

/-!
# The gradient of the feed-forward input

The call multiplies 512 rows of the incoming gradient at a point with the whole weight. The rows of its result are the rows
of the reference's product.
-/

set_option maxRecDepth 16384

noncomputable section

namespace Cert.FfnIn

open Cert.Kernel3Ideal Cert.Kernel3Ideal.Gen
open Idealize.ShloMosaic Idealize.ShloMosaic.TcCoe Idealize.ShloMosaic.Tactic
open Idealize.SL.Sem

variable {m : (ℓ : Loc nD τ sig) → Buf (Elt Ideal) ℓ} {c : Dev nD}

abbrev a0 (m : (ℓ : Loc nD τ sig) → Buf (Elt Ideal) ℓ) (c : Dev nD) : FVec Ideal S8192x5632 .bf16 :=
  m ((c : Thread nD τ).loc main_arg0)

abbrev a1 (m : (ℓ : Loc nD τ sig) → Buf (Elt Ideal) ℓ) (c : Dev nD) : FVec Ideal S5632x1024 .bf16 :=
  m ((c : Thread nD τ).loc main_arg1)

theorem place : ∀ t : Fin cfg0.N, win0_0.index t = ![t.val, 0] ∧ win0_1.index t = ![0, 0] ∧ win0_2.index t = ![t.val, 0] :=
  (by decide +kernel : ∀ t : Fin grid0.N, _)

theorem points (t : Fin cfg0.N) : t.val < 16 := lt_of_lt_of_eq t.isLt N_0

theorem rows_at (t : Fin cfg0.N) (i : Fin 512) (j : Fin 5632) :
    (iblk m c 0 t : FVec Ideal S512x5632 .bf16) (ix2 i j)
      = a0 m c (ix2 ⟨512 * t.val + i.val, by have := points t; omega⟩ j) := by
  blk_ext [iblk, V_main_arg0, place t]

theorem weight_at (t : Fin cfg0.N) (i : Fin 5632) (j : Fin 1024) :
    (iblk m c 1 t : FVec Ideal S5632x1024 .bf16) (ix2 i j) = a1 m c (ix2 i j) := by
  blk_ext [iblk, V_main_arg1, place t]

theorem pay_at (x : FVec Ideal S512x5632 .bf16) (w : FVec Ideal S5632x1024 .bf16) (i : Fin 512) (j : Fin 1024) :
    k0_pay1 (F := Ideal) x w (ix2 i j) = ∑ k : Fin 5632, x (ix2 i k) * w (ix2 k j) := by
  pointwise [k0_pay1]

open Cert.Reference3Ideal.Read in
theorem ref_at (x : FVec Ideal S8192x5632 .bf16) (w : FVec Ideal S5632x1024 .bf16) (i : Fin 8192) (j : Fin 1024) :
    val_main_v6 (F := Ideal) x w (ix2 i j) = ∑ k : Fin 5632, x (ix2 i k) * w (ix2 k j) := by
  pointwise [val_main_v6, val_main_v5, val_main_v4, val_main_v2, val_main_v1]

theorem out_at (t : Fin cfg0.N) (i : Fin 512) (j : Fin 1024) :
    k0_pay1 (F := Ideal) (iblk m c 0 t) (iblk m c 1 t) (ix2 i j)
      = Cert.Reference3Ideal.Read.val_main_v6 (F := Ideal) (a0 m c) (a1 m c)
          (ix2 ⟨512 * t.val + i.val, by have := points t; omega⟩ j) := by
  rw [pay_at, ref_at]
  exact Finset.sum_congr rfl fun k _ => by rw [rows_at, weight_at]

theorem final : (dats m 0 c).arrAt 2 cfg0.N = Cert.Reference3Ideal.Read.val_main_v6 (F := Ideal) (a0 m c) (a1 m c) := by
  refine (dats m 0 c).arrAt_eq_of_covers 2 _ (by decide +kernel) fun t hf y => ?_
  blk_simp
  rw [after0_2]
  have e : (win0_2.blk t).view.emb y
      = (ix2 ⟨512 * t.val + (y 0).val, by have := points t; have : (y 0).val < 512 := (y 0).isLt; omega⟩ (y 1) :
          S8192x1024.Idx) := by
    blk_ext [place t]
  rw [e]
  frame_out
  exact (congrArg _ (eq_ix2 y)).trans (out_at t (y 0) (y 1))

/-- The reference terminates at every input with its arguments unchanged and its counters at zero. -/
theorem frame_reference : Cert.quiescent_Reference3Ideal (hReference3Ideal := Cert.Reference3Ideal.Gen.facts) := by
  intro m ρ _
  exact (θ_run Cert.Reference3Ideal.defs _ _).mono (fun r h => ⟨fun c => (h c).2, sem_eq_zero_of_no_sems (by decide) r.2⟩)
    (Cert.Reference3Ideal.Value.run (F := Ideal) m ρ)

open Cert.Reference3Ideal.Read in
/-- The call leaves the reference's value. -/
theorem same : Cert.algebraic_Kernel3Ideal_Reference3Ideal (hKernel3Ideal := Cert.Kernel3Ideal.Gen.facts)
    (hReference3Ideal := Cert.Reference3Ideal.Gen.facts) := by
  intro m g m' g' _ he
  refine ⟨fun c => val_main_v6 (F := Ideal) (a0 m c) (a1 m c),
    (θ_run defs _ _).mono (fun r h c => ?_) (Cert.Kernel3Ideal.Value.run_blocks m g),
    (θ_run Cert.Reference3Ideal.defs _ _).mono (fun r h c => ?_) (Cert.Reference3Ideal.Value.run (F := Ideal) m' g')⟩
  · exact ⟨(h c).1.trans final, (h c).2⟩
  · obtain ⟨r0, ha⟩ := h c
    obtain ⟨e0, e1⟩ := he c
    rw [val_main_v6_eq, e0, e1] at r0
    exact ⟨r0, ha⟩

end Cert.FfnIn

end
-- ==== Proof.FfnFwd.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit

@[expose] public section

/-!
# The product before the swiglu, and the swiglu

A point multiplies 256 rows of the normed input with both halves of the weight, stores the product, and stores the swiglu of
its halves: those rows of the reference's two results.
-/

set_option maxRecDepth 16384

noncomputable section

namespace Cert.FfnFwd

open Cert.Kernel4Ideal Cert.Kernel4Ideal.Gen
open Idealize.ShloMosaic Idealize.ShloMosaic.TcCoe Idealize.ShloMosaic.Tactic
open Idealize.SL.Sem

variable {m : (ℓ : Loc nD τ sig) → Buf (Elt Ideal) ℓ} {c : Dev nD}

abbrev a0 (m : (ℓ : Loc nD τ sig) → Buf (Elt Ideal) ℓ) (c : Dev nD) : FVec Ideal S8192x1024 .bf16 :=
  m ((c : Thread nD τ).loc main_arg0)

abbrev a1 (m : (ℓ : Loc nD τ sig) → Buf (Elt Ideal) ℓ) (c : Dev nD) : FVec Ideal S5632x1024 .bf16 :=
  m ((c : Thread nD τ).loc main_arg1)

theorem place : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem points (t : Fin cfg0.N) : t.val < 32 := lt_of_lt_of_eq t.isLt N_0

theorem rows_at (t : Fin cfg0.N) (i : Fin 256) (j : Fin 1024) :
    (iblk m c 0 t : FVec Ideal S256x1024 .bf16) (ix2 i j)
      = a0 m c (ix2 ⟨256 * t.val + i.val, by have := points t; omega⟩ j) := by
  blk_ext [iblk, V_main_arg0, place t]

theorem weight_at (t : Fin cfg0.N) (i : Fin 5632) (j : Fin 1024) :
    (iblk m c 1 t : FVec Ideal S5632x1024 .bf16) (ix2 i j) = a1 m c (ix2 i j) := by
  blk_ext [iblk, V_main_arg1, place t]

/-- The product at a row and a column, over the `n` rows there are. -/
def prod {n : ℕ} (x : (⟨2, ![n, 1024]⟩ : Shape).Idx → EReal) (w : FVec Ideal S5632x1024 .bf16) (i : Fin n) (j : Fin 5632) : EReal :=
  ∑ k : Fin 1024, x (ix2 i k) * w (ix2 j k)

theorem product_at (x : FVec Ideal S256x1024 .bf16) (w : FVec Ideal S5632x1024 .bf16) (i : Fin 256) (j : Fin 5632) :
    k0_pay1 (F := Ideal) x w (ix2 i j) = prod x w i j := by
  unfold prod
  pointwise [k0_pay1]

theorem first_at (x : FVec Ideal S256x1024 .bf16) (w : FVec Ideal S5632x1024 .bf16) (i : Fin 256) (j : Fin 5632) :
    k0_pay2 (F := Ideal) x w (ix2 i j) = prod x w i j := by
  rw [← product_at]
  pointwise [k0_pay2]

/-- The swiglu of a gate and a value. -/
def act (g t : EReal) : EReal := g * Ideal.div 1 (1 + Ideal.exp (-g)) * t

theorem second_at (x : FVec Ideal S256x1024 .bf16) (w : FVec Ideal S5632x1024 .bf16) (i : Fin 256) (j : Fin 2816) :
    k0_pay3 (F := Ideal) x w (ix2 i j) = act (prod x w i ⟨j.val, by omega⟩) (prod x w i ⟨2816 + j.val, by omega⟩) := by
  pointwise [k0_pay3]
  rw [product_at, product_at, zero_sub]
  rfl

open Cert.Reference4Ideal.Read in
theorem ref_product_at (x : FVec Ideal S8192x1024 .bf16) (w : FVec Ideal S5632x1024 .bf16) (i : Fin 8192) (j : Fin 5632) :
    val_main_v3 (F := Ideal) x w (ix2 i j) = prod x w i j := by
  unfold prod
  pointwise [val_main_v3, val_main_v2, val_main_v1, val_main_v0]

open Cert.Reference4Ideal.Read in
theorem ref_second_at (x : FVec Ideal S8192x1024 .bf16) (w : FVec Ideal S5632x1024 .bf16) (i : Fin 8192) (j : Fin 2816) :
    val_main_v9 (F := Ideal) x w (ix2 i j) = act (prod x w i ⟨j.val, by omega⟩) (prod x w i ⟨2816 + j.val, by omega⟩) := by
  pointwise [val_main_v9, val_main_v8, val_main_v7, val_main_v5, val_main_v4, val_main_call0_v5, val_main_call0_v4,
    val_main_call0_v3, val_main_call0_v2, val_main_call0_v1, val_main_call0_v0, val_main_call0_cst, val_main_call0_cst_0]
  rw [ref_product_at, ref_product_at]
  rfl

open Cert.Reference4Ideal.Read in
theorem ref_first_at (x : FVec Ideal S8192x1024 .bf16) (w : FVec Ideal S5632x1024 .bf16) (i : Fin 8192) (j : Fin 5632) :
    val_main_v6 (F := Ideal) x w (ix2 i j) = prod x w i j := by
  rw [← ref_product_at]
  pointwise [val_main_v6]

/-- The rows of a point's block are the array's. -/
theorem prod_block (t : Fin cfg0.N) (i : Fin 256) (j : Fin 5632) :
    prod (iblk m c 0 t : FVec Ideal S256x1024 .bf16) (iblk m c 1 t) i j
      = prod (a0 m c) (a1 m c) ⟨256 * t.val + i.val, by have := points t; omega⟩ j :=
  Finset.sum_congr rfl fun k _ => by rw [rows_at, weight_at]

theorem first_out (t : Fin cfg0.N) (i : Fin 256) (j : Fin 5632) :
    k0_pay2 (F := Ideal) (iblk m c 0 t) (iblk m c 1 t) (ix2 i j)
      = Cert.Reference4Ideal.Read.val_main_v6 (F := Ideal) (a0 m c) (a1 m c)
          (ix2 ⟨256 * t.val + i.val, by have := points t; omega⟩ j) := by
  rw [first_at, ref_first_at, prod_block]

theorem second_out (t : Fin cfg0.N) (i : Fin 256) (j : Fin 2816) :
    k0_pay3 (F := Ideal) (iblk m c 0 t) (iblk m c 1 t) (ix2 i j)
      = Cert.Reference4Ideal.Read.val_main_v9 (F := Ideal) (a0 m c) (a1 m c)
          (ix2 ⟨256 * t.val + i.val, by have := points t; omega⟩ j) := by
  rw [second_at, ref_second_at, prod_block, prod_block]

theorem final_first : (dats m 0 c).arrAt 2 cfg0.N
    = Cert.Reference4Ideal.Read.val_main_v6 (F := Ideal) (a0 m c) (a1 m c) := by
  refine (dats m 0 c).arrAt_eq_of_covers 2 _ (by decide +kernel) fun t hf y => ?_
  blk_simp
  rw [after0_2]
  have e : (win0_2.blk t).view.emb y
      = (ix2 ⟨256 * t.val + (y 0).val, by have := points t; have : (y 0).val < 256 := (y 0).isLt; omega⟩ (y 1) :
          S8192x5632.Idx) := by
    blk_ext [place t]
  rw [e]
  frame_out
  exact (congrArg _ (eq_ix2 y)).trans (first_out t (y 0) (y 1))

theorem final_second : (dats m 0 c).arrAt 3 cfg0.N
    = Cert.Reference4Ideal.Read.val_main_v9 (F := Ideal) (a0 m c) (a1 m c) := by
  refine (dats m 0 c).arrAt_eq_of_covers 3 _ (by decide +kernel) fun t hf y => ?_
  blk_simp
  rw [after0_3]
  have e : (win0_3.blk t).view.emb y
      = (ix2 ⟨256 * t.val + (y 0).val, by have := points t; have : (y 0).val < 256 := (y 0).isLt; omega⟩ (y 1) :
          S8192x2816.Idx) := by
    blk_ext [place t]
  rw [e]
  frame_out
  exact (congrArg _ (eq_ix2 y)).trans (second_out t (y 0) (y 1))

/-- The reference terminates at every input with its arguments unchanged and its counters at zero. -/
theorem frame_reference : Cert.quiescent_Reference4Ideal (hReference4Ideal := Cert.Reference4Ideal.Gen.facts) := by
  intro m ρ _
  exact (θ_run Cert.Reference4Ideal.defs _ _).mono (fun r h => ⟨fun c => (h c).2.2, sem_eq_zero_of_no_sems (by decide) r.2⟩)
    (Cert.Reference4Ideal.Value.run (F := Ideal) m ρ)

open Cert.Reference4Ideal.Read in
/-- The call leaves the reference's values. -/
theorem same : Cert.algebraic_Kernel4Ideal_Reference4Ideal (hKernel4Ideal := Cert.Kernel4Ideal.Gen.facts)
    (hReference4Ideal := Cert.Reference4Ideal.Gen.facts) := by
  intro m g m' g' _ he
  refine ⟨fun c => val_main_v6 (F := Ideal) (a0 m c) (a1 m c), fun c => val_main_v9 (F := Ideal) (a0 m c) (a1 m c),
    (θ_run defs _ _).mono (fun r h c => ?_) (Cert.Kernel4Ideal.Value.run_blocks m g),
    (θ_run Cert.Reference4Ideal.defs _ _).mono (fun r h c => ?_) (Cert.Reference4Ideal.Value.run (F := Ideal) m' g')⟩
  · exact ⟨(h c).1.trans final_first, (h c).2.1.trans final_second, (h c).2.2⟩
  · obtain ⟨r0, r1, ha⟩ := h c
    obtain ⟨e0, e1⟩ := he c
    rw [val_main_v6_eq, e0, e1] at r0
    rw [val_main_v9_eq, e0, e1] at r1
    exact ⟨r0, r1, ha⟩

end Cert.FfnFwd

end
-- ==== Proof.FfnOut.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Pipeline.ValueKit

@[expose] public section

/-!
# The product after the swiglu

A point multiplies 2048 rows of the swiglu's value with the whole weight: those rows of the reference's product.
-/

set_option maxRecDepth 16384

noncomputable section

namespace Cert.FfnOut

open Cert.Kernel5Ideal Cert.Kernel5Ideal.Gen
open Idealize.ShloMosaic Idealize.ShloMosaic.TcCoe Idealize.ShloMosaic.Tactic
open Idealize.SL.Sem

variable {m : (ℓ : Loc nD τ sig) → Buf (Elt Ideal) ℓ} {c : Dev nD}

abbrev a0 (m : (ℓ : Loc nD τ sig) → Buf (Elt Ideal) ℓ) (c : Dev nD) : FVec Ideal S8192x2816 .bf16 :=
  m ((c : Thread nD τ).loc main_arg0)

abbrev a1 (m : (ℓ : Loc nD τ sig) → Buf (Elt Ideal) ℓ) (c : Dev nD) : FVec Ideal S2816x1024 .bf16 :=
  m ((c : Thread nD τ).loc main_arg1)

theorem place : ∀ t : Fin cfg0.N, win0_0.index t = ![t.val, 0] ∧ win0_1.index t = ![0, 0] ∧ win0_2.index t = ![t.val, 0] :=
  (by decide +kernel : ∀ t : Fin grid0.N, _)

theorem points (t : Fin cfg0.N) : t.val < 4 := lt_of_lt_of_eq t.isLt N_0

theorem rows_at (t : Fin cfg0.N) (i : Fin 2048) (j : Fin 2816) :
    (iblk m c 0 t : FVec Ideal S2048x2816 .bf16) (ix2 i j)
      = a0 m c (ix2 ⟨2048 * t.val + i.val, by have := points t; omega⟩ j) := by
  blk_ext [iblk, V_main_arg0, place t]

theorem weight_at (t : Fin cfg0.N) (i : Fin 2816) (j : Fin 1024) :
    (iblk m c 1 t : FVec Ideal S2816x1024 .bf16) (ix2 i j) = a1 m c (ix2 i j) := by
  blk_ext [iblk, V_main_arg1, place t]

theorem pay_at (x : FVec Ideal S2048x2816 .bf16) (w : FVec Ideal S2816x1024 .bf16) (i : Fin 2048) (j : Fin 1024) :
    k0_pay1 (F := Ideal) x w (ix2 i j) = ∑ k : Fin 2816, x (ix2 i k) * w (ix2 k j) := by
  pointwise [k0_pay1]

open Cert.Reference5Ideal.Read in
theorem ref_at (x : FVec Ideal S8192x2816 .bf16) (w : FVec Ideal S2816x1024 .bf16) (i : Fin 8192) (j : Fin 1024) :
    val_main_v3 (F := Ideal) x w (ix2 i j) = ∑ k : Fin 2816, x (ix2 i k) * w (ix2 k j) := by
  pointwise [val_main_v3, val_main_v2, val_main_v1, val_main_v0]

theorem out_at (t : Fin cfg0.N) (i : Fin 2048) (j : Fin 1024) :
    k0_pay1 (F := Ideal) (iblk m c 0 t) (iblk m c 1 t) (ix2 i j)
      = Cert.Reference5Ideal.Read.val_main_v3 (F := Ideal) (a0 m c) (a1 m c)
          (ix2 ⟨2048 * t.val + i.val, by have := points t; omega⟩ j) := by
  rw [pay_at, ref_at]
  exact Finset.sum_congr rfl fun k _ => by rw [rows_at, weight_at]

theorem final : (dats m 0 c).arrAt 2 cfg0.N = Cert.Reference5Ideal.Read.val_main_v3 (F := Ideal) (a0 m c) (a1 m c) := by
  refine (dats m 0 c).arrAt_eq_of_covers 2 _ (by decide +kernel) fun t hf y => ?_
  blk_simp
  rw [after0_2]
  have e : (win0_2.blk t).view.emb y
      = (ix2 ⟨2048 * t.val + (y 0).val, by have := points t; have : (y 0).val < 2048 := (y 0).isLt; omega⟩ (y 1) :
          S8192x1024.Idx) := by
    blk_ext [place t]
  rw [e]
  frame_out
  exact (congrArg _ (eq_ix2 y)).trans (out_at t (y 0) (y 1))

/-- The reference terminates at every input with its arguments unchanged and its counters at zero. -/
theorem frame_reference : Cert.quiescent_Reference5Ideal (hReference5Ideal := Cert.Reference5Ideal.Gen.facts) := by
  intro m ρ _
  exact (θ_run Cert.Reference5Ideal.defs _ _).mono (fun r h => ⟨fun c => (h c).2, sem_eq_zero_of_no_sems (by decide) r.2⟩)
    (Cert.Reference5Ideal.Value.run (F := Ideal) m ρ)

open Cert.Reference5Ideal.Read in
/-- The call leaves the reference's value. -/
theorem same : Cert.algebraic_Kernel5Ideal_Reference5Ideal (hKernel5Ideal := Cert.Kernel5Ideal.Gen.facts)
    (hReference5Ideal := Cert.Reference5Ideal.Gen.facts) := by
  intro m g m' g' _ he
  refine ⟨fun c => val_main_v3 (F := Ideal) (a0 m c) (a1 m c),
    (θ_run defs _ _).mono (fun r h c => ?_) (Cert.Kernel5Ideal.Value.run_blocks m g),
    (θ_run Cert.Reference5Ideal.defs _ _).mono (fun r h c => ?_) (Cert.Reference5Ideal.Value.run (F := Ideal) m' g')⟩
  · exact ⟨(h c).1.trans final, (h c).2⟩
  · obtain ⟨r0, ha⟩ := h c
    obtain ⟨e0, e1⟩ := he c
    rw [val_main_v3_eq, e0, e1] at r0
    exact ⟨r0, ha⟩

end Cert.FfnOut

end
-- ==== Proof.ProjIn.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Pipeline.ValueKit

@[expose] public section

/-!
# The projection before the mixers

A point multiplies 1024 rows of the normed input with the whole weight. The third operand only orders the call behind an
exchange: the body doesn't read it.
-/

set_option maxRecDepth 16384

noncomputable section

namespace Cert.ProjIn

open Cert.Kernel6Ideal Cert.Kernel6Ideal.Gen
open Idealize.ShloMosaic Idealize.ShloMosaic.TcCoe Idealize.ShloMosaic.Tactic
open Idealize.SL.Sem

variable {m : (ℓ : Loc nD τ sig) → Buf (Elt Ideal) ℓ} {c : Dev nD}

abbrev a0 (m : (ℓ : Loc nD τ sig) → Buf (Elt Ideal) ℓ) (c : Dev nD) : FVec Ideal S8192x1024 .bf16 :=
  m ((c : Thread nD τ).loc main_arg0)

abbrev a1 (m : (ℓ : Loc nD τ sig) → Buf (Elt Ideal) ℓ) (c : Dev nD) : FVec Ideal S1024x2432 .bf16 :=
  m ((c : Thread nD τ).loc main_arg1)

theorem place : ∀ t : Fin cfg0.N, win0_0.index t = ![t.val, 0] ∧ win0_1.index t = ![0, 0] ∧ win0_2.index t = ![t.val, 0] :=
  (by decide +kernel : ∀ t : Fin grid0.N, _)

theorem points (t : Fin cfg0.N) : t.val < 8 := lt_of_lt_of_eq t.isLt N_0

theorem rows_at (t : Fin cfg0.N) (i : Fin 1024) (j : Fin 1024) :
    (iblk m c 0 t : FVec Ideal S1024x1024 .bf16) (ix2 i j)
      = a0 m c (ix2 ⟨1024 * t.val + i.val, by have := points t; omega⟩ j) := by
  blk_ext [iblk, V_main_arg0, place t]

theorem weight_at (t : Fin cfg0.N) (i : Fin 1024) (j : Fin 2432) :
    (iblk m c 1 t : FVec Ideal S1024x2432 .bf16) (ix2 i j) = a1 m c (ix2 i j) := by
  blk_ext [iblk, V_main_arg1, place t]

theorem pay_at (x : FVec Ideal S1024x1024 .bf16) (w : FVec Ideal S1024x2432 .bf16) (i : Fin 1024) (j : Fin 2432) :
    k0_pay1 (F := Ideal) x w (ix2 i j) = ∑ k : Fin 1024, x (ix2 i k) * w (ix2 k j) := by
  pointwise [k0_pay1]

open Cert.Reference6Ideal.Read in
theorem ref_at (x : FVec Ideal S8192x1024 .bf16) (w : FVec Ideal S1024x2432 .bf16) (i : Fin 8192) (j : Fin 2432) :
    val_main_v2 (F := Ideal) x w (ix2 i j) = ∑ k : Fin 1024, x (ix2 i k) * w (ix2 k j) := by
  pointwise [val_main_v2, val_main_v1, val_main_v0]

theorem out_at (t : Fin cfg0.N) (i : Fin 1024) (j : Fin 2432) :
    k0_pay1 (F := Ideal) (iblk m c 0 t) (iblk m c 1 t) (ix2 i j)
      = Cert.Reference6Ideal.Read.val_main_v2 (F := Ideal) (a0 m c) (a1 m c)
          (ix2 ⟨1024 * t.val + i.val, by have := points t; omega⟩ j) := by
  rw [pay_at, ref_at]
  exact Finset.sum_congr rfl fun k _ => by rw [rows_at, weight_at]

theorem final : (dats m 0 c).arrAt 2 cfg0.N = Cert.Reference6Ideal.Read.val_main_v2 (F := Ideal) (a0 m c) (a1 m c) := by
  refine (dats m 0 c).arrAt_eq_of_covers 2 _ (by decide +kernel) fun t hf y => ?_
  blk_simp
  rw [after0_2]
  have e : (win0_2.blk t).view.emb y
      = (ix2 ⟨1024 * t.val + (y 0).val, by have := points t; have : (y 0).val < 1024 := (y 0).isLt; omega⟩ (y 1) :
          S8192x2432.Idx) := by
    blk_ext [place t]
  rw [e]
  unfold outsAt0
  frame_out
  exact (congrArg _ (eq_ix2 y)).trans (out_at t (y 0) (y 1))

/-- The reference terminates at every input with its arguments unchanged and its counters at zero. -/
theorem frame_reference : Cert.quiescent_Reference6Ideal (hReference6Ideal := Cert.Reference6Ideal.Gen.facts) := by
  intro m ρ _
  exact (θ_run Cert.Reference6Ideal.defs _ _).mono (fun r h => ⟨fun c => (h c).2, sem_eq_zero_of_no_sems (by decide) r.2⟩)
    (Cert.Reference6Ideal.Value.run (F := Ideal) m ρ)

open Cert.Reference6Ideal.Read in
/-- The call leaves the reference's value. -/
theorem same : Cert.algebraic_Kernel6Ideal_Reference6Ideal (hKernel6Ideal := Cert.Kernel6Ideal.Gen.facts)
    (hReference6Ideal := Cert.Reference6Ideal.Gen.facts) := by
  intro m g m' g' _ he
  refine ⟨fun c => val_main_v2 (F := Ideal) (a0 m c) (a1 m c),
    (θ_run defs _ _).mono (fun r h c => ?_) (Cert.Kernel6Ideal.Value.run_blocks m g),
    (θ_run Cert.Reference6Ideal.defs _ _).mono (fun r h c => ?_) (Cert.Reference6Ideal.Value.run (F := Ideal) m' g')⟩
  · exact ⟨(h c).1.trans final, (h c).2⟩
  · obtain ⟨r0, ha⟩ := h c
    obtain ⟨e0, e1, e2⟩ := he c
    rw [val_main_v2_eq, e0, e1] at r0
    exact ⟨r0, ha⟩

end Cert.ProjIn

end
-- ==== Proof.ProjInGrad.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Pipeline.ValueKit

@[expose] public section

/-!
# The gradient of the projection before the mixers, for its input

A point multiplies 2048 rows of the incoming gradient with the whole weight, over the columns of both. The third operand
only orders the call behind an exchange.
-/

set_option maxRecDepth 16384

noncomputable section

namespace Cert.ProjInGrad

open Cert.Kernel7Ideal Cert.Kernel7Ideal.Gen
open Idealize.ShloMosaic Idealize.ShloMosaic.TcCoe Idealize.ShloMosaic.Tactic
open Idealize.SL.Sem

variable {m : (ℓ : Loc nD τ sig) → Buf (Elt Ideal) ℓ} {c : Dev nD}

abbrev a0 (m : (ℓ : Loc nD τ sig) → Buf (Elt Ideal) ℓ) (c : Dev nD) : FVec Ideal S8192x2432 .bf16 :=
  m ((c : Thread nD τ).loc main_arg0)

abbrev a1 (m : (ℓ : Loc nD τ sig) → Buf (Elt Ideal) ℓ) (c : Dev nD) : FVec Ideal S1024x2432 .bf16 :=
  m ((c : Thread nD τ).loc main_arg1)

theorem place : ∀ t : Fin cfg0.N, win0_0.index t = ![t.val, 0] ∧ win0_1.index t = ![0, 0] ∧ win0_2.index t = ![t.val, 0] :=
  (by decide +kernel : ∀ t : Fin grid0.N, _)

theorem points (t : Fin cfg0.N) : t.val < 4 := lt_of_lt_of_eq t.isLt N_0

theorem rows_at (t : Fin cfg0.N) (i : Fin 2048) (j : Fin 2432) :
    (iblk m c 0 t : FVec Ideal S2048x2432 .bf16) (ix2 i j)
      = a0 m c (ix2 ⟨2048 * t.val + i.val, by have := points t; omega⟩ j) := by
  blk_ext [iblk, V_main_arg0, place t]

theorem weight_at (t : Fin cfg0.N) (i : Fin 1024) (j : Fin 2432) :
    (iblk m c 1 t : FVec Ideal S1024x2432 .bf16) (ix2 i j) = a1 m c (ix2 i j) := by
  blk_ext [iblk, V_main_arg1, place t]

theorem pay_at (x : FVec Ideal S2048x2432 .bf16) (w : FVec Ideal S1024x2432 .bf16) (i : Fin 2048) (j : Fin 1024) :
    k0_pay1 (F := Ideal) x w (ix2 i j) = ∑ k : Fin 2432, x (ix2 i k) * w (ix2 j k) := by
  pointwise [k0_pay1]

open Cert.Reference7Ideal.Read in
theorem ref_at (x : FVec Ideal S8192x2432 .bf16) (w : FVec Ideal S1024x2432 .bf16) (i : Fin 8192) (j : Fin 1024) :
    val_main_v5 (F := Ideal) x w (ix2 i j) = ∑ k : Fin 2432, x (ix2 i k) * w (ix2 j k) := by
  pointwise [val_main_v5, val_main_v4, val_main_v3, val_main_v1]

theorem out_at (t : Fin cfg0.N) (i : Fin 2048) (j : Fin 1024) :
    k0_pay1 (F := Ideal) (iblk m c 0 t) (iblk m c 1 t) (ix2 i j)
      = Cert.Reference7Ideal.Read.val_main_v5 (F := Ideal) (a0 m c) (a1 m c)
          (ix2 ⟨2048 * t.val + i.val, by have := points t; omega⟩ j) := by
  rw [pay_at, ref_at]
  exact Finset.sum_congr rfl fun k _ => by rw [rows_at, weight_at]

theorem final : (dats m 0 c).arrAt 2 cfg0.N = Cert.Reference7Ideal.Read.val_main_v5 (F := Ideal) (a0 m c) (a1 m c) := by
  refine (dats m 0 c).arrAt_eq_of_covers 2 _ (by decide +kernel) fun t hf y => ?_
  blk_simp
  rw [after0_2]
  have e : (win0_2.blk t).view.emb y
      = (ix2 ⟨2048 * t.val + (y 0).val, by have := points t; have : (y 0).val < 2048 := (y 0).isLt; omega⟩ (y 1) :
          S8192x1024.Idx) := by
    blk_ext [place t]
  rw [e]
  unfold outsAt0
  frame_out
  exact (congrArg _ (eq_ix2 y)).trans (out_at t (y 0) (y 1))

/-- The reference terminates at every input with its arguments unchanged and its counters at zero. -/
theorem frame_reference : Cert.quiescent_Reference7Ideal (hReference7Ideal := Cert.Reference7Ideal.Gen.facts) := by
  intro m ρ _
  exact (θ_run Cert.Reference7Ideal.defs _ _).mono (fun r h => ⟨fun c => (h c).2, sem_eq_zero_of_no_sems (by decide) r.2⟩)
    (Cert.Reference7Ideal.Value.run (F := Ideal) m ρ)

open Cert.Reference7Ideal.Read in
/-- The call leaves the reference's value. -/
theorem same : Cert.algebraic_Kernel7Ideal_Reference7Ideal (hKernel7Ideal := Cert.Kernel7Ideal.Gen.facts)
    (hReference7Ideal := Cert.Reference7Ideal.Gen.facts) := by
  intro m g m' g' _ he
  refine ⟨fun c => val_main_v5 (F := Ideal) (a0 m c) (a1 m c),
    (θ_run defs _ _).mono (fun r h c => ?_) (Cert.Kernel7Ideal.Value.run_blocks m g),
    (θ_run Cert.Reference7Ideal.defs _ _).mono (fun r h c => ?_) (Cert.Reference7Ideal.Value.run (F := Ideal) m' g')⟩
  · exact ⟨(h c).1.trans final, (h c).2⟩
  · obtain ⟨r0, ha⟩ := h c
    obtain ⟨e0, e1, e2⟩ := he c
    rw [val_main_v5_eq, e0, e1] at r0
    exact ⟨r0, ha⟩

end Cert.ProjInGrad

end
-- ==== Proof.ProjOut.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.Pipeline.ValueKit

@[expose] public section

/-!
# The projection after the mixers

A point multiplies 4096 rows of the mixers' values with the whole weight: those rows of the reference's product.
-/

set_option maxRecDepth 16384

noncomputable section

namespace Cert.ProjOut

open Cert.Kernel8Ideal Cert.Kernel8Ideal.Gen
open Idealize.ShloMosaic Idealize.ShloMosaic.TcCoe Idealize.ShloMosaic.Tactic
open Idealize.SL.Sem

variable {m : (ℓ : Loc nD τ sig) → Buf (Elt Ideal) ℓ} {c : Dev nD}

abbrev a0 (m : (ℓ : Loc nD τ sig) → Buf (Elt Ideal) ℓ) (c : Dev nD) : FVec Ideal S8192x1024 .bf16 :=
  m ((c : Thread nD τ).loc main_arg0)

abbrev a1 (m : (ℓ : Loc nD τ sig) → Buf (Elt Ideal) ℓ) (c : Dev nD) : FVec Ideal S1024x1024 .bf16 :=
  m ((c : Thread nD τ).loc main_arg1)

theorem place : ∀ t : Fin cfg0.N, win0_0.index t = ![t.val, 0] ∧ win0_1.index t = ![0, 0] ∧ win0_2.index t = ![t.val, 0] :=
  (by decide +kernel : ∀ t : Fin grid0.N, _)

theorem points (t : Fin cfg0.N) : t.val < 2 := lt_of_lt_of_eq t.isLt N_0

theorem rows_at (t : Fin cfg0.N) (i : Fin 4096) (j : Fin 1024) :
    (iblk m c 0 t : FVec Ideal S4096x1024 .bf16) (ix2 i j)
      = a0 m c (ix2 ⟨4096 * t.val + i.val, by have := points t; omega⟩ j) := by
  blk_ext [iblk, V_main_arg0, place t]

theorem weight_at (t : Fin cfg0.N) (i : Fin 1024) (j : Fin 1024) :
    (iblk m c 1 t : FVec Ideal S1024x1024 .bf16) (ix2 i j) = a1 m c (ix2 i j) := by
  blk_ext [iblk, V_main_arg1, place t]

theorem pay_at (x : FVec Ideal S4096x1024 .bf16) (w : FVec Ideal S1024x1024 .bf16) (i : Fin 4096) (j : Fin 1024) :
    k0_pay1 (F := Ideal) x w (ix2 i j) = ∑ k : Fin 1024, x (ix2 i k) * w (ix2 k j) := by
  pointwise [k0_pay1]

open Cert.Reference8Ideal.Read in
theorem ref_at (x : FVec Ideal S8192x1024 .bf16) (w : FVec Ideal S1024x1024 .bf16) (i : Fin 8192) (j : Fin 1024) :
    val_main_v3 (F := Ideal) x w (ix2 i j) = ∑ k : Fin 1024, x (ix2 i k) * w (ix2 k j) := by
  pointwise [val_main_v3, val_main_v2, val_main_v1, val_main_v0]

theorem out_at (t : Fin cfg0.N) (i : Fin 4096) (j : Fin 1024) :
    k0_pay1 (F := Ideal) (iblk m c 0 t) (iblk m c 1 t) (ix2 i j)
      = Cert.Reference8Ideal.Read.val_main_v3 (F := Ideal) (a0 m c) (a1 m c)
          (ix2 ⟨4096 * t.val + i.val, by have := points t; omega⟩ j) := by
  rw [pay_at, ref_at]
  exact Finset.sum_congr rfl fun k _ => by rw [rows_at, weight_at]

theorem final : (dats m 0 c).arrAt 2 cfg0.N = Cert.Reference8Ideal.Read.val_main_v3 (F := Ideal) (a0 m c) (a1 m c) := by
  refine (dats m 0 c).arrAt_eq_of_covers 2 _ (by decide +kernel) fun t hf y => ?_
  blk_simp
  rw [after0_2]
  have e : (win0_2.blk t).view.emb y
      = (ix2 ⟨4096 * t.val + (y 0).val, by have := points t; have : (y 0).val < 4096 := (y 0).isLt; omega⟩ (y 1) :
          S8192x1024.Idx) := by
    blk_ext [place t]
  rw [e]
  frame_out
  exact (congrArg _ (eq_ix2 y)).trans (out_at t (y 0) (y 1))

/-- The reference terminates at every input with its arguments unchanged and its counters at zero. -/
theorem frame_reference : Cert.quiescent_Reference8Ideal (hReference8Ideal := Cert.Reference8Ideal.Gen.facts) := by
  intro m ρ _
  exact (θ_run Cert.Reference8Ideal.defs _ _).mono (fun r h => ⟨fun c => (h c).2, sem_eq_zero_of_no_sems (by decide) r.2⟩)
    (Cert.Reference8Ideal.Value.run (F := Ideal) m ρ)

open Cert.Reference8Ideal.Read in
/-- The call leaves the reference's value. -/
theorem same : Cert.algebraic_Kernel8Ideal_Reference8Ideal (hKernel8Ideal := Cert.Kernel8Ideal.Gen.facts)
    (hReference8Ideal := Cert.Reference8Ideal.Gen.facts) := by
  intro m g m' g' _ he
  refine ⟨fun c => val_main_v3 (F := Ideal) (a0 m c) (a1 m c),
    (θ_run defs _ _).mono (fun r h c => ?_) (Cert.Kernel8Ideal.Value.run_blocks m g),
    (θ_run Cert.Reference8Ideal.defs _ _).mono (fun r h c => ?_) (Cert.Reference8Ideal.Value.run (F := Ideal) m' g')⟩
  · exact ⟨(h c).1.trans final, (h c).2⟩
  · obtain ⟨r0, ha⟩ := h c
    obtain ⟨e0, e1⟩ := he c
    rw [val_main_v3_eq, e0, e1] at r0
    exact ⟨r0, ha⟩

end Cert.ProjOut

end
-- ==== Proof.ProjOutGrad.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Pipeline.ValueKit

@[expose] public section

/-!
# The gradient of the projection after the mixers, for its input

A point multiplies 4096 rows of the incoming gradient with the whole weight, over the columns of both.
-/

set_option maxRecDepth 16384

noncomputable section

namespace Cert.ProjOutGrad

open Cert.Kernel9Ideal Cert.Kernel9Ideal.Gen
open Idealize.ShloMosaic Idealize.ShloMosaic.TcCoe Idealize.ShloMosaic.Tactic
open Idealize.SL.Sem

variable {m : (ℓ : Loc nD τ sig) → Buf (Elt Ideal) ℓ} {c : Dev nD}

abbrev a0 (m : (ℓ : Loc nD τ sig) → Buf (Elt Ideal) ℓ) (c : Dev nD) : FVec Ideal S8192x1024 .bf16 :=
  m ((c : Thread nD τ).loc main_arg0)

abbrev a1 (m : (ℓ : Loc nD τ sig) → Buf (Elt Ideal) ℓ) (c : Dev nD) : FVec Ideal S1024x1024 .bf16 :=
  m ((c : Thread nD τ).loc main_arg1)

theorem place : ∀ t : Fin cfg0.N, win0_0.index t = ![t.val, 0] ∧ win0_1.index t = ![0, 0] ∧ win0_2.index t = ![t.val, 0] :=
  (by decide +kernel : ∀ t : Fin grid0.N, _)

theorem points (t : Fin cfg0.N) : t.val < 2 := lt_of_lt_of_eq t.isLt N_0

theorem rows_at (t : Fin cfg0.N) (i : Fin 4096) (j : Fin 1024) :
    (iblk m c 0 t : FVec Ideal S4096x1024 .bf16) (ix2 i j)
      = a0 m c (ix2 ⟨4096 * t.val + i.val, by have := points t; omega⟩ j) := by
  blk_ext [iblk, V_main_arg0, place t]

theorem weight_at (t : Fin cfg0.N) (i : Fin 1024) (j : Fin 1024) :
    (iblk m c 1 t : FVec Ideal S1024x1024 .bf16) (ix2 i j) = a1 m c (ix2 i j) := by
  blk_ext [iblk, V_main_arg1, place t]

theorem pay_at (x : FVec Ideal S4096x1024 .bf16) (w : FVec Ideal S1024x1024 .bf16) (i : Fin 4096) (j : Fin 1024) :
    k0_pay1 (F := Ideal) x w (ix2 i j) = ∑ k : Fin 1024, x (ix2 i k) * w (ix2 j k) := by
  pointwise [k0_pay1]

open Cert.Reference9Ideal.Read in
theorem ref_at (x : FVec Ideal S8192x1024 .bf16) (w : FVec Ideal S1024x1024 .bf16) (i : Fin 8192) (j : Fin 1024) :
    val_main_v5 (F := Ideal) x w (ix2 i j) = ∑ k : Fin 1024, x (ix2 i k) * w (ix2 j k) := by
  pointwise [val_main_v5, val_main_v4, val_main_v3, val_main_v1]

theorem out_at (t : Fin cfg0.N) (i : Fin 4096) (j : Fin 1024) :
    k0_pay1 (F := Ideal) (iblk m c 0 t) (iblk m c 1 t) (ix2 i j)
      = Cert.Reference9Ideal.Read.val_main_v5 (F := Ideal) (a0 m c) (a1 m c)
          (ix2 ⟨4096 * t.val + i.val, by have := points t; omega⟩ j) := by
  rw [pay_at, ref_at]
  exact Finset.sum_congr rfl fun k _ => by rw [rows_at, weight_at]

theorem final : (dats m 0 c).arrAt 2 cfg0.N = Cert.Reference9Ideal.Read.val_main_v5 (F := Ideal) (a0 m c) (a1 m c) := by
  refine (dats m 0 c).arrAt_eq_of_covers 2 _ (by decide +kernel) fun t hf y => ?_
  blk_simp
  rw [after0_2]
  have e : (win0_2.blk t).view.emb y
      = (ix2 ⟨4096 * t.val + (y 0).val, by have := points t; have : (y 0).val < 4096 := (y 0).isLt; omega⟩ (y 1) :
          S8192x1024.Idx) := by
    blk_ext [place t]
  rw [e]
  frame_out
  exact (congrArg _ (eq_ix2 y)).trans (out_at t (y 0) (y 1))

/-- The reference terminates at every input with its arguments unchanged and its counters at zero. -/
theorem frame_reference : Cert.quiescent_Reference9Ideal (hReference9Ideal := Cert.Reference9Ideal.Gen.facts) := by
  intro m ρ _
  exact (θ_run Cert.Reference9Ideal.defs _ _).mono (fun r h => ⟨fun c => (h c).2, sem_eq_zero_of_no_sems (by decide) r.2⟩)
    (Cert.Reference9Ideal.Value.run (F := Ideal) m ρ)

open Cert.Reference9Ideal.Read in
/-- The call leaves the reference's value. -/
theorem same : Cert.algebraic_Kernel9Ideal_Reference9Ideal (hKernel9Ideal := Cert.Kernel9Ideal.Gen.facts)
    (hReference9Ideal := Cert.Reference9Ideal.Gen.facts) := by
  intro m g m' g' _ he
  refine ⟨fun c => val_main_v5 (F := Ideal) (a0 m c) (a1 m c),
    (θ_run defs _ _).mono (fun r h c => ?_) (Cert.Kernel9Ideal.Value.run_blocks m g),
    (θ_run Cert.Reference9Ideal.defs _ _).mono (fun r h c => ?_) (Cert.Reference9Ideal.Value.run (F := Ideal) m' g')⟩
  · exact ⟨(h c).1.trans final, (h c).2⟩
  · obtain ⟨r0, ha⟩ := h c
    obtain ⟨e0, e1⟩ := he c
    rw [val_main_v5_eq, e0, e1] at r0
    exact ⟨r0, ha⟩

end Cert.ProjOutGrad

end
-- ==== Proof.ProjInWeights.lean ====
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.Pipeline.ValueKit

@[expose] public section

/-!
# The gradient of the weight of the projection before the mixers

Four points in a row share a block of 512 rows of the weight's gradient. The first starts it with the context's gradient and
a product over 2048 rows, the others add a product over 2048 rows more. The reference's product is over all 8192 rows.
-/

set_option maxRecDepth 16384

noncomputable section

namespace Cert.ProjInWeights

open Cert.Kernel10Ideal Cert.Kernel10Ideal.Gen
open Idealize.ShloMosaic Idealize.ShloMosaic.TcCoe Idealize.ShloMosaic.Tactic
open Idealize.SL.Sem

variable {m : (ℓ : Loc nD τ sig) → Buf (Elt Ideal) ℓ} {c : Dev nD}

abbrev a0 (m : (ℓ : Loc nD τ sig) → Buf (Elt Ideal) ℓ) (c : Dev nD) : FVec Ideal S8192x1024 .bf16 :=
  m ((c : Thread nD τ).loc main_arg0)

abbrev a1 (m : (ℓ : Loc nD τ sig) → Buf (Elt Ideal) ℓ) (c : Dev nD) : FVec Ideal S8192x2432 .bf16 :=
  m ((c : Thread nD τ).loc main_arg1)

abbrev a2 (m : (ℓ : Loc nD τ sig) → Buf (Elt Ideal) ℓ) (c : Dev nD) : FVec Ideal S1024x2432 .f32 :=
  m ((c : Thread nD τ).loc main_arg2)

theorem place : ∀ t : Fin cfg0.N, win0_0.index t = ![t.val % 4, t.val / 4] ∧ win0_1.index t = ![t.val % 4, 0]
    ∧ win0_2.index t = ![t.val / 4, 0] ∧ win0_3.index t = ![t.val / 4, 0] :=
  (by decide +kernel : ∀ t : Fin grid0.N, _)

theorem points (t : Fin cfg0.N) : t.val < 8 := lt_of_lt_of_eq t.isLt N_0

/-- The rows of the part numbered `q` of the sum. -/
def row (q : ℕ) (k : Fin 2048) : Fin 8192 := ⟨(2048 * q + k.val) % 8192, Nat.mod_lt _ (by decide)⟩

/-- The rows of the weight in the block of a point. -/
def col (t : Fin cfg0.N) (i : Fin 512) : Fin 1024 := ⟨512 * (t.val / 4) + i.val, by have := points t; omega⟩

theorem input_at (t : Fin cfg0.N) (k : Fin 2048) (i : Fin 512) :
    (iblk m c 0 t : FVec Ideal S2048x512 .bf16) (ix2 k i) = a0 m c (ix2 (row (t.val % 4) k) (col t i)) := by
  have e : row (t.val % 4) k = ⟨2048 * (t.val % 4) + k.val, by omega⟩ := Fin.ext (Nat.mod_eq_of_lt (by omega))
  rw [e, col]
  blk_ext [iblk, V_main_arg0, place t]

theorem grad_at (t : Fin cfg0.N) (k : Fin 2048) (j : Fin 2432) :
    (iblk m c 1 t : FVec Ideal S2048x2432 .bf16) (ix2 k j) = a1 m c (ix2 (row (t.val % 4) k) j) := by
  have e : row (t.val % 4) k = ⟨2048 * (t.val % 4) + k.val, by omega⟩ := Fin.ext (Nat.mod_eq_of_lt (by omega))
  rw [e]
  blk_ext [iblk, V_main_arg1, place t]

theorem start_at (t : Fin cfg0.N) (i : Fin 512) (j : Fin 2432) :
    (iblk m c 2 t : FVec Ideal S512x2432 .f32) (ix2 i j) = a2 m c (ix2 (col t i) j) := by
  rw [col]
  blk_ext [iblk, V_main_arg2, place t]

theorem first_at (x : FVec Ideal S2048x512 .bf16) (w : FVec Ideal S2048x2432 .bf16) (v : FVec Ideal S512x2432 .f32)
    (i : Fin 512) (j : Fin 2432) :
    k0_pay2 (F := Ideal) x w v (ix2 i j) = (∑ k : Fin 2048, x (ix2 k i) * w (ix2 k j)) + v (ix2 i j) := by
  pointwise [k0_pay2, k0_pay1]

theorem next_at (x : FVec Ideal S2048x512 .bf16) (w : FVec Ideal S2048x2432 .bf16) (v : FVec Ideal S512x2432 .f32)
    (i : Fin 512) (j : Fin 2432) :
    k0_pay3 (F := Ideal) x w v (ix2 i j) = v (ix2 i j) + ∑ k : Fin 2048, x (ix2 k i) * w (ix2 k j) := by
  pointwise [k0_pay3, k0_pay1]

open Cert.Reference10Ideal.Read in
theorem ref_at (x : FVec Ideal S8192x1024 .bf16) (w : FVec Ideal S8192x2432 .bf16) (v : FVec Ideal S1024x2432 .f32)
    (i : Fin 1024) (j : Fin 2432) :
    val_main_v6 (F := Ideal) x w v (ix2 i j) = (∑ k : Fin 8192, w (ix2 k j) * x (ix2 k i)) + v (ix2 i j) := by
  pointwise [val_main_v6, val_main_v5, val_main_v4, val_main_v3, val_main_v1]

/-- The part numbered `q` of the sum over all rows. -/
def part (m : (ℓ : Loc nD τ sig) → Buf (Elt Ideal) ℓ) (c : Dev nD) (i : Fin 1024) (j : Fin 2432) (q : ℕ) : EReal :=
  ∑ k : Fin 2048, (a0 m c (ix2 (row q k) i) : EReal) * (a1 m c (ix2 (row q k) j) : EReal)

theorem part_at (t : Fin cfg0.N) (i : Fin 512) (j : Fin 2432) (x : FVec Ideal S2048x512 .bf16) (w : FVec Ideal S2048x2432 .bf16)
    (hx : x = iblk m c 0 t) (hw : w = iblk m c 1 t) :
    (∑ k : Fin 2048, x (ix2 k i) * w (ix2 k j)) = part m c (col t i) j (t.val % 4) :=
  Finset.sum_congr rfl fun k _ => by rw [hx, hw, input_at, grad_at]

/-- What the block holds after a point: the parts up to the point's. -/
theorem held_at (n : ℕ) : ∀ (t : Fin cfg0.N), t.val % 4 = n → ∀ (i : Fin 512) (j : Fin 2432),
    (outsAt0 m c t.val t.isLt (ix2 i j) : EReal)
      = (∑ q ∈ Finset.range (n + 1), part m c (col t i) j q) + a2 m c (ix2 (col t i) j) := by
  induction n with
  | zero =>
    intro t ht i j
    rw [outsAt0_A m c t ht (by omega)]
    frame_out
    rw [first_at, part_at t i j _ _ rfl rfl, start_at, ht]
    simp
  | succ n ih =>
    intro t ht i j
    have hp := points t
    have hprev := ih ⟨t.val - 1, by have := t.isLt; omega⟩ (show (t.val - 1) % 4 = n by omega) i j
    have hcol : col ⟨t.val - 1, by have := t.isLt; omega⟩ i = col t i :=
      Fin.ext (show 512 * ((t.val - 1) / 4) + i.val = 512 * (t.val / 4) + i.val by omega)
    rw [outsAt0_B m c t (by omega) (by omega)]
    frame_out
    rw [next_at, part_at t i j _ _ rfl rfl, ht]
    rw [hcol] at hprev
    refine (congrArg (· + part m c (col t i) j (n + 1)) hprev).trans ?_
    rw [Finset.sum_range_succ _ (n + 1)]
    exact add_right_comm _ _ _

theorem parts (i : Fin 1024) (j : Fin 2432) :
    (∑ q ∈ Finset.range 4, part m c i j q)
      = ∑ k : Fin 8192, (a1 m c (ix2 k j) : EReal) * (a0 m c (ix2 k i) : EReal) := by
  rw [Finset.sum_range (n := 4)]
  unfold part
  rw [← Fintype.sum_prod_type', ← (finProdFinEquiv (m := 4) (n := 2048)).sum_comp]
  refine Finset.sum_congr rfl fun x _ => ?_
  have e : row x.1.val x.2 = (finProdFinEquiv x : Fin 8192) := by
    refine Fin.ext ?_
    show (2048 * x.1.val + x.2.val) % 8192 = x.2.val + 2048 * x.1.val
    have := x.1.isLt
    have := x.2.isLt
    omega
  rw [e]
  exact mul_comm _ _

theorem out_at (t : Fin cfg0.N) (ht : t.val % 4 = 3) (i : Fin 512) (j : Fin 2432) :
    outsAt0 m c t.val t.isLt (ix2 i j)
      = Cert.Reference10Ideal.Read.val_main_v6 (F := Ideal) (a0 m c) (a1 m c) (a2 m c) (ix2 (col t i) j) := by
  rw [ref_at, ← parts]
  exact held_at 3 t ht i j

theorem final : (dats m 0 c).arrAt 3 cfg0.N
    = Cert.Reference10Ideal.Read.val_main_v6 (F := Ideal) (a0 m c) (a1 m c) (a2 m c) := by
  refine (dats m 0 c).arrAt_eq_of_covers 3 _ (by decide +kernel) fun t hf y => ?_
  have ht := (flush0_3 t).mp hf
  blk_simp
  rw [after0_3]
  have e : (win0_3.blk t).view.emb y
      = (ix2 ⟨512 * (t.val / 4) + (y 0).val, by have := points t; have : (y 0).val < 512 := (y 0).isLt; omega⟩ (y 1) :
          S1024x2432.Idx) := by
    blk_ext [place t]
  rw [e]
  exact (congrArg _ (eq_ix2 y)).trans (out_at t ht (y 0) (y 1))

/-- The reference terminates at every input with its arguments unchanged and its counters at zero. -/
theorem frame_reference : Cert.quiescent_Reference10Ideal (hReference10Ideal := Cert.Reference10Ideal.Gen.facts) := by
  intro m ρ _
  exact (θ_run Cert.Reference10Ideal.defs _ _).mono (fun r h => ⟨fun c => (h c).2, sem_eq_zero_of_no_sems (by decide) r.2⟩)
    (Cert.Reference10Ideal.Value.run (F := Ideal) m ρ)

open Cert.Reference10Ideal.Read in
/-- The call leaves the reference's value. -/
theorem same : Cert.algebraic_Kernel10Ideal_Reference10Ideal (hKernel10Ideal := Cert.Kernel10Ideal.Gen.facts)
    (hReference10Ideal := Cert.Reference10Ideal.Gen.facts) := by
  intro m g m' g' _ he
  refine ⟨fun c => val_main_v6 (F := Ideal) (a0 m c) (a1 m c) (a2 m c),
    (θ_run defs _ _).mono (fun r h c => ?_) (Cert.Kernel10Ideal.Value.run_blocks m g),
    (θ_run Cert.Reference10Ideal.defs _ _).mono (fun r h c => ?_) (Cert.Reference10Ideal.Value.run (F := Ideal) m' g')⟩
  · exact ⟨(h c).1.trans final, (h c).2⟩
  · obtain ⟨r0, ha⟩ := h c
    obtain ⟨e0, e1, e2⟩ := he c
    rw [val_main_v6_eq, e0, e1, e2] at r0
    exact ⟨r0, ha⟩

end Cert.ProjInWeights

end
-- ==== Proof.ProjOutWeights.lean ====
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pointwise
public import Idealize.ShloMosaic.Lib.Pipeline.ValueKit

@[expose] public section

/-!
# The gradient of the weight of the projection after the mixers

Two points share one block, the weight's gradient. The first starts it with a product over 4096 rows, the other adds a product
over 4096 rows more. The block goes into the array of all the late gradients, of which it leaves everything else as it was.
The reference's product is over all 8192 rows.
-/

set_option maxRecDepth 16384

noncomputable section

namespace Cert.ProjOutWeights

open Cert.Kernel11Ideal Cert.Kernel11Ideal.Gen
open Idealize.ShloMosaic Idealize.ShloMosaic.TcCoe Idealize.ShloMosaic.Tactic
open Idealize.SL.Sem

variable {m : (ℓ : Loc nD τ sig) → Buf (Elt Ideal) ℓ} {c : Dev nD}

abbrev a0 (m : (ℓ : Loc nD τ sig) → Buf (Elt Ideal) ℓ) (c : Dev nD) : FVec Ideal S8192x1024 .bf16 :=
  m ((c : Thread nD τ).loc main_arg0)

abbrev a1 (m : (ℓ : Loc nD τ sig) → Buf (Elt Ideal) ℓ) (c : Dev nD) : FVec Ideal S8192x1024 .bf16 :=
  m ((c : Thread nD τ).loc main_arg1)

abbrev a2 (m : (ℓ : Loc nD τ sig) → Buf (Elt Ideal) ℓ) (c : Dev nD) : FVec Ideal S4x2560x1024 .f32 :=
  m ((c : Thread nD τ).loc main_arg2)

theorem place : ∀ t : Fin cfg0.N, win0_0.index t = ![t.val, 0] ∧ win0_1.index t = ![t.val, 0]
    ∧ win0_2.index t = ![0, 9, 0] :=
  (by decide +kernel : ∀ t : Fin grid0.N, _)

theorem points (t : Fin cfg0.N) : t.val < 2 := lt_of_lt_of_eq t.isLt N_0

/-- The rows of the part numbered `q` of the sum. -/
def row (q : ℕ) (k : Fin 4096) : Fin 8192 := ⟨(4096 * q + k.val) % 8192, Nat.mod_lt _ (by decide)⟩

/-- The row of the weight that is row `r` of quarter `q`. -/
def wrow (q : Fin 4) (r : Fin 256) : Fin 1024 := ⟨256 * q.val + r.val, by omega⟩

theorem input_at (t : Fin cfg0.N) (k : Fin 4096) (i : Fin 1024) :
    (iblk m c 0 t : FVec Ideal S4096x1024 .bf16) (ix2 k i) = a0 m c (ix2 (row t.val k) i) := by
  have := points t
  have e : row t.val k = ⟨4096 * t.val + k.val, by omega⟩ := Fin.ext (Nat.mod_eq_of_lt (by omega))
  rw [e]
  blk_ext [iblk, V_main_arg0, place t]

theorem grad_at (t : Fin cfg0.N) (k : Fin 4096) (j : Fin 1024) :
    (iblk m c 1 t : FVec Ideal S4096x1024 .bf16) (ix2 k j) = a1 m c (ix2 (row t.val k) j) := by
  have := points t
  have e : row t.val k = ⟨4096 * t.val + k.val, by omega⟩ := Fin.ext (Nat.mod_eq_of_lt (by omega))
  rw [e]
  blk_ext [iblk, V_main_arg1, place t]

theorem first_at (x w : FVec Ideal S4096x1024 .bf16) (q : Fin 4) (r : Fin 256) (j : Fin 1024) :
    k0_pay1 (F := Ideal) x w (ix3 q r j) = ∑ k : Fin 4096, x (ix2 k (wrow q r)) * w (ix2 k j) := by
  unfold wrow
  pointwise [k0_pay1]
  exact Finset.sum_congr rfl fun k _ => by congr 1; blk_ext []

theorem next_at (x w : FVec Ideal S4096x1024 .bf16) (v : FVec Ideal S4x256x1024 .f32) (q : Fin 4) (r : Fin 256) (j : Fin 1024) :
    k0_pay2 (F := Ideal) x w v (ix3 q r j) = v (ix3 q r j) + k0_pay1 (F := Ideal) x w (ix3 q r j) := by
  pointwise [k0_pay2]

open Cert.Reference11Ideal.Read in
/-- The reference's array in the rows of this gradient. -/
theorem ref_inside (x w : FVec Ideal S8192x1024 .bf16) (v : FVec Ideal S4x2560x1024 .f32)
    (q : Fin 4) (r : Fin 256) (j : Fin 1024) :
    val_main_v8 (F := Ideal) x w v (ix3 q ⟨2304 + r.val, by omega⟩ j)
      = ∑ k : Fin 8192, x (ix2 k (wrow q r)) * w (ix2 k j) := by
  unfold wrow
  pointwise [val_main_v8, val_main_v7, val_main_v6, val_main_v5, val_main_v4, val_main_v3, val_main_v1]
  exact Finset.sum_congr rfl fun k _ => by rw [mul_comm]; congr 1; blk_ext []

open Cert.Reference11Ideal.Read in
/-- The reference's array outside them. -/
theorem ref_outside (x w : FVec Ideal S8192x1024 .bf16) (v : FVec Ideal S4x2560x1024 .f32)
    (q : Fin 4) (i : Fin 2560) (j : Fin 1024) (h : ¬2304 ≤ i.val) :
    val_main_v8 (F := Ideal) x w v (ix3 q i j) = v (ix3 q i j) := by
  pointwise [val_main_v8, val_main_v7, val_main_v6, val_main_v5, val_main_v4, val_main_v3, val_main_v1]
  split_ifs <;> first
    | (exfalso; omega)
    | rfl
    | blk_ext []

/-- The part numbered `q` of the sum over all rows. -/
def part (m : (ℓ : Loc nD τ sig) → Buf (Elt Ideal) ℓ) (c : Dev nD) (i : Fin 1024) (j : Fin 1024) (q : ℕ) : EReal :=
  ∑ k : Fin 4096, (a0 m c (ix2 (row q k) i) : EReal) * (a1 m c (ix2 (row q k) j) : EReal)

theorem part_at (t : Fin cfg0.N) (i j : Fin 1024) (x w : FVec Ideal S4096x1024 .bf16)
    (hx : x = iblk m c 0 t) (hw : w = iblk m c 1 t) :
    (∑ k : Fin 4096, x (ix2 k i) * w (ix2 k j)) = part m c i j t.val :=
  Finset.sum_congr rfl fun k _ => by rw [hx, hw, input_at, grad_at]

/-- What the block holds after a point: the parts up to the point's. -/
theorem held_at (n : ℕ) : ∀ (t : Fin cfg0.N), t.val = n → ∀ (q : Fin 4) (r : Fin 256) (j : Fin 1024),
    (outsAt0 m c t.val t.isLt (ix3 q r j) : EReal) = ∑ p ∈ Finset.range (n + 1), part m c (wrow q r) j p := by
  induction n with
  | zero =>
    intro t ht q r j
    rw [outsAt0_A m c t (by omega) (by omega)]
    frame_out
    rw [first_at, part_at t _ j _ _ rfl rfl, ht]
    simp
  | succ n ih =>
    intro t ht q r j
    have hp := points t
    have hprev := ih ⟨t.val - 1, by have := t.isLt; omega⟩ (show t.val - 1 = n by omega) q r j
    rw [outsAt0_B m c t (by omega) (by omega)]
    frame_out
    rw [next_at, first_at, part_at t _ j _ _ rfl rfl, Finset.sum_range_succ _ (n + 1)]
    exact (congrArg (· + part m c (wrow q r) j t.val) hprev).trans (by rw [ht])

theorem parts (i j : Fin 1024) :
    (∑ q ∈ Finset.range 2, part m c i j q)
      = ∑ k : Fin 8192, (a0 m c (ix2 k i) : EReal) * (a1 m c (ix2 k j) : EReal) := by
  rw [Finset.sum_range (n := 2)]
  unfold part
  rw [← Fintype.sum_prod_type', ← (finProdFinEquiv (m := 2) (n := 4096)).sum_comp]
  refine Finset.sum_congr rfl fun x _ => ?_
  have e : row x.1.val x.2 = (finProdFinEquiv x : Fin 8192) := by
    refine Fin.ext ?_
    show (4096 * x.1.val + x.2.val) % 8192 = x.2.val + 4096 * x.1.val
    have := x.1.isLt
    have := x.2.isLt
    omega
  rw [e]

/-- What the block holds when it is written out. -/
theorem out_at (t : Fin cfg0.N) (ht : t.val % 2 = 1) (q : Fin 4) (r : Fin 256) (j : Fin 1024) :
    outsAt0 m c t.val t.isLt (ix3 q r j)
      = Cert.Reference11Ideal.Read.val_main_v8 (F := Ideal) (a0 m c) (a1 m c) (a2 m c)
          (ix3 q ⟨2304 + r.val, by omega⟩ j) := by
  rw [ref_inside, ← parts]
  exact held_at 1 t (by have := points t; omega) q r j

/-- The array the result starts from is the third argument. -/
theorem entry_at : V m c main_v0 = a2 m c := by
  unfold V
  after_results
  rfl

/-- Where a point's block lies in the array, on each axis. -/
theorem spot (t : Fin cfg0.N) (y : ((cfg0.win 2).xblock (cfg0.grid.coords t)).Idx) (a : Fin 3) :
    (((cfg0.win 2).blk t).view.emb y a : ℕ) = win0_2.index t a * win0_2.size a + (y a : ℕ) :=
  Pipeline.Window.rect_emb_val (cfg0.win 2) t y a

theorem sizes : win0_2.size = (![4, 256, 1024] : Fin 3 → ℕ) := rfl

theorem emb_at (t : Fin cfg0.N) (y : ((cfg0.win 2).xblock (cfg0.grid.coords t)).Idx) (z : S4x256x1024.Idx)
    (hz : z = (cfg0.win 2).xinj (cfg0.grid.coords t) y) :
    ((cfg0.win 2).blk t).view.emb y
      = (ix3 (z 0) ⟨2304 + (z 1).val, by have : (z 1).val < 256 := (z 1).isLt; omega⟩ (z 2) : S4x2560x1024.Idx) := by
  have hv : ∀ a : Fin 3, (z a : ℕ) = (y a : ℕ) := fun a => by rw [hz]
  refine funext fun a => Fin.ext ((spot t y a).trans ?_)
  rw [← hv a, sizes, (place t).2.2]
  fin_cases a
  · show 0 * 4 + (z 0).val = (z 0).val
    omega
  · show 9 * 256 + (z 1).val = 2304 + (z 1).val
    omega
  · show 0 * 1024 + (z 2).val = (z 2).val
    omega

theorem final : (dats m 0 c).arrAt 2 cfg0.N
    = Cert.Reference11Ideal.Read.val_main_v8 (F := Ideal) (a0 m c) (a1 m c) (a2 m c) := by
  refine (dats m 0 c).arrAt_eq_of_coversWhere_of_agree 2 _ (fun β => β (1 : Fin 3) = 9) (by decide +kernel)
    (fun t hf y => ?_) (fun x hx => ?_)
  · have ht := (flush0_2 t).mp hf
    rw [after0_2, emb_at t y _ rfl]
    exact (congrArg _ (eq_ix3 _)).trans (out_at t ht _ _ _)
  · blk_simp [Pipeline.Window.cell_apply] at hx
    show V m c main_v0 x = _
    rw [entry_at, eq_ix3 x]
    refine (ref_outside _ _ _ _ _ _ fun h => hx ?_).symm
    have := (x 1).isLt
    omega

/-- The reference terminates at every input with its arguments unchanged and its counters at zero. -/
theorem frame_reference : Cert.quiescent_Reference11Ideal (hReference11Ideal := Cert.Reference11Ideal.Gen.facts) := by
  intro m ρ _
  exact (θ_run Cert.Reference11Ideal.defs _ _).mono (fun r h => ⟨fun c => (h c).2, sem_eq_zero_of_no_sems (by decide) r.2⟩)
    (Cert.Reference11Ideal.Value.run (F := Ideal) m ρ)

open Cert.Reference11Ideal.Read in
/-- The call leaves the reference's value. -/
theorem same : Cert.algebraic_Kernel11Ideal_Reference11Ideal (hKernel11Ideal := Cert.Kernel11Ideal.Gen.facts)
    (hReference11Ideal := Cert.Reference11Ideal.Gen.facts) := by
  intro m g m' g' _ he
  refine ⟨fun c => val_main_v8 (F := Ideal) (a0 m c) (a1 m c) (a2 m c),
    (θ_run defs _ _).mono (fun r h c => ?_) (Cert.Kernel11Ideal.Value.run_blocks m g),
    (θ_run Cert.Reference11Ideal.defs _ _).mono (fun r h c => ?_) (Cert.Reference11Ideal.Value.run (F := Ideal) m' g')⟩
  · exact ⟨(h c).1.trans final, (h c).2⟩
  · obtain ⟨r0, ha⟩ := h c
    obtain ⟨e0, e1, e2⟩ := he c
    rw [val_main_v8_eq, e0, e1, e2] at r0
    exact ⟨r0, ha⟩

end Cert.ProjOutWeights

end
-- ==== Proof.FfnInWeights.lean ====
module

public import proofs.«01_k».proof.Defs
public import proofs.«01_k».proof.Proof.Gen.Kernel12Ideal.Frame
public import proofs.«01_k».proof.Proof.Gen.Kernel12Ideal.Skeleton
public import proofs.«01_k».proof.Proof.Gen.Reference12Ideal.Run
public import proofs.«01_k».proof.Proof.Gen.Reference12Ideal.Read
public import Idealize.ShloMosaic.Lib.Pointwise
public import Idealize.ShloMosaic.Lib.Pipeline.ValueKit
public import Idealize.ShloMosaic.Lib.VecWindow

@[expose] public section

/-!
# The gradient of the weight before the swiglu

Four points in a row share a block of 1408 rows of the weight's gradient: the rows of one device's quarter. The first starts
it with a product over 2048 rows, the others add a product over 2048 rows more. The block goes into the array of all the
late gradients, of which it leaves everything else as it was. The reference's product is over all 8192 rows.
-/

set_option maxRecDepth 16384

noncomputable section

namespace Cert.FfnInWeights

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 16 := lt_of_lt_of_eq t.isLt N_0

/-- The block is started at every fourth point. -/
theorem starts : ∀ t : Fin cfg0.N, k0_cond1 (grid0.coords t) = 1#1 ↔ t.val % 4 = 0 :=
  (by decide +kernel : ∀ t : Fin grid0.N, _)

/-- The block is added to at every other point. -/
theorem adds : ∀ t : Fin cfg0.N, k0_cond2 (grid0.coords t) = 1#1 ↔ t.val % 4 ≠ 0 :=
  (by decide +kernel : ∀ t : Fin grid0.N, _)

/-- Every point stores into the block. -/
theorem live (i : grid0.Coords) : cfg0.idle 2 i = false := by
  revert i; decide +kernel

set_option maxHeartbeats 1000000 in
/-- One run of the body at a point that starts the block, over whatever the block holds. -/
theorem start_point (c : Dev nD) (i : grid0.Coords) (arg2 : Memref sig .tc .vmem S2048x1408 .bf16) (harg2 : arg2.IsWhole)
    (arg3 : Memref sig .tc .vmem S2048x1024 .bf16) (harg3 : arg3.IsWhole) (arg5 : Memref sig .tc .vmem S1x1408x1024 .f32)
    (harg5 : arg5.IsWhole) (h1 : k0_cond1 i = 1#1) (h2 : ¬k0_cond2 i = 1#1)
    (x0 : Vec F S2048x1408 .bf16) (x1 : Vec F S2048x1024 .bf16) (E : Set ℕ) (K : PUnit → sProp 𝕄) :
    iprop(owns (c : Thread nD τ) arg2 fullShare x0 ∗ owns (c : Thread nD τ) arg3 fullShare x1
        ∗ (∃ y, owns (c : Thread nD τ) arg5 fullShare y)
        ∗ (iprop(owns (c : Thread nD τ) arg2 fullShare x0 ∗ owns (c : Thread nD τ) arg3 fullShare x1
            ∗ owns (c : Thread nD τ) arg5 fullShare (k0_pay1 x0 x1)) -∗ K ⟨⟩))
      ⊢ wp frame (wpE (defs₀ (F := F)) Variants.none c none) E
          (cc0_ffn_in_dw i arg2 harg2 arg3 harg3 (Memref.whole main_arg2) (Memref.isWhole_whole _) arg5 harg5) K := by
  simp only [cc0_ffn_in_dw_eq_skeleton]; unfold cc0_ffn_in_dw_skel
  unfold owns
  iintro ⟨⟨%f0, %hf0, H0⟩, ⟨%f1, %hf1, H1⟩, ⟨%y, %f2, %hf2, H2⟩, Hk⟩
  obtain rfl := harg2.eq_unread hf0; obtain rfl := harg3.eq_unread hf1
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; · iexact H2
  ipureintro
  sl_unfold_words
  refine (View.read_writes_full _ _ _ _ _).trans ?_
  simp only [View.readAt_eq_ld, Memref.IsWhole.read_unread]
  exact congrArg₂ k0_pay1 (View.ld_unit_lit _ _ (by decide)) (View.ld_unit_lit _ _ (by decide))

set_option maxHeartbeats 1000000 in
/-- One run of the body at a point that adds to the block. -/
theorem add_point (c : Dev nD) (i : grid0.Coords) (arg2 : Memref sig .tc .vmem S2048x1408 .bf16) (harg2 : arg2.IsWhole)
    (arg3 : Memref sig .tc .vmem S2048x1024 .bf16) (harg3 : arg3.IsWhole) (arg5 : Memref sig .tc .vmem S1x1408x1024 .f32)
    (harg5 : arg5.IsWhole) (h1 : ¬k0_cond1 i = 1#1) (h2 : k0_cond2 i = 1#1)
    (x0 : Vec F S2048x1408 .bf16) (x1 : Vec F S2048x1024 .bf16) (y : Vec F S1x1408x1024 .f32) (E : Set ℕ) (K : PUnit → sProp 𝕄) :
    iprop(owns (c : Thread nD τ) arg2 fullShare x0 ∗ owns (c : Thread nD τ) arg3 fullShare x1
        ∗ owns (c : Thread nD τ) arg5 fullShare y
        ∗ (iprop(owns (c : Thread nD τ) arg2 fullShare x0 ∗ owns (c : Thread nD τ) arg3 fullShare x1
            ∗ owns (c : Thread nD τ) arg5 fullShare (k0_pay2 x0 x1 y)) -∗ K ⟨⟩))
      ⊢ wp frame (wpE (defs₀ (F := F)) Variants.none c none) E
          (cc0_ffn_in_dw i arg2 harg2 arg3 harg3 (Memref.whole main_arg2) (Memref.isWhole_whole _) arg5 harg5) K := by
  simp only [cc0_ffn_in_dw_eq_skeleton]; unfold cc0_ffn_in_dw_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg5.eq_unread hf2
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; · iexact H2
  ipureintro
  sl_unfold_words
  refine (View.read_writes_full _ _ _ _ _).trans ?_
  simp only [View.readAt_eq_ld, Memref.IsWhole.read_unread]
  rw [View.ld_unit_lit _ x0 (by decide), View.ld_unit_lit _ x1 (by decide), View.ld_unit_lit _ y (by decide)]

/-- What the block holds after a point. -/
def held (c : Dev nD) : (n : ℕ) → n < cfg0.N → Vec F S1x1408x1024 .f32
  | 0, h => k0_pay1 (iblk m c 0 ⟨0, h⟩) (iblk m c 1 ⟨0, h⟩)
  | n + 1, h => if (n + 1) % 4 = 0 then k0_pay1 (iblk m c 0 ⟨n + 1, h⟩) (iblk m c 1 ⟨n + 1, h⟩)
      else k0_pay2 (iblk m c 0 ⟨n + 1, h⟩) (iblk m c 1 ⟨n + 1, h⟩) (held c n (Nat.lt_of_succ_lt h))

theorem held_start (c : Dev nD) (t : Fin cfg0.N) (ht : t.val % 4 = 0) :
    held m c t.val t.isLt = k0_pay1 (iblk m c 0 t) (iblk m c 1 t) := by
  obtain ⟨n, h⟩ := t
  cases n with
  | zero => rfl
  | succ n => exact if_pos ht

theorem held_add (c : Dev nD) (t : Fin cfg0.N) (ht : t.val % 4 ≠ 0) :
    held m c t.val t.isLt = k0_pay2 (iblk m c 0 t) (iblk m c 1 t)
      (held m c (t.val - 1) (Nat.lt_of_le_of_lt (Nat.sub_le _ _) t.isLt)) := by
  obtain ⟨n, h⟩ := t
  cases n with
  | zero => exact absurd rfl ht
  | succ n => exact if_neg ht

/-- The pipeline's data on one device: the arrays as the host leaves them; after a point every input's block in place, and
    the block of the result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => held m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_left (c : Dev nD) (t : Fin cfg0.N) : (dats m 0 c).after 0 t = iblk m c 0 t := by dsimp only [dats]
theorem after_right (c : Dev nD) (t : Fin cfg0.N) : (dats m 0 c).after 1 t = iblk m c 1 t := by dsimp only [dats]
theorem after_out (c : Dev nD) (t : Fin cfg0.N) : (dats m 0 c).after 2 t = held m c t.val t.isLt := by dsimp only [dats]

theorem before_left (c : Dev nD) (t : Fin cfg0.N) (d) : (dats m 0 c).before 0 t d = iblk m c 0 t :=
  before0_0_of m (dats m 0 c) (A_eq m c 0) (after_left m c) t d
theorem before_right (c : Dev nD) (t : Fin cfg0.N) (d) : (dats m 0 c).before 1 t d = iblk m c 1 t :=
  before0_1_of m (dats m 0 c) (A_eq m c 1) (after_right m c) t d

/-- The block lies inside the array at every point. -/
theorem inside (i : grid0.Coords) (a : Fin 3) : (cfg0.win 2).clip i a = none := by
  revert i a; decide +kernel

/-- At a point that adds, the block holds what the point before left. -/
theorem before_out (c : Dev nD) (t : Fin cfg0.N) (ht : t.val % 4 ≠ 0) (d) :
    (dats m 0 c).before 2 t d = held m c (t.val - 1) (Nat.lt_of_le_of_lt (Nat.sub_le _ _) t.isLt) := by
  have hN := points t
  rw [Dat.before_out_kept (dats m 0 c) 2 rfl t (fun h => ht (by rw [h]))
    (Bool.eq_false_iff.mpr fun h => by have := (flush0_2 _).mp h; simp only at this; omega) live inside d, after_out]

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))

/-- What the body gives back. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ (dats m 0 c).leavesExact 2 t)

set_option maxHeartbeats 800000 in
/-- The body at any point, by the two runs of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_left, before_right]
  rw [show (dats m 0 c).Φ t.succ = (dats m 0 c).Φ t.castSucc from rfl,
    show (dats m 0 c).owesAt () t.succ = (dats m 0 c).owesAt () t.castSucc from rfl, after_left, after_right,
    show (dats m 0 c).leavesExact 2 t = owns (c : Thread nD τ) (win0_2.stage (cfg0.slots t 2)) fullShare ((dats m 0 c).after 2 t)
      from by unfold Dat.leavesExact; rw [live], after_out]
  by_cases h0 : t.val % 4 = 0
  · rw [held_start m c t h0]
    iintro ⟨HΦ, Ho, ⟨%d0, H0⟩, ⟨%d1, H1⟩, ⟨%d2, H2⟩⟩
    iapply (start_point c (grid0.coords t) _ _ _ _ _ _ ((starts t).mpr h0) (fun h => (adds t).mp h h0) (iblk m c 0 t)
      (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before_out m c t h0]
    rw [held_add m c t h0]
    iintro ⟨HΦ, Ho, ⟨%d0, H0⟩, ⟨%d1, H1⟩, ⟨%d2, H2⟩⟩
    iapply (add_point c (grid0.coords t) _ _ _ _ _ _ (fun h => h0 ((starts t).mp h)) ((adds t).mpr h0) (iblk m c 0 t)
      (iblk m c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body table's row at a point is the body at that point. -/
theorem row_of (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, row_of]
  exact triple_restated (sound_body m c t) rfl .rfl fun _ => .rfl

set_option backward.isDefEq.respectTransparency.types false in
/-- Every execution of the program ends, with the result as the pipeline's data say and with every counter at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The program ends with its arguments unchanged and every counter at zero. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ))
    ((θ_run defs _ _).mono (fun _ h => h.2) (run_quiescent m ρ))

/-- The same run with the result's contents at the end. -/
theorem run_result : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 2, h.2 c⟩)
    (θ_run_and (run_main m ρ) (frame_of m ρ (dats m) (A_eq m) (run_main m ρ)))

end Run

/-! ## The value -/

variable {m : (ℓ : Loc nD τ sig) → Buf (Elt Ideal) ℓ} {c : Dev nD}

abbrev a0 (m : (ℓ : Loc nD τ sig) → Buf (Elt Ideal) ℓ) (c : Dev nD) : FVec Ideal S8192x5632 .bf16 :=
  m ((c : Thread nD τ).loc main_arg0)

abbrev a1 (m : (ℓ : Loc nD τ sig) → Buf (Elt Ideal) ℓ) (c : Dev nD) : FVec Ideal S8192x1024 .bf16 :=
  m ((c : Thread nD τ).loc main_arg1)

abbrev a2 (m : (ℓ : Loc nD τ sig) → Buf (Elt Ideal) ℓ) (c : Dev nD) : FVec Ideal S4x2560x1024 .f32 :=
  m ((c : Thread nD τ).loc main_arg2)

theorem place : ∀ t : Fin cfg0.N, win0_0.index t = ![t.val % 4, t.val / 4] ∧ win0_1.index t = ![t.val % 4, 0]
    ∧ win0_2.index t = ![t.val / 4, 0, 0] :=
  (by decide +kernel : ∀ t : Fin grid0.N, _)

/-- The rows of the part numbered `q` of the sum. -/
def row (q : ℕ) (k : Fin 2048) : Fin 8192 := ⟨(2048 * q + k.val) % 8192, Nat.mod_lt _ (by decide)⟩

/-- The rows of the weight in the block of a point. -/
def col (t : Fin cfg0.N) (i : Fin 1408) : Fin 5632 := ⟨1408 * (t.val / 4) + i.val, by have := points t; omega⟩

theorem left_at (t : Fin cfg0.N) (k : Fin 2048) (i : Fin 1408) :
    (iblk m c 0 t : FVec Ideal S2048x1408 .bf16) (ix2 k i) = a0 m c (ix2 (row (t.val % 4) k) (col t i)) := by
  have e : row (t.val % 4) k = ⟨2048 * (t.val % 4) + k.val, by omega⟩ := Fin.ext (Nat.mod_eq_of_lt (by omega))
  rw [e, col]
  blk_ext [iblk, V_main_arg0, place t]

theorem right_at (t : Fin cfg0.N) (k : Fin 2048) (j : Fin 1024) :
    (iblk m c 1 t : FVec Ideal S2048x1024 .bf16) (ix2 k j) = a1 m c (ix2 (row (t.val % 4) k) j) := by
  have e : row (t.val % 4) k = ⟨2048 * (t.val % 4) + k.val, by omega⟩ := Fin.ext (Nat.mod_eq_of_lt (by omega))
  rw [e]
  blk_ext [iblk, V_main_arg1, place t]

theorem first_at (x : FVec Ideal S2048x1408 .bf16) (w : FVec Ideal S2048x1024 .bf16) (p : Fin 1) (i : Fin 1408) (j : Fin 1024) :
    k0_pay1 (F := Ideal) x w (ix3 p i j)
      = ∑ k : Fin 2048, x (ix2 k (⟨1408 * p.val + i.val, by omega⟩ : Fin 1408)) * w (ix2 k j) := by
  pointwise [k0_pay1]

theorem next_at (x : FVec Ideal S2048x1408 .bf16) (w : FVec Ideal S2048x1024 .bf16) (v : FVec Ideal S1x1408x1024 .f32)
    (p : Fin 1) (i : Fin 1408) (j : Fin 1024) :
    k0_pay2 (F := Ideal) x w v (ix3 p i j) = v (ix3 p i j) + k0_pay1 (F := Ideal) x w (ix3 p i j) := by
  pointwise [k0_pay2]

/-- The row of the weight that is row `r` of quarter `q`. -/
def wrow (q : Fin 4) (r : Fin 1408) : Fin 5632 := ⟨1408 * q.val + r.val, by omega⟩

open Cert.Reference12Ideal.Read in
/-- The reference's array in the rows of this gradient. -/
theorem ref_inside (x : FVec Ideal S8192x5632 .bf16) (w : FVec Ideal S8192x1024 .bf16) (v : FVec Ideal S4x2560x1024 .f32)
    (q : Fin 4) (r : Fin 1408) (j : Fin 1024) :
    val_main_v10 (F := Ideal) x w v (ix3 q ⟨0 + r.val, by omega⟩ j)
      = ∑ k : Fin 8192, x (ix2 k (wrow q r)) * w (ix2 k j) := by
  unfold wrow
  pointwise [val_main_v10, val_main_v9, val_main_v8, val_main_v7, val_main_v6, val_main_v5, val_main_v4, val_main_v1]
  exact Finset.sum_congr rfl fun k _ => by congr 1; blk_ext []

open Cert.Reference12Ideal.Read in
/-- The reference's array outside them. -/
theorem ref_outside (x : FVec Ideal S8192x5632 .bf16) (w : FVec Ideal S8192x1024 .bf16) (v : FVec Ideal S4x2560x1024 .f32)
    (q : Fin 4) (i : Fin 2560) (j : Fin 1024) (h : ¬(0 ≤ i.val ∧ i.val < 1408)) :
    val_main_v10 (F := Ideal) x w v (ix3 q i j) = v (ix3 q i j) := by
  pointwise [val_main_v10, val_main_v9, val_main_v8, val_main_v7, val_main_v6, val_main_v5, val_main_v4, val_main_v1]
  split_ifs <;> first
    | (exfalso; omega)
    | rfl
    | blk_ext []

/-- The part numbered `q` of the sum over all rows. -/
def part (m : (ℓ : Loc nD τ sig) → Buf (Elt Ideal) ℓ) (c : Dev nD) (i : Fin 5632) (j : Fin 1024) (q : ℕ) : EReal :=
  ∑ k : Fin 2048, (a0 m c (ix2 (row q k) i) : EReal) * (a1 m c (ix2 (row q k) j) : EReal)

theorem part_at (t : Fin cfg0.N) (i : Fin 1408) (j : Fin 1024) (x : FVec Ideal S2048x1408 .bf16) (w : FVec Ideal S2048x1024 .bf16)
    (hx : x = iblk m c 0 t) (hw : w = iblk m c 1 t) :
    (∑ k : Fin 2048, x (ix2 k i) * w (ix2 k j)) = part m c (col t i) j (t.val % 4) :=
  Finset.sum_congr rfl fun k _ => by rw [hx, hw, left_at, right_at]

/-- What the block holds after a point: the parts up to the point's. -/
theorem held_at (n : ℕ) : ∀ (t : Fin cfg0.N), t.val % 4 = n → ∀ (p : Fin 1) (i : Fin 1408) (j : Fin 1024),
    (held m c t.val t.isLt (ix3 p i j) : EReal)
      = ∑ q ∈ Finset.range (n + 1), part m c (col t ⟨1408 * p.val + i.val, by omega⟩) j q := by
  induction n with
  | zero =>
    intro t ht p i j
    rw [held_start m c t ht, first_at, part_at t _ j _ _ rfl rfl, ht]
    simp
  | succ n ih =>
    intro t ht p i j
    have hp := points t
    have hprev := ih ⟨t.val - 1, by have := t.isLt; omega⟩ (show (t.val - 1) % 4 = n by omega) p i j
    have hcol : ∀ r : Fin 1408, col ⟨t.val - 1, by have := t.isLt; omega⟩ r = col t r := fun r =>
      Fin.ext (show 1408 * ((t.val - 1) / 4) + r.val = 1408 * (t.val / 4) + r.val by omega)
    rw [held_add m c t (by omega), next_at, first_at, part_at t _ j _ _ rfl rfl, ht]
    rw [hcol] at hprev
    rw [Finset.sum_range_succ _ (n + 1)]
    exact congrArg (· + part m c (col t ⟨1408 * p.val + i.val, by omega⟩) j (n + 1)) hprev

theorem parts (i : Fin 5632) (j : Fin 1024) :
    (∑ q ∈ Finset.range 4, part m c i j q)
      = ∑ k : Fin 8192, (a0 m c (ix2 k i) : EReal) * (a1 m c (ix2 k j) : EReal) := by
  rw [Finset.sum_range (n := 4)]
  unfold part
  rw [← Fintype.sum_prod_type', ← (finProdFinEquiv (m := 4) (n := 2048)).sum_comp]
  refine Finset.sum_congr rfl fun x _ => ?_
  have e : row x.1.val x.2 = (finProdFinEquiv x : Fin 8192) := by
    refine Fin.ext ?_
    show (2048 * x.1.val + x.2.val) % 8192 = x.2.val + 2048 * x.1.val
    have := x.1.isLt
    have := x.2.isLt
    omega
  rw [e]

/-- What a block holds when it is written out. -/
theorem out_at (t : Fin cfg0.N) (ht : t.val % 4 = 3) (p : Fin 1) (i : Fin 1408) (j : Fin 1024) :
    held m c t.val t.isLt (ix3 p i j)
      = Cert.Reference12Ideal.Read.val_main_v10 (F := Ideal) (a0 m c) (a1 m c) (a2 m c)
          (ix3 ⟨1 * (t.val / 4) + p.val, by have := points t; omega⟩ ⟨0 + i.val, by omega⟩ j) := by
  have e : col t ⟨1408 * p.val + i.val, by omega⟩ = wrow ⟨1 * (t.val / 4) + p.val, by have := points t; omega⟩ i :=
    Fin.ext (show 1408 * (t.val / 4) + (1408 * p.val + i.val) = 1408 * (1 * (t.val / 4) + p.val) + i.val by omega)
  rw [ref_inside, ← parts, ← e]
  exact held_at 3 t ht p i j

/-- The array the result starts from is the third argument. -/
theorem entry_at : V m c main_v0 = a2 m c := by
  unfold V
  after_results
  rfl

/-- Where a point's block lies in the array, on each axis. -/
theorem spot (t : Fin cfg0.N) (y : ((cfg0.win 2).xblock (cfg0.grid.coords t)).Idx) (a : Fin 3) :
    (((cfg0.win 2).blk t).view.emb y a : ℕ) = win0_2.index t a * win0_2.size a + (y a : ℕ) :=
  Pipeline.Window.rect_emb_val (cfg0.win 2) t y a

theorem sizes : win0_2.size = (![1, 1408, 1024] : Fin 3 → ℕ) := rfl

theorem emb_at (t : Fin cfg0.N) (y : ((cfg0.win 2).xblock (cfg0.grid.coords t)).Idx) (z : S1x1408x1024.Idx)
    (hz : z = (cfg0.win 2).xinj (cfg0.grid.coords t) y) :
    ((cfg0.win 2).blk t).view.emb y
      = (ix3 ⟨1 * (t.val / 4) + (z 0).val, by have := points t; have : (z 0).val < 1 := (z 0).isLt; omega⟩
          ⟨0 + (z 1).val, by have : (z 1).val < 1408 := (z 1).isLt; omega⟩ (z 2) : S4x2560x1024.Idx) := by
  have hv : ∀ a : Fin 3, (z a : ℕ) = (y a : ℕ) := fun a => by rw [hz]
  refine funext fun a => Fin.ext ((spot t y a).trans ?_)
  rw [← hv a, sizes, (place t).2.2]
  fin_cases a
  · show t.val / 4 * 1 + (z 0).val = 1 * (t.val / 4) + (z 0).val
    omega
  · show 0 * 1408 + (z 1).val = 0 + (z 1).val
    omega
  · show 0 * 1024 + (z 2).val = (z 2).val
    omega

theorem final : (dats m 0 c).arrAt 2 cfg0.N
    = Cert.Reference12Ideal.Read.val_main_v10 (F := Ideal) (a0 m c) (a1 m c) (a2 m c) := by
  refine (dats m 0 c).arrAt_eq_of_coversWhere_of_agree 2 _ (fun β => β (1 : Fin 3) = 0) (by decide +kernel)
    (fun t hf y => ?_) (fun x hx => ?_)
  · have ht := (flush0_2 t).mp hf
    rw [after_out, emb_at t y _ rfl]
    exact (congrArg _ (eq_ix3 _)).trans (out_at t ht _ _ _)
  · blk_simp [Pipeline.Window.cell_apply] at hx
    show V m c main_v0 x = _
    rw [entry_at, eq_ix3 x]
    refine (ref_outside _ _ _ _ _ _ fun h => hx ?_).symm
    omega

/-- The reference terminates at every input with its arguments unchanged and its counters at zero. -/
theorem frame_reference : Cert.quiescent_Reference12Ideal (hReference12Ideal := Cert.Reference12Ideal.Gen.facts) := by
  intro m ρ _
  exact (θ_run Cert.Reference12Ideal.defs _ _).mono (fun r h => ⟨fun c => (h c).2, sem_eq_zero_of_no_sems (by decide) r.2⟩)
    (Cert.Reference12Ideal.Value.run (F := Ideal) m ρ)

open Cert.Reference12Ideal.Read in
/-- The call leaves the reference's value. -/
theorem same : Cert.algebraic_Kernel12Ideal_Reference12Ideal (hKernel12Ideal := Cert.Kernel12Ideal.Gen.facts)
    (hReference12Ideal := Cert.Reference12Ideal.Gen.facts) := by
  intro m g m' g' _ he
  refine ⟨fun c => val_main_v10 (F := Ideal) (a0 m c) (a1 m c) (a2 m c),
    (θ_run defs _ _).mono (fun r h c => ?_) (run_result m g),
    (θ_run Cert.Reference12Ideal.defs _ _).mono (fun r h c => ?_) (Cert.Reference12Ideal.Value.run (F := Ideal) m' g')⟩
  · exact ⟨(h c).1.trans final, (h c).2⟩
  · obtain ⟨r0, ha⟩ := h c
    obtain ⟨e0, e1, e2⟩ := he c
    rw [val_main_v10_eq, e0, e1, e2] at r0
    exact ⟨r0, ha⟩

end Cert.FfnInWeights

end
-- ==== Proof.FfnOutWeights.lean ====
module

public import proofs.«01_k».proof.Defs
public import proofs.«01_k».proof.Proof.Gen.Kernel13Ideal.Frame
public import proofs.«01_k».proof.Proof.Gen.Kernel13Ideal.Skeleton
public import proofs.«01_k».proof.Proof.Gen.Reference13Ideal.Run
public import proofs.«01_k».proof.Proof.Gen.Reference13Ideal.Read
public import Idealize.ShloMosaic.Lib.Pointwise
public import Idealize.ShloMosaic.Lib.Pipeline.ValueKit
public import Idealize.ShloMosaic.Lib.VecWindow

@[expose] public section

/-!
# The gradient of the weight after the swiglu

Four points in a row share a block of 1408 rows of the weight's gradient: the rows of two devices' quarters. The first starts
it with a product over 2048 rows, the others add a product over 2048 rows more. The block goes into the array of all the
late gradients, of which it leaves everything else as it was. The reference's product is over all 8192 rows.
-/

set_option maxRecDepth 16384

noncomputable section

namespace Cert.FfnOutWeights

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 8 := lt_of_lt_of_eq t.isLt N_0

/-- The block is started at every fourth point. -/
theorem starts : ∀ t : Fin cfg0.N, k0_cond1 (grid0.coords t) = 1#1 ↔ t.val % 4 = 0 :=
  (by decide +kernel : ∀ t : Fin grid0.N, _)

/-- The block is added to at every other point. -/
theorem adds : ∀ t : Fin cfg0.N, k0_cond2 (grid0.coords t) = 1#1 ↔ t.val % 4 ≠ 0 :=
  (by decide +kernel : ∀ t : Fin grid0.N, _)

/-- Every point stores into the block. -/
theorem live (i : grid0.Coords) : cfg0.idle 2 i = false := by
  revert i; decide +kernel

set_option maxHeartbeats 1000000 in
/-- One run of the body at a point that starts the block, over whatever the block holds. -/
theorem start_point (c : Dev nD) (i : grid0.Coords) (arg2 : Memref sig .tc .vmem S2048x1408 .bf16) (harg2 : arg2.IsWhole)
    (arg3 : Memref sig .tc .vmem S2048x1024 .bf16) (harg3 : arg3.IsWhole) (arg5 : Memref sig .tc .vmem S2x704x1024 .f32)
    (harg5 : arg5.IsWhole) (h1 : k0_cond1 i = 1#1) (h2 : ¬k0_cond2 i = 1#1)
    (x0 : Vec F S2048x1408 .bf16) (x1 : Vec F S2048x1024 .bf16) (E : Set ℕ) (K : PUnit → sProp 𝕄) :
    iprop(owns (c : Thread nD τ) arg2 fullShare x0 ∗ owns (c : Thread nD τ) arg3 fullShare x1
        ∗ (∃ y, owns (c : Thread nD τ) arg5 fullShare y)
        ∗ (iprop(owns (c : Thread nD τ) arg2 fullShare x0 ∗ owns (c : Thread nD τ) arg3 fullShare x1
            ∗ owns (c : Thread nD τ) arg5 fullShare (k0_pay1 x0 x1)) -∗ K ⟨⟩))
      ⊢ wp frame (wpE (defs₀ (F := F)) Variants.none c none) E
          (cc0_ffn_out_dw i arg2 harg2 arg3 harg3 (Memref.whole main_arg2) (Memref.isWhole_whole _) arg5 harg5) K := by
  simp only [cc0_ffn_out_dw_eq_skeleton]; unfold cc0_ffn_out_dw_skel
  unfold owns
  iintro ⟨⟨%f0, %hf0, H0⟩, ⟨%f1, %hf1, H1⟩, ⟨%y, %f2, %hf2, H2⟩, Hk⟩
  obtain rfl := harg2.eq_unread hf0; obtain rfl := harg3.eq_unread hf1
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; · iexact H2
  ipureintro
  sl_unfold_words
  refine (View.read_writes_full _ _ _ _ _).trans ?_
  simp only [View.readAt_eq_ld, Memref.IsWhole.read_unread]
  exact congrArg₂ k0_pay1 (View.ld_unit_lit _ _ (by decide)) (View.ld_unit_lit _ _ (by decide))

set_option maxHeartbeats 1000000 in
/-- One run of the body at a point that adds to the block. -/
theorem add_point (c : Dev nD) (i : grid0.Coords) (arg2 : Memref sig .tc .vmem S2048x1408 .bf16) (harg2 : arg2.IsWhole)
    (arg3 : Memref sig .tc .vmem S2048x1024 .bf16) (harg3 : arg3.IsWhole) (arg5 : Memref sig .tc .vmem S2x704x1024 .f32)
    (harg5 : arg5.IsWhole) (h1 : ¬k0_cond1 i = 1#1) (h2 : k0_cond2 i = 1#1)
    (x0 : Vec F S2048x1408 .bf16) (x1 : Vec F S2048x1024 .bf16) (y : Vec F S2x704x1024 .f32) (E : Set ℕ) (K : PUnit → sProp 𝕄) :
    iprop(owns (c : Thread nD τ) arg2 fullShare x0 ∗ owns (c : Thread nD τ) arg3 fullShare x1
        ∗ owns (c : Thread nD τ) arg5 fullShare y
        ∗ (iprop(owns (c : Thread nD τ) arg2 fullShare x0 ∗ owns (c : Thread nD τ) arg3 fullShare x1
            ∗ owns (c : Thread nD τ) arg5 fullShare (k0_pay2 x0 x1 y)) -∗ K ⟨⟩))
      ⊢ wp frame (wpE (defs₀ (F := F)) Variants.none c none) E
          (cc0_ffn_out_dw i arg2 harg2 arg3 harg3 (Memref.whole main_arg2) (Memref.isWhole_whole _) arg5 harg5) K := by
  simp only [cc0_ffn_out_dw_eq_skeleton]; unfold cc0_ffn_out_dw_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg5.eq_unread hf2
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; · iexact H2
  ipureintro
  sl_unfold_words
  refine (View.read_writes_full _ _ _ _ _).trans ?_
  simp only [View.readAt_eq_ld, Memref.IsWhole.read_unread]
  rw [View.ld_unit_lit _ x0 (by decide), View.ld_unit_lit _ x1 (by decide), View.ld_unit_lit _ y (by decide)]

/-- What the block holds after a point. -/
def held (c : Dev nD) : (n : ℕ) → n < cfg0.N → Vec F S2x704x1024 .f32
  | 0, h => k0_pay1 (iblk m c 0 ⟨0, h⟩) (iblk m c 1 ⟨0, h⟩)
  | n + 1, h => if (n + 1) % 4 = 0 then k0_pay1 (iblk m c 0 ⟨n + 1, h⟩) (iblk m c 1 ⟨n + 1, h⟩)
      else k0_pay2 (iblk m c 0 ⟨n + 1, h⟩) (iblk m c 1 ⟨n + 1, h⟩) (held c n (Nat.lt_of_succ_lt h))

theorem held_start (c : Dev nD) (t : Fin cfg0.N) (ht : t.val % 4 = 0) :
    held m c t.val t.isLt = k0_pay1 (iblk m c 0 t) (iblk m c 1 t) := by
  obtain ⟨n, h⟩ := t
  cases n with
  | zero => rfl
  | succ n => exact if_pos ht

theorem held_add (c : Dev nD) (t : Fin cfg0.N) (ht : t.val % 4 ≠ 0) :
    held m c t.val t.isLt = k0_pay2 (iblk m c 0 t) (iblk m c 1 t)
      (held m c (t.val - 1) (Nat.lt_of_le_of_lt (Nat.sub_le _ _) t.isLt)) := by
  obtain ⟨n, h⟩ := t
  cases n with
  | zero => exact absurd rfl ht
  | succ n => exact if_neg ht

/-- The pipeline's data on one device: the arrays as the host leaves them; after a point every input's block in place, and
    the block of the result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => held m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_left (c : Dev nD) (t : Fin cfg0.N) : (dats m 0 c).after 0 t = iblk m c 0 t := by dsimp only [dats]
theorem after_right (c : Dev nD) (t : Fin cfg0.N) : (dats m 0 c).after 1 t = iblk m c 1 t := by dsimp only [dats]
theorem after_out (c : Dev nD) (t : Fin cfg0.N) : (dats m 0 c).after 2 t = held m c t.val t.isLt := by dsimp only [dats]

theorem before_left (c : Dev nD) (t : Fin cfg0.N) (d) : (dats m 0 c).before 0 t d = iblk m c 0 t :=
  before0_0_of m (dats m 0 c) (A_eq m c 0) (after_left m c) t d
theorem before_right (c : Dev nD) (t : Fin cfg0.N) (d) : (dats m 0 c).before 1 t d = iblk m c 1 t :=
  before0_1_of m (dats m 0 c) (A_eq m c 1) (after_right m c) t d

/-- The block lies inside the array at every point. -/
theorem inside (i : grid0.Coords) (a : Fin 3) : (cfg0.win 2).clip i a = none := by
  revert i a; decide +kernel

/-- At a point that adds, the block holds what the point before left. -/
theorem before_out (c : Dev nD) (t : Fin cfg0.N) (ht : t.val % 4 ≠ 0) (d) :
    (dats m 0 c).before 2 t d = held m c (t.val - 1) (Nat.lt_of_le_of_lt (Nat.sub_le _ _) t.isLt) := by
  have hN := points t
  rw [Dat.before_out_kept (dats m 0 c) 2 rfl t (fun h => ht (by rw [h]))
    (Bool.eq_false_iff.mpr fun h => by have := (flush0_2 _).mp h; simp only at this; omega) live inside d, after_out]

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))

/-- What the body gives back. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ (dats m 0 c).leavesExact 2 t)

set_option maxHeartbeats 800000 in
/-- The body at any point, by the two runs of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_left, before_right]
  rw [show (dats m 0 c).Φ t.succ = (dats m 0 c).Φ t.castSucc from rfl,
    show (dats m 0 c).owesAt () t.succ = (dats m 0 c).owesAt () t.castSucc from rfl, after_left, after_right,
    show (dats m 0 c).leavesExact 2 t = owns (c : Thread nD τ) (win0_2.stage (cfg0.slots t 2)) fullShare ((dats m 0 c).after 2 t)
      from by unfold Dat.leavesExact; rw [live], after_out]
  by_cases h0 : t.val % 4 = 0
  · rw [held_start m c t h0]
    iintro ⟨HΦ, Ho, ⟨%d0, H0⟩, ⟨%d1, H1⟩, ⟨%d2, H2⟩⟩
    iapply (start_point c (grid0.coords t) _ _ _ _ _ _ ((starts t).mpr h0) (fun h => (adds t).mp h h0) (iblk m c 0 t)
      (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before_out m c t h0]
    rw [held_add m c t h0]
    iintro ⟨HΦ, Ho, ⟨%d0, H0⟩, ⟨%d1, H1⟩, ⟨%d2, H2⟩⟩
    iapply (add_point c (grid0.coords t) _ _ _ _ _ _ (fun h => h0 ((starts t).mp h)) ((adds t).mpr h0) (iblk m c 0 t)
      (iblk m c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body table's row at a point is the body at that point. -/
theorem row_of (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, row_of]
  exact triple_restated (sound_body m c t) rfl .rfl fun _ => .rfl

set_option backward.isDefEq.respectTransparency.types false in
/-- Every execution of the program ends, with the result as the pipeline's data say and with every counter at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The program ends with its arguments unchanged and every counter at zero. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ))
    ((θ_run defs _ _).mono (fun _ h => h.2) (run_quiescent m ρ))

/-- The same run with the result's contents at the end. -/
theorem run_result : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 2, h.2 c⟩)
    (θ_run_and (run_main m ρ) (frame_of m ρ (dats m) (A_eq m) (run_main m ρ)))

end Run

/-! ## The value -/

variable {m : (ℓ : Loc nD τ sig) → Buf (Elt Ideal) ℓ} {c : Dev nD}

abbrev a0 (m : (ℓ : Loc nD τ sig) → Buf (Elt Ideal) ℓ) (c : Dev nD) : FVec Ideal S8192x2816 .bf16 :=
  m ((c : Thread nD τ).loc main_arg0)

abbrev a1 (m : (ℓ : Loc nD τ sig) → Buf (Elt Ideal) ℓ) (c : Dev nD) : FVec Ideal S8192x1024 .bf16 :=
  m ((c : Thread nD τ).loc main_arg1)

abbrev a2 (m : (ℓ : Loc nD τ sig) → Buf (Elt Ideal) ℓ) (c : Dev nD) : FVec Ideal S4x2560x1024 .f32 :=
  m ((c : Thread nD τ).loc main_arg2)

theorem place : ∀ t : Fin cfg0.N, win0_0.index t = ![t.val % 4, t.val / 4] ∧ win0_1.index t = ![t.val % 4, 0]
    ∧ win0_2.index t = ![t.val / 4, 2, 0] :=
  (by decide +kernel : ∀ t : Fin grid0.N, _)

/-- The rows of the part numbered `q` of the sum. -/
def row (q : ℕ) (k : Fin 2048) : Fin 8192 := ⟨(2048 * q + k.val) % 8192, Nat.mod_lt _ (by decide)⟩

/-- The rows of the weight in the block of a point. -/
def col (t : Fin cfg0.N) (i : Fin 1408) : Fin 2816 := ⟨1408 * (t.val / 4) + i.val, by have := points t; omega⟩

theorem left_at (t : Fin cfg0.N) (k : Fin 2048) (i : Fin 1408) :
    (iblk m c 0 t : FVec Ideal S2048x1408 .bf16) (ix2 k i) = a0 m c (ix2 (row (t.val % 4) k) (col t i)) := by
  have e : row (t.val % 4) k = ⟨2048 * (t.val % 4) + k.val, by omega⟩ := Fin.ext (Nat.mod_eq_of_lt (by omega))
  rw [e, col]
  blk_ext [iblk, V_main_arg0, place t]

theorem right_at (t : Fin cfg0.N) (k : Fin 2048) (j : Fin 1024) :
    (iblk m c 1 t : FVec Ideal S2048x1024 .bf16) (ix2 k j) = a1 m c (ix2 (row (t.val % 4) k) j) := by
  have e : row (t.val % 4) k = ⟨2048 * (t.val % 4) + k.val, by omega⟩ := Fin.ext (Nat.mod_eq_of_lt (by omega))
  rw [e]
  blk_ext [iblk, V_main_arg1, place t]

theorem first_at (x : FVec Ideal S2048x1408 .bf16) (w : FVec Ideal S2048x1024 .bf16) (p : Fin 2) (i : Fin 704) (j : Fin 1024) :
    k0_pay1 (F := Ideal) x w (ix3 p i j)
      = ∑ k : Fin 2048, x (ix2 k (⟨704 * p.val + i.val, by omega⟩ : Fin 1408)) * w (ix2 k j) := by
  pointwise [k0_pay1]
  exact Finset.sum_congr rfl fun k _ => by congr 1; blk_ext []

theorem next_at (x : FVec Ideal S2048x1408 .bf16) (w : FVec Ideal S2048x1024 .bf16) (v : FVec Ideal S2x704x1024 .f32)
    (p : Fin 2) (i : Fin 704) (j : Fin 1024) :
    k0_pay2 (F := Ideal) x w v (ix3 p i j) = v (ix3 p i j) + k0_pay1 (F := Ideal) x w (ix3 p i j) := by
  pointwise [k0_pay2]

/-- The row of the weight that is row `r` of quarter `q`. -/
def wrow (q : Fin 4) (r : Fin 704) : Fin 2816 := ⟨704 * q.val + r.val, by omega⟩

open Cert.Reference13Ideal.Read in
/-- The reference's array in the rows of this gradient. -/
theorem ref_inside (x : FVec Ideal S8192x2816 .bf16) (w : FVec Ideal S8192x1024 .bf16) (v : FVec Ideal S4x2560x1024 .f32)
    (q : Fin 4) (r : Fin 704) (j : Fin 1024) :
    val_main_v9 (F := Ideal) x w v (ix3 q ⟨1408 + r.val, by omega⟩ j)
      = ∑ k : Fin 8192, x (ix2 k (wrow q r)) * w (ix2 k j) := by
  unfold wrow
  pointwise [val_main_v9, val_main_v8, val_main_v7, val_main_v6, val_main_v5, val_main_v4, val_main_v3, val_main_v1]
  exact Finset.sum_congr rfl fun k _ => by rw [mul_comm]; congr 1; blk_ext []

open Cert.Reference13Ideal.Read in
/-- The reference's array outside them. -/
theorem ref_outside (x : FVec Ideal S8192x2816 .bf16) (w : FVec Ideal S8192x1024 .bf16) (v : FVec Ideal S4x2560x1024 .f32)
    (q : Fin 4) (i : Fin 2560) (j : Fin 1024) (h : ¬(1408 ≤ i.val ∧ i.val < 2112)) :
    val_main_v9 (F := Ideal) x w v (ix3 q i j) = v (ix3 q i j) := by
  pointwise [val_main_v9, val_main_v8, val_main_v7, val_main_v6, val_main_v5, val_main_v4, val_main_v3, val_main_v1]
  split_ifs <;> first
    | (exfalso; omega)
    | rfl
    | blk_ext []

/-- The part numbered `q` of the sum over all rows. -/
def part (m : (ℓ : Loc nD τ sig) → Buf (Elt Ideal) ℓ) (c : Dev nD) (i : Fin 2816) (j : Fin 1024) (q : ℕ) : EReal :=
  ∑ k : Fin 2048, (a0 m c (ix2 (row q k) i) : EReal) * (a1 m c (ix2 (row q k) j) : EReal)

theorem part_at (t : Fin cfg0.N) (i : Fin 1408) (j : Fin 1024) (x : FVec Ideal S2048x1408 .bf16) (w : FVec Ideal S2048x1024 .bf16)
    (hx : x = iblk m c 0 t) (hw : w = iblk m c 1 t) :
    (∑ k : Fin 2048, x (ix2 k i) * w (ix2 k j)) = part m c (col t i) j (t.val % 4) :=
  Finset.sum_congr rfl fun k _ => by rw [hx, hw, left_at, right_at]

/-- What the block holds after a point: the parts up to the point's. -/
theorem held_at (n : ℕ) : ∀ (t : Fin cfg0.N), t.val % 4 = n → ∀ (p : Fin 2) (i : Fin 704) (j : Fin 1024),
    (held m c t.val t.isLt (ix3 p i j) : EReal)
      = ∑ q ∈ Finset.range (n + 1), part m c (col t ⟨704 * p.val + i.val, by omega⟩) j q := by
  induction n with
  | zero =>
    intro t ht p i j
    rw [held_start m c t ht, first_at, part_at t _ j _ _ rfl rfl, ht]
    simp
  | succ n ih =>
    intro t ht p i j
    have hp := points t
    have hprev := ih ⟨t.val - 1, by have := t.isLt; omega⟩ (show (t.val - 1) % 4 = n by omega) p i j
    have hcol : ∀ r : Fin 1408, col ⟨t.val - 1, by have := t.isLt; omega⟩ r = col t r := fun r =>
      Fin.ext (show 1408 * ((t.val - 1) / 4) + r.val = 1408 * (t.val / 4) + r.val by omega)
    rw [held_add m c t (by omega), next_at, first_at, part_at t _ j _ _ rfl rfl, ht]
    rw [hcol] at hprev
    rw [Finset.sum_range_succ _ (n + 1)]
    exact congrArg (· + part m c (col t ⟨704 * p.val + i.val, by omega⟩) j (n + 1)) hprev

theorem parts (i : Fin 2816) (j : Fin 1024) :
    (∑ q ∈ Finset.range 4, part m c i j q)
      = ∑ k : Fin 8192, (a0 m c (ix2 k i) : EReal) * (a1 m c (ix2 k j) : EReal) := by
  rw [Finset.sum_range (n := 4)]
  unfold part
  rw [← Fintype.sum_prod_type', ← (finProdFinEquiv (m := 4) (n := 2048)).sum_comp]
  refine Finset.sum_congr rfl fun x _ => ?_
  have e : row x.1.val x.2 = (finProdFinEquiv x : Fin 8192) := by
    refine Fin.ext ?_
    show (2048 * x.1.val + x.2.val) % 8192 = x.2.val + 2048 * x.1.val
    have := x.1.isLt
    have := x.2.isLt
    omega
  rw [e]

/-- What a block holds when it is written out. -/
theorem out_at (t : Fin cfg0.N) (ht : t.val % 4 = 3) (p : Fin 2) (i : Fin 704) (j : Fin 1024) :
    held m c t.val t.isLt (ix3 p i j)
      = Cert.Reference13Ideal.Read.val_main_v9 (F := Ideal) (a0 m c) (a1 m c) (a2 m c)
          (ix3 ⟨2 * (t.val / 4) + p.val, by have := points t; omega⟩ ⟨1408 + i.val, by omega⟩ j) := by
  have e : col t ⟨704 * p.val + i.val, by omega⟩ = wrow ⟨2 * (t.val / 4) + p.val, by have := points t; omega⟩ i :=
    Fin.ext (show 1408 * (t.val / 4) + (704 * p.val + i.val) = 704 * (2 * (t.val / 4) + p.val) + i.val by omega)
  rw [ref_inside, ← parts, ← e]
  exact held_at 3 t ht p i j

/-- The array the result starts from is the third argument. -/
theorem entry_at : V m c main_v0 = a2 m c := by
  unfold V
  after_results
  rfl

/-- Where a point's block lies in the array, on each axis. -/
theorem spot (t : Fin cfg0.N) (y : ((cfg0.win 2).xblock (cfg0.grid.coords t)).Idx) (a : Fin 3) :
    (((cfg0.win 2).blk t).view.emb y a : ℕ) = win0_2.index t a * win0_2.size a + (y a : ℕ) :=
  Pipeline.Window.rect_emb_val (cfg0.win 2) t y a

theorem sizes : win0_2.size = (![2, 704, 1024] : Fin 3 → ℕ) := rfl

theorem emb_at (t : Fin cfg0.N) (y : ((cfg0.win 2).xblock (cfg0.grid.coords t)).Idx) (z : S2x704x1024.Idx)
    (hz : z = (cfg0.win 2).xinj (cfg0.grid.coords t) y) :
    ((cfg0.win 2).blk t).view.emb y
      = (ix3 ⟨2 * (t.val / 4) + (z 0).val, by have := points t; have : (z 0).val < 2 := (z 0).isLt; omega⟩
          ⟨1408 + (z 1).val, by have : (z 1).val < 704 := (z 1).isLt; omega⟩ (z 2) : S4x2560x1024.Idx) := by
  have hv : ∀ a : Fin 3, (z a : ℕ) = (y a : ℕ) := fun a => by rw [hz]
  refine funext fun a => Fin.ext ((spot t y a).trans ?_)
  rw [← hv a, sizes, (place t).2.2]
  fin_cases a
  · show t.val / 4 * 2 + (z 0).val = 2 * (t.val / 4) + (z 0).val
    omega
  · show 2 * 704 + (z 1).val = 1408 + (z 1).val
    omega
  · show 0 * 1024 + (z 2).val = (z 2).val
    omega

theorem final : (dats m 0 c).arrAt 2 cfg0.N
    = Cert.Reference13Ideal.Read.val_main_v9 (F := Ideal) (a0 m c) (a1 m c) (a2 m c) := by
  refine (dats m 0 c).arrAt_eq_of_coversWhere_of_agree 2 _ (fun β => β (1 : Fin 3) = 2) (by decide +kernel)
    (fun t hf y => ?_) (fun x hx => ?_)
  · have ht := (flush0_2 t).mp hf
    rw [after_out, emb_at t y _ rfl]
    exact (congrArg _ (eq_ix3 _)).trans (out_at t ht _ _ _)
  · blk_simp [Pipeline.Window.cell_apply] at hx
    show V m c main_v0 x = _
    rw [entry_at, eq_ix3 x]
    refine (ref_outside _ _ _ _ _ _ fun h => hx ?_).symm
    omega

/-- The reference terminates at every input with its arguments unchanged and its counters at zero. -/
theorem frame_reference : Cert.quiescent_Reference13Ideal (hReference13Ideal := Cert.Reference13Ideal.Gen.facts) := by
  intro m ρ _
  exact (θ_run Cert.Reference13Ideal.defs _ _).mono (fun r h => ⟨fun c => (h c).2, sem_eq_zero_of_no_sems (by decide) r.2⟩)
    (Cert.Reference13Ideal.Value.run (F := Ideal) m ρ)

open Cert.Reference13Ideal.Read in
/-- The call leaves the reference's value. -/
theorem same : Cert.algebraic_Kernel13Ideal_Reference13Ideal (hKernel13Ideal := Cert.Kernel13Ideal.Gen.facts)
    (hReference13Ideal := Cert.Reference13Ideal.Gen.facts) := by
  intro m g m' g' _ he
  refine ⟨fun c => val_main_v9 (F := Ideal) (a0 m c) (a1 m c) (a2 m c),
    (θ_run defs _ _).mono (fun r h c => ?_) (run_result m g),
    (θ_run Cert.Reference13Ideal.defs _ _).mono (fun r h c => ?_) (Cert.Reference13Ideal.Value.run (F := Ideal) m' g')⟩
  · exact ⟨(h c).1.trans final, (h c).2⟩
  · obtain ⟨r0, ha⟩ := h c
    obtain ⟨e0, e1, e2⟩ := he c
    rw [val_main_v9_eq, e0, e1, e2] at r0
    exact ⟨r0, ha⟩

end Cert.FfnOutWeights

end
-- ==== Proof.WeightWords.lean ====
module

public import proofs.«01_k».proof.Defs
public import proofs.«01_k».proof.Proof.FfnInWeights
public import proofs.«01_k».proof.Proof.FfnOutWeights
public import proofs.«01_k».proof.Proof.Gen.Kernel12
public import proofs.«01_k».proof.Proof.Gen.Kernel13

@[expose] public section

/-!
# The gradients of the swiglu network's weights over the words

As for the attention: each call and its idealized form have the same text, and the run over any float values is the run over
the words too.
-/

set_option maxRecDepth 100000
set_option maxHeartbeats 1000000

noncomputable section

namespace Cert.FfnInWeights

open Idealize.ShloMosaic Idealize.SL.Sem

local instance : Cert.Kernel12.Facts := Cert.Kernel12.Gen.facts
local instance : Cert.Kernel12Ideal.Facts := Cert.Kernel12Ideal.Gen.facts

/-- The two tables of bodies are equal. -/
theorem body_same : Cert.Kernel12.defs₀ (F := Bits) = Cert.Kernel12Ideal.defs₀ (F := Bits) := by
  unfold Cert.Kernel12.defs₀ Cert.Kernel12Ideal.defs₀
  refine congrArg Defs.onTc ?_
  funext l a
  match l, a with
  | 0, (t, s) => exact id rfl

/-- The two tables of all labels are equal. -/
theorem table_same : Cert.Kernel12.defs (F := Bits) = Cert.Kernel12Ideal.defs (F := Bits) :=
  congrArg (Pipeline.defs _) body_same

/-- The two programs are equal. -/
theorem main_same : Cert.Kernel12.main (F := Bits) = Cert.Kernel12Ideal.main (F := Bits) := id rfl

/-- The call over the words ends with its arguments unchanged and every counter at zero. -/
theorem frame_words : Cert.quiescent_Kernel12 (hKernel12 := Cert.Kernel12.Gen.facts) := by
  intro m ρ _
  rw [table_same, main_same]
  exact frame_kernel (F := Bits) m ρ

end Cert.FfnInWeights

namespace Cert.FfnOutWeights

open Idealize.ShloMosaic Idealize.SL.Sem

local instance : Cert.Kernel13.Facts := Cert.Kernel13.Gen.facts
local instance : Cert.Kernel13Ideal.Facts := Cert.Kernel13Ideal.Gen.facts

/-- The two tables of bodies are equal. -/
theorem body_same : Cert.Kernel13.defs₀ (F := Bits) = Cert.Kernel13Ideal.defs₀ (F := Bits) := by
  unfold Cert.Kernel13.defs₀ Cert.Kernel13Ideal.defs₀
  refine congrArg Defs.onTc ?_
  funext l a
  match l, a with
  | 0, (t, s) => exact id rfl

/-- The two tables of all labels are equal. -/
theorem table_same : Cert.Kernel13.defs (F := Bits) = Cert.Kernel13Ideal.defs (F := Bits) :=
  congrArg (Pipeline.defs _) body_same

/-- The two programs are equal. -/
theorem main_same : Cert.Kernel13.main (F := Bits) = Cert.Kernel13Ideal.main (F := Bits) := id rfl

/-- The call over the words ends with its arguments unchanged and every counter at zero. -/
theorem frame_words : Cert.quiescent_Kernel13 (hKernel13 := Cert.Kernel13.Gen.facts) := by
  intro m ρ _
  rw [table_same, main_same]
  exact frame_kernel (F := Bits) m ρ

end Cert.FfnOutWeights

end
-- ==== Proof.Step.lean ====
/- What one grid point of the attention backward call computes, as functions of the blocks it is given.

   A point handles 128 query rows.  The two kv heads are handled one after the other by the same text; a head's
   arrays stack the 128 rows of its four query heads, so a head has 512 rows.  `Head` holds a head's arrays, and the
   definitions on it are the head's results; `headAt` cuts a head's arrays out of the point's blocks. -/
module

public import proofs.«01_k».proof.Proof.Gen.KernelIdeal.Frame
public import proofs.«01_k».proof.Proof.Gen.KernelIdeal.Skeleton
public import Idealize.ShloMosaic.Lib.Pipeline.ValueKit
public import Idealize.ShloMosaic.Lib.Pointwise
public import Idealize.ShloMosaic.Lib.WritesUnit

@[expose] public section

set_option maxRecDepth 16384

noncomputable section

namespace Cert.AttnBwd

open Cert.KernelIdeal Cert.KernelIdeal.Gen
open Idealize.ShloMosaic Idealize.ShloMosaic.Tactic

variable {F : FTy → Type} [FloatOps F]

/-- The arrays of one kv head at one point: queries, saved outputs, cotangents, the window's keys and values, the
    context's keys and values, the bias table of the point and the sink column. -/
structure Head (F : FTy → Type) [FloatOps F] where
  /-- queries -/
  q : FVec F S512x64 .f32
  /-- saved outputs -/
  o : FVec F S512x64 .f32
  /-- cotangents -/
  d : FVec F S512x64 .f32
  /-- window keys -/
  k : FVec F S384x64 .f32
  /-- window values -/
  v : FVec F S384x64 .f32
  /-- context keys -/
  kc : FVec F S256x64 .f32
  /-- context values -/
  vc : FVec F S256x64 .f32
  /-- bias table -/
  b : FVec F S512x384 .f32
  /-- sink column -/
  s : FVec F S512x1 .f32

namespace Head

variable (e : Head F)

/-- Window weights. -/
def pw : FVec F S512x384 .f32 := k0_pay41 e.q e.k e.kc e.b e.s
/-- Context weights. -/
def pc : FVec F S512x256 .f32 := k0_pay42 e.q e.k e.kc e.b e.s
/-- Row sums of cotangent times output. -/
def dd : FVec F S512x1 .f32 := k0_pay43 e.o e.d
/-- Gradient of the window scores. -/
def dsw : FVec F S512x384 .f32 := k0_pay46 e.pw e.dd (k0_pay44 e.d) (k0_pay45 e.v) (constant S512x384 .f32 0#32)
/-- Gradient of the context scores. -/
def dsc : FVec F S512x256 .f32 := k0_pay47 e.vc e.d e.pc e.dd
/-- Gradient of the queries. -/
def dq : FVec F S512x64 .f32 :=
  k0_pay48 e.k e.kc e.vc e.d e.pw e.pc e.dd (k0_pay44 e.d) (k0_pay45 e.v) (constant S512x384 .f32 0#32)
/-- The head's part of the gradient of the window's keys. -/
def dk : FVec F S384x64 .f32 :=
  k0_pay49 (k0_pay33 e.q) e.pw e.dd (k0_pay44 e.d) (k0_pay45 e.v) (constant S512x384 .f32 0#32)
/-- The head's part of the gradient of the context's keys. -/
def dkc : FVec F S256x64 .f32 := k0_pay50 e.vc e.d (k0_pay33 e.q) e.pc e.dd
/-- The head's part of the gradient of the window's values. -/
def dv : FVec F S384x64 .f32 := k0_pay51 e.d e.pw
/-- The head's part of the gradient of the context's values. -/
def dvc : FVec F S256x64 .f32 := k0_pay52 e.d e.pc
/-- The sink's weight before the division by the row sum. -/
def ps : FVec F S512x1 .f32 := k0_pay39 e.q e.k e.kc e.b e.s
/-- One over the row sum of the weights. -/
def inv : FVec F S512x1 .f32 := k0_pay40 e.q e.k e.kc e.b e.s
/-- The gradient of the sink, row by row. -/
def dsk : FVec F S512x1 .f32 := k0_pay53 e.ps e.inv e.dd

end Head

/-- The number of the query head, among the head's four, that a stacked row belongs to. -/
def group : IVec S512x1 32 := k0_pay25 k0_pay23 k0_pay24

/-- The lane numbers of the sink row. -/
def lanes : IVec S1x8 32 := iota .tc S1x8 32 [1] iota_S1x8_d1_w32

/-- The point's addition to the gradient of the sink, after the first head. -/
def sinkFirst (e : Head F) : FVec F S1x8 .f32 :=
  k0_pay57 group lanes k0_pay32 e.dsk (k0_pay54 lanes) (k0_pay55 group e.ps e.inv e.dd) k0_pay56

/-- The point's addition to the gradient of the sink, after both heads. -/
def sinkBoth (e0 e1 : Head F) : FVec F S1x8 .f32 :=
  k0_pay83 group lanes e1.dsk (k0_pay80 group lanes (sinkFirst e0) e1.ps e1.inv e1.dd)
    (k0_pay81 group e1.ps e1.inv e1.dd) (k0_pay82 lanes)

/-! The second head's text computes the same functions as the first's. -/

section Second
variable (q o d : FVec F S512x64 .f32) (k v : FVec F S384x64 .f32) (kc vc : FVec F S256x64 .f32)
  (b : FVec F S512x384 .f32) (s : FVec F S512x1 .f32)

theorem second_dq : k0_pay74 kc (k0_pay71 k kc vc b o d s (k0_pay58 q) (k0_pay59 q))
    (k0_pay72 k v kc b o d s (k0_pay58 q) (k0_pay59 q)) (k0_pay73 k) (constant S512x64 .f32 0#32)
      = k0_pay48 k kc vc d (k0_pay41 q k kc b s) (k0_pay42 q k kc b s) (k0_pay43 o d) (k0_pay44 d) (k0_pay45 v)
          (constant S512x384 .f32 0#32) := rfl
theorem second_dk : k0_pay75 (k0_pay58 q) (k0_pay70 k v kc b o d s (k0_pay58 q) (k0_pay59 q))
      = k0_pay49 (k0_pay33 q) (k0_pay41 q k kc b s) (k0_pay43 o d) (k0_pay44 d) (k0_pay45 v) (constant S512x384 .f32 0#32) := rfl
theorem second_dkc : k0_pay76 (k0_pay58 q) (k0_pay71 k kc vc b o d s (k0_pay58 q) (k0_pay59 q))
      = k0_pay50 vc d (k0_pay33 q) (k0_pay42 q k kc b s) (k0_pay43 o d) := rfl
theorem second_dv : k0_pay77 d (k0_pay67 k kc b s (k0_pay58 q) (k0_pay59 q)) = k0_pay51 d (k0_pay41 q k kc b s) := rfl
theorem second_dvc : k0_pay78 d (k0_pay68 k kc b s (k0_pay58 q) (k0_pay59 q)) = k0_pay52 d (k0_pay42 q k kc b s) := rfl
theorem second_ps : k0_pay65 k kc b s (k0_pay58 q) (k0_pay59 q) = k0_pay39 q k kc b s := rfl
theorem second_inv : k0_pay66 k kc b s (k0_pay58 q) (k0_pay59 q) = k0_pay40 q k kc b s := rfl
theorem second_dsk (ps inv dd : FVec F S512x1 .f32) : k0_pay79 ps inv dd = k0_pay53 ps inv dd := rfl
theorem second_dd : k0_pay69 o d = k0_pay43 o d := rfl
end Second

/-- The rows of kv head `h`'s four query heads, stacked. -/
def stacked (h : Fin 2) (x : Vec F S128x512 .bf16) : FVec F S512x64 .f32 :=
  extf .f32 (fun j : S512x64.Idx => x (ix2 ⟨(j 0).val % 128, Nat.mod_lt _ (by decide)⟩
    ⟨256 * h.val + 64 * ((j 0).val / 128) + (j 1).val, by
      have h0 : (j 0).val < 512 := (j 0).isLt
      have h1 : (j 1).val < 64 := (j 1).isLt
      omega⟩)) bitsLt_bf16_f32

/-- The 384 rows of the padded array that point `n` reads, at kv head `h`. -/
def window (h : Fin 2) (n : Fin 64) (x : Vec F S8448x128 .bf16) : FVec F S384x64 .f32 :=
  extf .f32 (fun j : S384x64.Idx => x (ix2 ⟨128 * n.val + (j 0).val, by
      have h0 : (j 0).val < 384 := (j 0).isLt
      omega⟩ ⟨64 * h.val + (j 1).val, by
      have h1 : (j 1).val < 64 := (j 1).isLt
      omega⟩)) bitsLt_bf16_f32

/-- The context rows at kv head `h`. -/
def context (h : Fin 2) (x : Vec F S256x128 .bf16) : FVec F S256x64 .f32 :=
  extf .f32 (fun j : S256x64.Idx => x (ix2 (j 0) ⟨64 * h.val + (j 1).val, by
      have h1 : (j 1).val < 64 := (j 1).isLt
      omega⟩)) bitsLt_bf16_f32

/-- The sink column of kv head `h`. -/
def sinkCol (h : Fin 2) (x : Vec F S1x8 .f32) : FVec F S512x1 .f32 :=
  if h = 0 then k0_pay28 group (k0_pay26 x k0_pay23 k0_pay24) (k0_pay27 x) 3#32
  else k0_pay31 group (k0_pay29 x group lanes) (k0_pay30 x lanes)

/-- The arrays of kv head `h` at point `n`: the blocks are the cotangents, the outputs, the queries, the padded keys
    and values, the context's keys and values, the sink row and the bias table. -/
def headAt (h : Fin 2) (n : Fin 64) (x0 x1 x2 : Vec F S128x512 .bf16) (x3 x4 : Vec F S8448x128 .bf16)
    (x5 x6 : Vec F S256x128 .bf16) (x7 : Vec F S1x8 .f32) (x8 : Vec F S1x512x384 .f32) : Head F where
  q := stacked h x2
  o := stacked h x1
  d := stacked h x0
  k := window h n x3
  v := window h n x4
  kc := context h x5
  vc := context h x6
  b := k0_pay16 x8
  s := sinkCol h x7

/-! The loads of a point are those arrays. -/

theorem stack_four {x : Vec F S128x512 .bf16} (h : Fin 2) (a b c d : FVec F S128x64 .bf16)
    (hab : ∀ (g : Fin 4) (r : Fin 128) (l : Fin 64),
      (![a, b, c, d] g) (ix2 r l) = x (ix2 r ⟨256 * h.val + 64 * g.val + l.val, by omega⟩)) :
    concatenate S512x64 0 [⟨S128x64, extf .f32 a bitsLt_bf16_f32⟩, ⟨S128x64, extf .f32 b bitsLt_bf16_f32⟩,
      ⟨S128x64, extf .f32 c bitsLt_bf16_f32⟩, ⟨S128x64, extf .f32 d bitsLt_bf16_f32⟩]
      concatenates_S128x64_S128x64_S128x64_S128x64_S512x64_d0 = stacked h x := by
  funext j
  rw [eq_ix2 j]
  generalize hj0 : (j 0) = r
  generalize hj1 : (j 1) = l
  change Fin 512 at r
  change Fin 64 at l
  have key (g : Fin 4) (r' : Fin 128) (hr : r.val = 128 * g.val + r'.val) :
      FloatOps.extf .f32 bitsLt_bf16_f32 ((![a, b, c, d] g) (ix2 r' l))
        = FloatOps.extf .f32 bitsLt_bf16_f32 (x (ix2 ⟨r.val % 128, Nat.mod_lt _ (by decide)⟩
            ⟨256 * h.val + 64 * (r.val / 128) + l.val, by omega⟩)) := by
    rw [hab]
    congr 3 <;> (apply Fin.ext; simp only []; omega)
  pointwise [stacked]
  by_cases h1 : r.val < 128
  · rw [dif_pos h1]
    exact key 0 ⟨r.val, h1⟩ (by simp)
  rw [dif_neg h1]
  by_cases h2 : r.val - 128 < 128
  · rw [dif_pos h2]
    exact key 1 ⟨r.val - 128, h2⟩ (by simp; omega)
  rw [dif_neg h2]
  by_cases h3 : r.val - 128 - 128 < 128
  · rw [dif_pos h3]
    exact key 2 ⟨r.val - 128 - 128, h3⟩ (by simp; omega)
  rw [dif_neg h3]
  exact key 3 ⟨r.val - 128 - 128 - 128, by omega⟩ (by simp; omega)

omit [FloatOps F] in
/-- A load of 128 rows and 64 lanes from lane `o` on, at an index. -/
theorem ld_tile (x : Vec F S128x512 .bf16) (o : ℕ) (inb) (r : Fin 128) (l : Fin 64) (z : Fin 512) (hz : z.val = o + l.val) :
    View.ld (Val := Elt F) x (Rect.unit (s := S128x512) ![0, o] ![128, 64] inb) (ix2 r l) = x (ix2 r z) := by
  refine View.ld_unit_apply_of _ _ _ _ _ _ fun a => ?_
  match a with | 0 => exact (Nat.zero_add _).symm | 1 => exact hz

theorem ld_window (h : Fin 2) (n : Fin 64) (x : Vec F S8448x128 .bf16) (w : FVec F S384x64 .bf16)
    (off : Fin 2 → ℕ) (hoff : off = ![128 * n.val, 64 * h.val]) (inb)
    (hw : w = View.ld (Val := Elt F) x (Rect.unit (s := S8448x128) off ![384, 64] inb)) :
    extf .f32 (shapeCast S384x64 w shapeCasts_S384x64_S384x64) bitsLt_bf16_f32 = window h n x := by
  rw [shapeCast_self, hw]
  subst hoff
  unfold window
  congr 1
  funext j
  refine View.ld_unit_apply_of _ _ _ _ _ _ fun a => ?_
  match a with | 0 => rfl | 1 => rfl

theorem ld_context (h : Fin 2) (x : Vec F S256x128 .bf16) (w : FVec F S256x64 .bf16)
    (off : Fin 2 → ℕ) (hoff : off = ![0, 64 * h.val]) (inb)
    (hw : w = View.ld (Val := Elt F) x (Rect.unit (s := S256x128) off ![256, 64] inb)) :
    extf .f32 w bitsLt_bf16_f32 = context h x := by
  rw [hw]
  subst hoff
  unfold context
  congr 1
  funext j
  refine View.ld_unit_apply_of _ _ _ _ _ _ fun a => ?_
  match a with | 0 => exact (Nat.zero_add _).symm | 1 => rfl

section Rows
variable (x : Vec F S128x512 .bf16)

/-- The load of 128 rows and the 64 lanes from lane `o` on. -/
abbrev tile (o : ℕ) (inb : ∀ a, (![0, o] : Fin 2 → ℕ) a + (![128, 64] : Fin 2 → ℕ) a ≤ S128x512.size a) :
    FVec F S128x64 .bf16 := View.ld (Val := Elt F) x (Rect.unit (s := S128x512) ![0, o] ![128, 64] inb)

theorem tiles_first (i0 i1 i2 i3) (g : Fin 4) (r : Fin 128) (l : Fin 64) :
    (![tile x 0 i0, tile x 64 i1, tile x 128 i2, tile x 192 i3] g) (ix2 r l)
      = x (ix2 r ⟨256 * (0 : Fin 2).val + 64 * g.val + l.val, by omega⟩) := by
  match g with
  | 0 => exact ld_tile x 0 i0 r l _ (by simp)
  | 1 => exact ld_tile x 64 i1 r l _ (by simp)
  | 2 => exact ld_tile x 128 i2 r l _ (by simp)
  | 3 => exact ld_tile x 192 i3 r l _ (by simp)

theorem tiles_second (i0 i1 i2 i3) (g : Fin 4) (r : Fin 128) (l : Fin 64) :
    (![tile x 256 i0, tile x 320 i1, tile x 384 i2, tile x 448 i3] g) (ix2 r l)
      = x (ix2 r ⟨256 * (1 : Fin 2).val + 64 * g.val + l.val, by omega⟩) := by
  match g with
  | 0 => exact ld_tile x 256 i0 r l _ (by simp)
  | 1 => exact ld_tile x 320 i1 r l _ (by simp)
  | 2 => exact ld_tile x 384 i2 r l _ (by simp)
  | 3 => exact ld_tile x 448 i3 r l _ (by simp)

theorem rows_q0 (i0 i1 i2 i3) : k0_pay6 (tile x 0 i0) (tile x 64 i1) (tile x 128 i2) (tile x 192 i3) = stacked 0 x :=
  stack_four (x := x) 0 (tile x 0 i0) (tile x 64 i1) (tile x 128 i2) (tile x 192 i3) (tiles_first x i0 i1 i2 i3)
theorem rows_q1 (i0 i1 i2 i3) : k0_pay7 (tile x 256 i0) (tile x 320 i1) (tile x 384 i2) (tile x 448 i3) = stacked 1 x :=
  stack_four (x := x) 1 (tile x 256 i0) (tile x 320 i1) (tile x 384 i2) (tile x 448 i3) (tiles_second x i0 i1 i2 i3)
theorem rows_d0 (i0 i1 i2 i3) : k0_pay21 (tile x 0 i0) (tile x 64 i1) (tile x 128 i2) (tile x 192 i3) = stacked 0 x :=
  stack_four (x := x) 0 (tile x 0 i0) (tile x 64 i1) (tile x 128 i2) (tile x 192 i3) (tiles_first x i0 i1 i2 i3)
theorem rows_d1 (i0 i1 i2 i3) : k0_pay22 (tile x 256 i0) (tile x 320 i1) (tile x 384 i2) (tile x 448 i3) = stacked 1 x :=
  stack_four (x := x) 1 (tile x 256 i0) (tile x 320 i1) (tile x 384 i2) (tile x 448 i3) (tiles_second x i0 i1 i2 i3)
omit x in
theorem pay6_congr {a b c d a' b' c' d' : FVec F S128x64 .bf16} (ha : a' = a) (hb : b' = b) (hc : c' = c) (hd : d' = d) :
    k0_pay6 a' b' c' d' = k0_pay6 a b c d := by
  subst ha hb hc hd; rfl
omit x in
theorem pay17_eq (a b c d : FVec F S128x64 .bf16) : k0_pay17 a b c d = k0_pay6 a b c d :=
  pay6_congr (shapeCast_self _ _) (shapeCast_self _ _) (shapeCast_self _ _) (shapeCast_self _ _)
omit x in
theorem pay20_eq (a b c d : FVec F S128x64 .bf16) : k0_pay20 (k0_pay18 a) (k0_pay19 b) c d = k0_pay6 a b c d :=
  pay6_congr (shapeCast_self _ _) (shapeCast_self _ _) (shapeCast_self _ _) (shapeCast_self _ _)
theorem rows_o0 (i0 i1 i2 i3) : k0_pay17 (tile x 0 i0) (tile x 64 i1) (tile x 128 i2) (tile x 192 i3) = stacked 0 x :=
  (pay17_eq _ _ _ _).trans <| stack_four (x := x) 0 (tile x 0 i0) (tile x 64 i1) (tile x 128 i2) (tile x 192 i3) (tiles_first x i0 i1 i2 i3)
theorem rows_o1 (i0 i1 i2 i3) : k0_pay20 (k0_pay18 (tile x 256 i0)) (k0_pay19 (tile x 320 i1)) (tile x 384 i2) (tile x 448 i3)
    = stacked 1 x :=
  (pay20_eq _ _ _ _).trans <| stack_four (x := x) 1 (tile x 256 i0) (tile x 320 i1) (tile x 384 i2) (tile x 448 i3) (tiles_second x i0 i1 i2 i3)
end Rows

/-! ## What a point leaves in the results' buffers -/

/-- The queries' gradient of both heads, back in the layout of the array: bf16. -/
def outDq (e : Fin 2 → Head F) : Vec F S128x512 .bf16 := fun y =>
  truncf .bf16 (e ⟨(y 1).val / 256, by
    have h1 : (y 1).val < 512 := (y 1).isLt
    omega⟩).dq bitsLt_bf16_f32 (ix2 ⟨128 * ((y 1).val / 64 % 4) + (y 0).val, by
      have h0 : (y 0).val < 128 := (y 0).isLt
      omega⟩ ⟨(y 1).val % 64, Nat.mod_lt _ (by decide)⟩)

/-- `y` with both heads' 384 rows added at the rows of point `n`. -/
def addRows (n : Fin 64) (P : Fin 2 → FVec F S384x64 .f32) (y : Vec F S8448x128 .f32) : Vec F S8448x128 .f32 := fun j =>
  if h : 128 * n.val ≤ (j 0).val ∧ (j 0).val < 128 * n.val + 384 then
    FloatOps.addf (y j) (P ⟨(j 1).val / 64, by
      have h1 : (j 1).val < 128 := (j 1).isLt
      omega⟩ (ix2 ⟨(j 0).val - 128 * n.val, by omega⟩ ⟨(j 1).val % 64, Nat.mod_lt _ (by decide)⟩))
  else y j

/-- `y` with both heads' 256 rows added. -/
def addCols (P : Fin 2 → FVec F S256x64 .f32) (y : Vec F S256x128 .f32) : Vec F S256x128 .f32 := fun j =>
  FloatOps.addf (y j) (P ⟨(j 1).val / 64, by
    have h1 : (j 1).val < 128 := (j 1).isLt
    omega⟩ (ix2 (j 0) ⟨(j 1).val % 64, Nat.mod_lt _ (by decide)⟩))

section Read
variable {κ : Kind} {sp : Space}

/-- A read after a store of a rectangle of a matrix: the store's value inside, what was there before outside. -/
theorem read_step {R C : ℕ} {t : EltTy} (v : View sig κ sp ⟨2, ![R, C]⟩ t) (f : v.ty.Contents (Elt F)) (r c n m : ℕ)
    (inb) (w : (⟨2, ![n, m]⟩ : Shape).Idx → Elt F t) (L : List (View.Piece (Elt F) ⟨2, ![R, C]⟩ t))
    (y : (⟨2, ![R, C]⟩ : Shape).Idx) :
    v.read (Elt F) (v.writes (Elt F) f (⟨Rect.unit (s := ⟨2, ![R, C]⟩) ![r, c] ![n, m] inb, w⟩ :: L)) y
      = if h : (r ≤ (y 0).val ∧ (y 0).val < r + n) ∧ (c ≤ (y 1).val ∧ (y 1).val < c + m) then
          w (ix2 ⟨(y 0).val - r, by omega⟩ ⟨(y 1).val - c, by omega⟩)
        else v.read (Elt F) (v.writes (Elt F) f L) y := by
  split_ifs with h
  · refine View.read_writes_cons_unit_of_mem v f inb w L y _ rfl fun a => ?_
    match a with
    | 0 => exact (Nat.add_sub_cancel' h.1.1).symm
    | 1 => exact (Nat.add_sub_cancel' h.2.1).symm
  · by_cases h0 : r ≤ (y 0).val ∧ (y 0).val < r + n
    · refine View.read_writes_cons_unit_of_not_mem v f inb w L y rfl 1 ?_
      show (y 1).val < c ∨ c + m ≤ (y 1).val
      omega
    · refine View.read_writes_cons_unit_of_not_mem v f inb w L y rfl 0 ?_
      show (y 0).val < r ∨ r + n ≤ (y 0).val
      omega

/-- The same over tiles of 64 lanes stored from the last to the first: the claim at the tiles before is all that is left. -/
theorem read_lanes (v : View sig κ sp S128x512 .bf16) (f : v.ty.Contents (Elt F)) (k o : ℕ) (ho : o = 64 * k) (inb)
    (w : S128x64.Idx → Elt F .bf16) (L : List (View.Piece (Elt F) S128x512 .bf16)) (G : Vec F S128x512 .bf16) (y : S128x512.Idx)
    (hw : ∀ (a : Fin 128) (b : Fin 64) (z : Fin 512), z.val = 64 * k + b.val → w (ix2 a b) = G (ix2 a z))
    (hL : (y 1).val < 64 * k → v.read (Elt F) (v.writes (Elt F) f L) y = G y) (hy : (y 1).val < 64 * (k + 1)) :
    v.read (Elt F) (v.writes (Elt F) f (⟨Rect.unit (s := S128x512) ![0, o] ![128, 64] inb, w⟩ :: L)) y = G y := by
  subst ho
  have h0 : (y 0).val < 128 := (y 0).isLt
  rw [read_step]
  split_ifs with h
  · refine (hw _ _ (y 1) ?_).trans (congrArg G ?_)
    · show (y 1).val = 64 * k + ((y 1).val - 64 * k)
      omega
    · exact ix2_eta y
  · exact hL (by omega)

theorem read_eight (v : View sig κ sp S128x512 .bf16) (f : v.ty.Contents (Elt F)) (e : Fin 2 → Head F)
    (i0 i1 i2 i3 i4 i5 i6 i7) :
    v.read (Elt F) (v.writes (Elt F) f
      [⟨Rect.unit (s := S128x512) ![0, 448] ![128, 64] i7, k0_pay95 (e 1).dq⟩,
       ⟨Rect.unit (s := S128x512) ![0, 384] ![128, 64] i6, k0_pay94 (e 1).dq⟩,
       ⟨Rect.unit (s := S128x512) ![0, 320] ![128, 64] i5, k0_pay93 (e 1).dq⟩,
       ⟨Rect.unit (s := S128x512) ![0, 256] ![128, 64] i4, k0_pay92 (e 1).dq⟩,
       ⟨Rect.unit (s := S128x512) ![0, 192] ![128, 64] i3, k0_pay87 (e 0).dq⟩,
       ⟨Rect.unit (s := S128x512) ![0, 128] ![128, 64] i2, k0_pay86 (e 0).dq⟩,
       ⟨Rect.unit (s := S128x512) ![0, 64] ![128, 64] i1, k0_pay85 (e 0).dq⟩,
       ⟨Rect.unit (s := S128x512) ![0, 0] ![128, 64] i0, k0_pay84 (e 0).dq⟩]) = outDq e := by
  have key (h : Fin 2) (g : Fin 4) (w : FVec F S128x64 .bf16)
      (hw : ∀ a b, w (ix2 a b) = truncf .bf16 (e h).dq bitsLt_bf16_f32 (ix2 ⟨128 * g.val + a.val, by omega⟩ b))
      (a : Fin 128) (b : Fin 64) (z : Fin 512) (hz : z.val = 64 * (4 * h.val + g.val) + b.val) :
      w (ix2 a b) = outDq e (ix2 a z) := by
    rw [hw]
    unfold outDq
    simp only [ix2_0, ix2_1]
    have h1 : (⟨z.val / 256, by omega⟩ : Fin 2) = h := Fin.ext (by simp only []; omega)
    rw [h1]
    congr 2 <;> (apply Fin.ext; simp only []; omega)
  funext y
  have hy : (y 1).val < 512 := (y 1).isLt
  refine read_lanes v f 7 _ rfl _ _ _ _ y (key 1 3 _ fun a b => ?_) (fun hy => ?_) hy
  · pointwise [k0_pay95]
  refine read_lanes v f 6 _ rfl _ _ _ _ y (key 1 2 _ fun a b => ?_) (fun hy => ?_) hy
  · pointwise [k0_pay94]
  refine read_lanes v f 5 _ rfl _ _ _ _ y (key 1 1 _ fun a b => ?_) (fun hy => ?_) hy
  · pointwise [k0_pay93]
  refine read_lanes v f 4 _ rfl _ _ _ _ y (key 1 0 _ fun a b => ?_) (fun hy => ?_) hy
  · pointwise [k0_pay92]
  refine read_lanes v f 3 _ rfl _ _ _ _ y (key 0 3 _ fun a b => ?_) (fun hy => ?_) hy
  · pointwise [k0_pay87]
  refine read_lanes v f 2 _ rfl _ _ _ _ y (key 0 2 _ fun a b => ?_) (fun hy => ?_) hy
  · pointwise [k0_pay86]
  refine read_lanes v f 1 _ rfl _ _ _ _ y (key 0 1 _ fun a b => ?_) (fun hy => ?_) hy
  · pointwise [k0_pay85]
  refine read_lanes v f 0 _ rfl _ _ _ _ y (key 0 0 _ fun a b => ?_) (fun hy => ?_) hy
  · pointwise [k0_pay84]
  exact absurd hy (Nat.not_lt_zero _)

/-- A load of a rectangle of a matrix, at an index. -/
theorem ld_sub {R C : ℕ} {t : EltTy} (X : (⟨2, ![R, C]⟩ : Shape).Idx → Elt F t) (r c n m : ℕ) (inb) (a : Fin n) (b : Fin m)
    (hr : r + a.val < R) (hc : c + b.val < C) :
    View.ld (Val := Elt F) X (Rect.unit (s := ⟨2, ![R, C]⟩) ![r, c] ![n, m] inb) (ix2 a b) = X (ix2 ⟨r + a.val, hr⟩ ⟨c + b.val, hc⟩) := by
  refine View.ld_unit_apply_of _ _ _ _ _ _ fun a => ?_
  match a with | 0 => rfl | 1 => rfl

/-- A store of the whole matrix is what a read finds. -/
theorem read_whole {R C : ℕ} {t : EltTy} (v : View sig κ sp ⟨2, ![R, C]⟩ t) (f : v.ty.Contents (Elt F)) (inb)
    (w : (⟨2, ![R, C]⟩ : Shape).Idx → Elt F t) (L : List (View.Piece (Elt F) ⟨2, ![R, C]⟩ t)) :
    v.read (Elt F) (v.writes (Elt F) f (⟨Rect.unit (s := ⟨2, ![R, C]⟩) ![0, 0] ![R, C] inb, w⟩ :: L)) = w := by
  funext y
  have h0 : (y 0).val < R := (y 0).isLt
  have h1 : (y 1).val < C := (y 1).isLt
  rw [read_step, dif_pos (by omega)]
  exact congrArg w (ix2_eta y)

/-- Two stores side by side, each adding a head's rows to what was there. -/
theorem read_two {R : ℕ} (v : View sig κ sp ⟨2, ![R, 128]⟩ .f32) (f : v.ty.Contents (Elt F)) (r n : ℕ) (i0 i1)
    (w0 w1 : (⟨2, ![n, 64]⟩ : Shape).Idx → Elt F .f32) (L : List (View.Piece (Elt F) ⟨2, ![R, 128]⟩ .f32))
    (y : (⟨2, ![R, 128]⟩ : Shape).Idx → Elt F .f32) (P : Fin 2 → FVec F ⟨2, ![n, 64]⟩ .f32)
    (hy : v.read (Elt F) (v.writes (Elt F) f L) = y)
    (h0 : ∀ (a : Fin n) (b : Fin 64) (hr : r + a.val < R) (hc : 0 + b.val < 128),
      w0 (ix2 a b) = FloatOps.addf (y (ix2 ⟨r + a.val, hr⟩ ⟨0 + b.val, hc⟩)) (P 0 (ix2 a b)))
    (h1 : ∀ (a : Fin n) (b : Fin 64) (hr : r + a.val < R) (hc : 64 + b.val < 128),
      w1 (ix2 a b) = FloatOps.addf (y (ix2 ⟨r + a.val, hr⟩ ⟨64 + b.val, hc⟩)) (P 1 (ix2 a b)))
    (j : (⟨2, ![R, 128]⟩ : Shape).Idx) (hj : (j 1).val < 128) :
    v.read (Elt F) (v.writes (Elt F) f (⟨Rect.unit (s := ⟨2, ![R, 128]⟩) ![r, 64] ![n, 64] i1, w1⟩
      :: ⟨Rect.unit (s := ⟨2, ![R, 128]⟩) ![r, 0] ![n, 64] i0, w0⟩ :: L)) j
      = if h : r ≤ (j 0).val ∧ (j 0).val < r + n then
          FloatOps.addf (y j) (P ⟨(j 1).val / 64, by omega⟩
            (ix2 ⟨(j 0).val - r, by omega⟩ ⟨(j 1).val % 64, Nat.mod_lt _ (by decide)⟩))
        else y j := by
  have hj0 : (j 0).val < R := (j 0).isLt
  rw [read_step]
  by_cases h : r ≤ (j 0).val ∧ (j 0).val < r + n
  · rw [dif_pos h]
    by_cases hc : 64 ≤ (j 1).val
    · rw [dif_pos (by omega), h1 _ _ (by simp only []; omega) (by simp only []; omega)]
      congr 1
      · congr 1
        refine Eq.trans ?_ (ix2_eta j)
        congr 1 <;> (apply Fin.ext; simp only []; omega)
      · have : (⟨(j 1).val / 64, by omega⟩ : Fin 2) = 1 := Fin.ext (by simp only [Fin.val_one]; omega)
        rw [this]
        congr 2
        apply Fin.ext; simp only []; omega
    · rw [dif_neg (by omega), read_step, dif_pos (by omega), h0 _ _ (by simp only []; omega) (by simp only []; omega)]
      congr 1
      · congr 1
        refine Eq.trans ?_ (ix2_eta j)
        congr 1 <;> (apply Fin.ext; simp only []; omega)
      · have : (⟨(j 1).val / 64, by omega⟩ : Fin 2) = 0 := Fin.ext (by simp only [Fin.val_zero]; omega)
        rw [this]
        congr 2
        apply Fin.ext; simp only []; omega
  · rw [dif_neg h, dif_neg (by omega), read_step, dif_neg (by omega), hy]

end Read

/-- The point's number, as an element of `Fin 64`. -/
def pt (i : grid0.Coords) : Fin 64 := ⟨(i 0).val, (i 0).isLt⟩

/-- The first row that a point reads and adds to: 128 times its number. -/
theorem row_start (m : ℕ) (hm : m < 64) :
    BitVec.toNat (Scalar.indexCast (Scalar.muli (BitVec.ofNat 32 m) 128#32)) = 128 * m := by
  show (BitVec.ofNat 32 m * 128#32).toNat = 128 * m
  rw [BitVec.toNat_mul, BitVec.toNat_ofNat, BitVec.toNat_ofNat]
  omega

/-! The loads of a point in the form its text gives them. -/

section Loads
variable {m : ℕ} (hm : m < 64)
include hm

theorem load_k0 (x : Vec F S8448x128 .bf16) (inb) :
    k0_pay8 (View.ld (Val := Elt F) x (Rect.unit (s := S8448x128) ![BitVec.toNat (Scalar.indexCast (Scalar.muli (BitVec.ofNat 32 m) 128#32)), 0] ![384, 64] inb)) = window 0 ⟨m, hm⟩ x :=
  ld_window 0 ⟨m, hm⟩ x _ _ (by rw [row_start m hm]; rfl) inb rfl
theorem load_k1 (x : Vec F S8448x128 .bf16) (inb) :
    k0_pay9 (View.ld (Val := Elt F) x (Rect.unit (s := S8448x128) ![BitVec.toNat (Scalar.indexCast (Scalar.muli (BitVec.ofNat 32 m) 128#32)), 64] ![384, 64] inb)) = window 1 ⟨m, hm⟩ x :=
  ld_window 1 ⟨m, hm⟩ x _ _ (by rw [row_start m hm]; rfl) inb rfl
theorem load_v0 (x : Vec F S8448x128 .bf16) (inb) :
    k0_pay10 (View.ld (Val := Elt F) x (Rect.unit (s := S8448x128) ![BitVec.toNat (Scalar.indexCast (Scalar.muli (BitVec.ofNat 32 m) 128#32)), 0] ![384, 64] inb)) = window 0 ⟨m, hm⟩ x :=
  ld_window 0 ⟨m, hm⟩ x _ _ (by rw [row_start m hm]; rfl) inb rfl
theorem load_v1 (x : Vec F S8448x128 .bf16) (inb) :
    k0_pay11 (View.ld (Val := Elt F) x (Rect.unit (s := S8448x128) ![BitVec.toNat (Scalar.indexCast (Scalar.muli (BitVec.ofNat 32 m) 128#32)), 64] ![384, 64] inb)) = window 1 ⟨m, hm⟩ x :=
  ld_window 1 ⟨m, hm⟩ x _ _ (by rw [row_start m hm]; rfl) inb rfl
end Loads

section Loads

theorem load_kc0 (x : Vec F S256x128 .bf16) (inb) :
    k0_pay12 (View.ld (Val := Elt F) x (Rect.unit (s := S256x128) ![0, 0] ![256, 64] inb)) = context 0 x :=
  ld_context 0 x _ _ rfl inb rfl
theorem load_kc1 (x : Vec F S256x128 .bf16) (inb) :
    k0_pay13 (View.ld (Val := Elt F) x (Rect.unit (s := S256x128) ![0, 64] ![256, 64] inb)) = context 1 x :=
  ld_context 1 x _ _ rfl inb rfl
theorem load_vc0 (x : Vec F S256x128 .bf16) (inb) :
    k0_pay14 (View.ld (Val := Elt F) x (Rect.unit (s := S256x128) ![0, 0] ![256, 64] inb)) = context 0 x :=
  ld_context 0 x _ _ rfl inb rfl
theorem load_vc1 (x : Vec F S256x128 .bf16) (inb) :
    k0_pay15 (View.ld (Val := Elt F) x (Rect.unit (s := S256x128) ![0, 64] ![256, 64] inb)) = context 1 x :=
  ld_context 1 x _ _ rfl inb rfl

omit [FloatOps F] in
theorem load_sink {t : EltTy} (x : S1x8.Idx → Elt F t) (inb) :
    View.ld (Val := Elt F) x (Rect.unit (s := S1x8) ![0, 0] ![1, 8] inb) = x := by
  funext y
  refine View.ld_unit_apply_of _ _ _ _ _ _ fun a => ?_
  match a with | 0 => exact (Nat.zero_add _).symm | 1 => exact (Nat.zero_add _).symm

omit [FloatOps F] in
theorem load_bias (x : Vec F S1x512x384 .f32) (inb) :
    View.ld (Val := Elt F) x (Rect.unit (s := S1x512x384) ![0, 0, 0] ![1, 512, 384] inb) = x := by
  funext y
  refine View.ld_unit_apply_of _ _ _ _ _ _ fun a => ?_
  match a with | 0 => exact (Nat.zero_add _).symm | 1 => exact (Nat.zero_add _).symm | 2 => exact (Nat.zero_add _).symm

theorem load_s0 (x : Vec F S1x8 .f32) :
    k0_pay28 (k0_pay25 k0_pay23 k0_pay24) (k0_pay26 x k0_pay23 k0_pay24) (k0_pay27 x) 3#32 = sinkCol 0 x := rfl
theorem load_s1 (x : Vec F S1x8 .f32) :
    k0_pay31 (k0_pay25 k0_pay23 k0_pay24) (k0_pay29 x (k0_pay25 k0_pay23 k0_pay24) (iota .tc S1x8 32 [1] iota_S1x8_d1_w32))
      (k0_pay30 x (iota .tc S1x8 32 [1] iota_S1x8_d1_w32)) = sinkCol 1 x := rfl

end Loads

theorem add_window (P : FVec F S384x64 .f32) (y : Vec F S384x64 .f32) (j : S384x64.Idx) :
    k0_pay88 P y j = FloatOps.addf (y j) (P j) :=
  congrArg (FloatOps.addf · (P j)) (congrFun (shapeCast_self y _) j)
theorem add_context (P : FVec F S256x64 .f32) (y : Vec F S256x64 .f32) (j : S256x64.Idx) :
    k0_pay90 P y j = FloatOps.addf (y j) (P j) :=
  congrArg (FloatOps.addf · (P j)) (congrFun (shapeCast_self y _) j)

/-- Both heads of a point. -/
abbrev heads (n : Fin 64) (x0 x1 x2 : Vec F S128x512 .bf16) (x3 x4 : Vec F S8448x128 .bf16)
    (x5 x6 : Vec F S256x128 .bf16) (x7 : Vec F S1x8 .f32) (x8 : Vec F S1x512x384 .f32) (h : Fin 2) : Head F :=
  headAt h n x0 x1 x2 x3 x4 x5 x6 x7 x8

/-- What a load of the first head's lanes finds in the rows of a point is what was there before the point. -/
theorem rows_before {R n : ℕ} (y : (⟨2, ![R, 128]⟩ : Shape).Idx → Elt F .f32) (r c : ℕ) (inb) (a : Fin n) (b : Fin 64)
    (hr : r + a.val < R) (hc : c + b.val < 128) {κ : Kind} {sp : Space} (v : View sig κ sp ⟨2, ![R, 128]⟩ .f32)
    (f : v.ty.Contents (Elt F)) (i0) (w0 : (⟨2, ![n, 64]⟩ : Shape).Idx → Elt F .f32)
    (L : List (View.Piece (Elt F) ⟨2, ![R, 128]⟩ .f32)) (hy : v.read (Elt F) (v.writes (Elt F) f L) = y) (h64 : 64 ≤ c) :
    View.ld (Val := Elt F) (v.read (Elt F) (v.writes (Elt F) f
        (⟨Rect.unit (s := ⟨2, ![R, 128]⟩) ![r, 0] ![n, 64] i0, w0⟩ :: L)))
      (Rect.unit (s := ⟨2, ![R, 128]⟩) ![r, c] ![n, 64] inb) (ix2 a b) = y (ix2 ⟨r + a.val, hr⟩ ⟨c + b.val, hc⟩) := by
  rw [ld_sub _ _ _ _ _ _ _ _ hr hc, read_step, dif_neg, hy]
  simp only [ix2_0, ix2_1]
  omega

theorem addRows_of (n : Fin 64) (P : Fin 2 → FVec F S384x64 .f32) (y : Vec F S8448x128 .f32) (j : S8448x128.Idx) (r : ℕ)
    (hr : r = 128 * n.val) (hj : (j 1).val < 128) :
    (if h : r ≤ (j 0).val ∧ (j 0).val < r + 384 then
      FloatOps.addf (y j) (P ⟨(j 1).val / 64, by omega⟩
        (ix2 ⟨(j 0).val - r, by omega⟩ ⟨(j 1).val % 64, Nat.mod_lt _ (by decide)⟩))
    else y j) = addRows n P y j := by
  subst hr; rfl

theorem addCols_of (P : Fin 2 → FVec F S256x64 .f32) (y : Vec F S256x128 .f32) (j : S256x128.Idx) (hj : (j 1).val < 128) :
    (if h : 0 ≤ (j 0).val ∧ (j 0).val < 0 + 256 then
      FloatOps.addf (y j) (P ⟨(j 1).val / 64, by omega⟩
        (ix2 ⟨(j 0).val - 0, by omega⟩ ⟨(j 1).val % 64, Nat.mod_lt _ (by decide)⟩))
    else y j) = addCols P y j := by
  have h0 : (j 0).val < 256 := (j 0).isLt
  rw [dif_pos ⟨Nat.zero_le _, by omega⟩]
  rfl

end Cert.AttnBwd

end
-- ==== Proof.Cases.lean ====
module

public import proofs.«01_k».proof.Proof.Gen.KernelIdeal.Frame
public import proofs.«01_k».proof.Proof.Gen.KernelIdeal.Skeleton
public import Idealize.ShloMosaic.Lib.Pipeline.ValueKit
public import Idealize.ShloMosaic.Lib.WritesUnit

@[expose] public section

set_option maxRecDepth 16384

/-!
# Which points start the accumulators

The kernel runs over 64 points, 128 rows of queries each.  At the first it clears the five accumulated results; at
every other it adds to what the point before left.
-/

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body's condition at a point: the point is the first. -/
abbrev cond0_0 (i : grid0.Coords) : Prop := (Scalar.cmpi .ne (Scalar.extui (Scalar.cmpi .eq (BitVec.ofNat 32 (i 0).val) 0#32)) 0#32) = 1#1

/-- The condition holds at the first point and at no other. -/
theorem is_first : ∀ t : Fin cfg0.N, cond0_0 (grid0.coords t) ↔ t.val = 0 := by
  intro t
  have ht : t.val < 64 := Nat.lt_of_lt_of_eq t.isLt N_0
  have e0 : (grid0.coords t 0).val = t.val / 1 % 64 := Pipeline.Grid.coords_val t 0 (by decide) rfl
  rw [Nat.div_one, Nat.mod_eq_of_lt ht] at e0
  simp only [cond0_0, e0]; word_cmp

/-- The coordinate of a point is its number. -/
theorem coord_val (t : Fin cfg0.N) : (grid0.coords t 0).val = t.val := by
  have ht : t.val < 64 := Nat.lt_of_lt_of_eq t.isLt N_0
  have e0 : (grid0.coords t 0).val = t.val / 1 % 64 := Pipeline.Grid.coords_val t 0 (by decide) rfl
  rw [Nat.div_one, Nat.mod_eq_of_lt ht] at e0
  exact e0

end Cert.AttnBwd

end
-- ==== Proof.RunFirst.lean ====
module

public import proofs.«01_k».proof.Proof.Step
public import proofs.«01_k».proof.Proof.Cases
public import proofs.«01_k».proof.Proof.Gen.KernelIdeal.Skeleton
public import Idealize.ShloMosaic.Lib.Pipeline.ValueKit
public import Idealize.ShloMosaic.Lib.WritesUnit

@[expose] public section

set_option maxRecDepth 16384

/-!
# The kernel's body at the first point

The six results' blocks after the body at the point that clears the accumulators, in the words of `Step`: the block of
`dq`, and the five accumulated arrays as the first addition to zeros.
-/

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- One run of the body at the first point. -/
theorem first_point (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x8 .f32) (harg8 : arg8.IsWhole) (arg9 : Memref sig .tc .vmem S1x512x384 .f32) (harg9 : arg9.IsWhole) (arg10 : Memref sig .tc .vmem S128x512 .bf16) (harg10 : arg10.IsWhole) (arg11 : Memref sig .tc .vmem S8448x128 .f32) (harg11 : arg11.IsWhole) (arg12 : Memref sig .tc .vmem S8448x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x8 .f32) (harg15 : arg15.IsWhole) (hc0 : cond0_0 i)
    (x0 : Vec F S128x512 .bf16) (x1 : Vec F S128x512 .bf16) (x2 : Vec F S128x512 .bf16) (x3 : Vec F S8448x128 .bf16) (x4 : Vec F S8448x128 .bf16) (x5 : Vec F S256x128 .bf16) (x6 : Vec F S256x128 .bf16) (x7 : Vec F S1x8 .f32) (x8 : Vec F S1x512x384 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outDq (heads (pt i) x0 x1 x2 x3 x4 x5 x6 x7 x8)) ∗ owns (c : Thread nD τ) arg11 fullShare (addRows (pt i) (fun h => ((heads (pt i) x0 x1 x2 x3 x4 x5 x6 x7 x8) h).dk) k0_pay1) ∗ owns (c : Thread nD τ) arg12 fullShare (addRows (pt i) (fun h => ((heads (pt i) x0 x1 x2 x3 x4 x5 x6 x7 x8) h).dv) k0_pay2) ∗ owns (c : Thread nD τ) arg13 fullShare (addCols (fun h => ((heads (pt i) x0 x1 x2 x3 x4 x5 x6 x7 x8) h).dkc) k0_pay3) ∗ owns (c : Thread nD τ) arg14 fullShare (addCols (fun h => ((heads (pt i) x0 x1 x2 x3 x4 x5 x6 x7 x8) h).dvc) k0_pay4) ∗ owns (c : Thread nD τ) arg15 fullShare (k0_pay100 (sinkBoth ((heads (pt i) x0 x1 x2 x3 x4 x5 x6 x7 x8) 0) ((heads (pt i) x0 x1 x2 x3 x4 x5 x6 x7 x8) 1)) k0_pay5)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_attn_bwd_eq_skeleton]; unfold cc0_attn_bwd_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap; · iexact H9
      ipureintro
      sl_unfold_words
      simp only [View.readAt_eq_ld, Memref.IsWhole.read_unread, View.readCov, rows_q0, rows_q1, rows_d0, rows_d1, rows_o0, rows_o1,
        load_kc0, load_kc1, load_vc0, load_vc1, load_sink, load_bias, load_s0]
      erw [load_k0, load_k1, load_v0, load_v1, load_s1]
      pick_goal 2; exact (i 0).isLt
      pick_goal 2; exact (i 0).isLt
      pick_goal 2; exact (i 0).isLt
      pick_goal 2; exact (i 0).isLt
      simp only [second_dq, second_dk, second_dkc, second_dv, second_dvc, second_ps, second_inv, second_dd, second_dsk]
      exact read_eight _ _ (heads (pt i) x0 x1 x2 x3 x4 x5 x6 x7 x8) _ _ _ _ _ _ _ _
    isplitl [H10]
    · iexists _; isplitr; swap; · iexact H10
      ipureintro
      sl_unfold_words
      simp only [View.readAt_eq_ld, Memref.IsWhole.read_unread, View.readCov, rows_q0, rows_q1, rows_d0, rows_d1, rows_o0, rows_o1,
        load_kc0, load_kc1, load_vc0, load_vc1, load_sink, load_bias, load_s0]
      erw [load_k0, load_k1, load_v0, load_v1, load_s1]
      pick_goal 2; exact (i 0).isLt
      pick_goal 2; exact (i 0).isLt
      pick_goal 2; exact (i 0).isLt
      pick_goal 2; exact (i 0).isLt
      simp only [second_dq, second_dk, second_dkc, second_dv, second_dvc, second_ps, second_inv, second_dd, second_dsk]
      funext j
      refine (read_two _ _ _ _ _ _ _ _ _ (k0_pay1) (fun h => (heads (pt i) x0 x1 x2 x3 x4 x5 x6 x7 x8 h).dk) (read_whole _ _ _ _ _) (fun a b hr hc => ?_) (fun a b hr hc => ?_) j (j 1).isLt).trans ?_
      · exact (add_window (F := F) _ _ _).trans (congrArg (fun u : F .f32 => FloatOps.addf u _) ((ld_sub _ _ _ _ _ _ _ _ hr hc).trans (congrFun (read_whole _ _ _ _ _) _)))
      · exact (add_window (F := F) _ _ _).trans (congrArg (fun u : F .f32 => FloatOps.addf u _) (rows_before _ _ _ _ _ _ hr hc _ _ _ _ _ (read_whole _ _ _ _ _) (by decide)))
      · exact addRows_of (F := F) (pt i) (fun h => (heads (pt i) x0 x1 x2 x3 x4 x5 x6 x7 x8 h).dk) k0_pay1 j _ (row_start _ (i 0).isLt) (j 1).isLt
    isplitl [H11]
    · iexists _; isplitr; swap; · iexact H11
      ipureintro
      sl_unfold_words
      simp only [View.readAt_eq_ld, Memref.IsWhole.read_unread, View.readCov, rows_q0, rows_q1, rows_d0, rows_d1, rows_o0, rows_o1,
        load_kc0, load_kc1, load_vc0, load_vc1, load_sink, load_bias, load_s0]
      erw [load_k0, load_k1, load_s1]
      pick_goal 2; exact (i 0).isLt
      pick_goal 2; exact (i 0).isLt
      simp only [second_dq, second_dk, second_dkc, second_dv, second_dvc, second_ps, second_inv, second_dd, second_dsk]
      funext j
      refine (read_two _ _ _ _ _ _ _ _ _ (k0_pay2) (fun h => (heads (pt i) x0 x1 x2 x3 x4 x5 x6 x7 x8 h).dv) (read_whole _ _ _ _ _) (fun a b hr hc => ?_) (fun a b hr hc => ?_) j (j 1).isLt).trans ?_
      · exact (add_window (F := F) _ _ _).trans (congrArg (fun u : F .f32 => FloatOps.addf u _) ((ld_sub _ _ _ _ _ _ _ _ hr hc).trans (congrFun (read_whole _ _ _ _ _) _)))
      · exact (add_window (F := F) _ _ _).trans (congrArg (fun u : F .f32 => FloatOps.addf u _) (rows_before _ _ _ _ _ _ hr hc _ _ _ _ _ (read_whole _ _ _ _ _) (by decide)))
      · exact addRows_of (F := F) (pt i) (fun h => (heads (pt i) x0 x1 x2 x3 x4 x5 x6 x7 x8 h).dv) k0_pay2 j _ (row_start _ (i 0).isLt) (j 1).isLt
    isplitl [H12]
    · iexists _; isplitr; swap; · iexact H12
      ipureintro
      sl_unfold_words
      simp only [View.readAt_eq_ld, Memref.IsWhole.read_unread, View.readCov, rows_q0, rows_q1, rows_d0, rows_d1, rows_o0, rows_o1,
        load_kc0, load_kc1, load_vc0, load_vc1, load_sink, load_bias, load_s0]
      erw [load_k0, load_k1, load_s1]
      pick_goal 2; exact (i 0).isLt
      pick_goal 2; exact (i 0).isLt
      simp only [second_dq, second_dk, second_dkc, second_dv, second_dvc, second_ps, second_inv, second_dd, second_dsk]
      funext j
      refine (read_two _ _ _ _ _ _ _ _ _ (k0_pay3) (fun h => (heads (pt i) x0 x1 x2 x3 x4 x5 x6 x7 x8 h).dkc) (read_whole _ _ _ _ _) (fun a b hr hc => ?_) (fun a b hr hc => ?_) j (j 1).isLt).trans ?_
      · exact (add_context (F := F) _ _ _).trans (congrArg (fun u : F .f32 => FloatOps.addf u _) ((ld_sub _ _ _ _ _ _ _ _ hr hc).trans (congrFun (read_whole _ _ _ _ _) _)))
      · exact (add_context (F := F) _ _ _).trans (congrArg (fun u : F .f32 => FloatOps.addf u _) (rows_before _ _ _ _ _ _ hr hc _ _ _ _ _ (read_whole _ _ _ _ _) (by decide)))
      · exact addCols_of (F := F) (fun h => (heads (pt i) x0 x1 x2 x3 x4 x5 x6 x7 x8 h).dkc) k0_pay3 j (j 1).isLt
    isplitl [H13]
    · iexists _; isplitr; swap; · iexact H13
      ipureintro
      sl_unfold_words
      simp only [View.readAt_eq_ld, Memref.IsWhole.read_unread, View.readCov, rows_q0, rows_q1, rows_d0, rows_d1, rows_o0, rows_o1,
        load_kc0, load_kc1, load_vc0, load_vc1, load_sink, load_bias, load_s0]
      erw [load_k0, load_k1, load_s1]
      pick_goal 2; exact (i 0).isLt
      pick_goal 2; exact (i 0).isLt
      simp only [second_dq, second_dk, second_dkc, second_dv, second_dvc, second_ps, second_inv, second_dd, second_dsk]
      funext j
      refine (read_two _ _ _ _ _ _ _ _ _ (k0_pay4) (fun h => (heads (pt i) x0 x1 x2 x3 x4 x5 x6 x7 x8 h).dvc) (read_whole _ _ _ _ _) (fun a b hr hc => ?_) (fun a b hr hc => ?_) j (j 1).isLt).trans ?_
      · exact (add_context (F := F) _ _ _).trans (congrArg (fun u : F .f32 => FloatOps.addf u _) ((ld_sub _ _ _ _ _ _ _ _ hr hc).trans (congrFun (read_whole _ _ _ _ _) _)))
      · exact (add_context (F := F) _ _ _).trans (congrArg (fun u : F .f32 => FloatOps.addf u _) (rows_before _ _ _ _ _ _ hr hc _ _ _ _ _ (read_whole _ _ _ _ _) (by decide)))
      · exact addCols_of (F := F) (fun h => (heads (pt i) x0 x1 x2 x3 x4 x5 x6 x7 x8 h).dvc) k0_pay4 j (j 1).isLt
    iexists _; isplitr; swap; · iexact H14
    ipureintro
    sl_unfold_words
    simp only [View.readAt_eq_ld, Memref.IsWhole.read_unread, View.readCov, rows_q0, rows_q1, rows_d0, rows_d1, rows_o0, rows_o1,
        load_kc0, load_kc1, load_vc0, load_vc1, load_sink, load_bias, load_s0]
    erw [load_k0, load_k1, load_s1]
    pick_goal 2; exact (i 0).isLt
    pick_goal 2; exact (i 0).isLt
    simp only [second_dq, second_dk, second_dkc, second_dv, second_dvc, second_ps, second_inv, second_dd, second_dsk]
    exact (read_whole _ _ _ _ _).trans (congrArg (k0_pay100 _) (read_whole _ _ _ _ _))

end Cert.AttnBwd

end
-- ==== Proof.RunLater.lean ====
module

public import proofs.«01_k».proof.Proof.Step
public import proofs.«01_k».proof.Proof.Cases
public import proofs.«01_k».proof.Proof.Gen.KernelIdeal.Skeleton
public import Idealize.ShloMosaic.Lib.Pipeline.ValueKit
public import Idealize.ShloMosaic.Lib.WritesUnit

@[expose] public section

set_option maxRecDepth 16384

/-!
# The kernel's body at a later point

The six results' blocks after the body at a point that clears nothing: the block of `dq`, and the five accumulated
arrays as one more addition to what was there.
-/

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- One run of the body at a later point, over whatever the accumulators hold. -/
theorem later_point (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x8 .f32) (harg8 : arg8.IsWhole) (arg9 : Memref sig .tc .vmem S1x512x384 .f32) (harg9 : arg9.IsWhole) (arg10 : Memref sig .tc .vmem S128x512 .bf16) (harg10 : arg10.IsWhole) (arg11 : Memref sig .tc .vmem S8448x128 .f32) (harg11 : arg11.IsWhole) (arg12 : Memref sig .tc .vmem S8448x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x8 .f32) (harg15 : arg15.IsWhole) (hc0 : ¬cond0_0 i)
    (x0 : Vec F S128x512 .bf16) (x1 : Vec F S128x512 .bf16) (x2 : Vec F S128x512 .bf16) (x3 : Vec F S8448x128 .bf16) (x4 : Vec F S8448x128 .bf16) (x5 : Vec F S256x128 .bf16) (x6 : Vec F S256x128 .bf16) (x7 : Vec F S1x8 .f32) (x8 : Vec F S1x512x384 .f32) (y9 : Vec F S128x512 .bf16) (y10 : Vec F S8448x128 .f32) (y11 : Vec F S8448x128 .f32) (y12 : Vec F S256x128 .f32) (y13 : Vec F S256x128 .f32) (y14 : Vec F S1x8 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ owns (c : Thread nD τ) arg11 fullShare y10 ∗ owns (c : Thread nD τ) arg12 fullShare y11 ∗ owns (c : Thread nD τ) arg13 fullShare y12 ∗ owns (c : Thread nD τ) arg14 fullShare y13 ∗ owns (c : Thread nD τ) arg15 fullShare y14
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outDq (heads (pt i) x0 x1 x2 x3 x4 x5 x6 x7 x8)) ∗ owns (c : Thread nD τ) arg11 fullShare (addRows (pt i) (fun h => ((heads (pt i) x0 x1 x2 x3 x4 x5 x6 x7 x8) h).dk) y10) ∗ owns (c : Thread nD τ) arg12 fullShare (addRows (pt i) (fun h => ((heads (pt i) x0 x1 x2 x3 x4 x5 x6 x7 x8) h).dv) y11) ∗ owns (c : Thread nD τ) arg13 fullShare (addCols (fun h => ((heads (pt i) x0 x1 x2 x3 x4 x5 x6 x7 x8) h).dkc) y12) ∗ owns (c : Thread nD τ) arg14 fullShare (addCols (fun h => ((heads (pt i) x0 x1 x2 x3 x4 x5 x6 x7 x8) h).dvc) y13) ∗ owns (c : Thread nD τ) arg15 fullShare (k0_pay100 (sinkBoth ((heads (pt i) x0 x1 x2 x3 x4 x5 x6 x7 x8) 0) ((heads (pt i) x0 x1 x2 x3 x4 x5 x6 x7 x8) 1)) y14)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_attn_bwd_eq_skeleton]; unfold cc0_attn_bwd_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap; · iexact H9
      ipureintro
      sl_unfold_words
      simp only [View.readAt_eq_ld, Memref.IsWhole.read_unread, View.readCov, rows_q0, rows_q1, rows_d0, rows_d1, rows_o0, rows_o1,
        load_kc0, load_kc1, load_vc0, load_vc1, load_sink, load_bias, load_s0]
      erw [load_k0, load_k1, load_v0, load_v1, load_s1]
      pick_goal 2; exact (i 0).isLt
      pick_goal 2; exact (i 0).isLt
      pick_goal 2; exact (i 0).isLt
      pick_goal 2; exact (i 0).isLt
      simp only [second_dq, second_dk, second_dkc, second_dv, second_dvc, second_ps, second_inv, second_dd, second_dsk]
      exact read_eight _ _ (heads (pt i) x0 x1 x2 x3 x4 x5 x6 x7 x8) _ _ _ _ _ _ _ _
    isplitl [H10]
    · iexists _; isplitr; swap; · iexact H10
      ipureintro
      sl_unfold_words
      simp only [View.readAt_eq_ld, Memref.IsWhole.read_unread, View.readCov, rows_q0, rows_q1, rows_d0, rows_d1, rows_o0, rows_o1,
        load_kc0, load_kc1, load_vc0, load_vc1, load_sink, load_bias, load_s0]
      erw [load_k0, load_k1, load_v0, load_v1, load_s1]
      pick_goal 2; exact (i 0).isLt
      pick_goal 2; exact (i 0).isLt
      pick_goal 2; exact (i 0).isLt
      pick_goal 2; exact (i 0).isLt
      simp only [second_dq, second_dk, second_dkc, second_dv, second_dvc, second_ps, second_inv, second_dd, second_dsk]
      funext j
      refine (read_two _ _ _ _ _ _ _ _ _ (y10) (fun h => (heads (pt i) x0 x1 x2 x3 x4 x5 x6 x7 x8 h).dk) (harg11.read_unread _) (fun a b hr hc => ?_) (fun a b hr hc => ?_) j (j 1).isLt).trans ?_
      · exact (add_window (F := F) _ _ _).trans (congrArg (fun u : F .f32 => FloatOps.addf u _) (ld_sub _ _ _ _ _ _ _ _ hr hc))
      · exact (add_window (F := F) _ _ _).trans (congrArg (fun u : F .f32 => FloatOps.addf u _) (ld_sub _ _ _ _ _ _ _ _ hr hc))
      · exact addRows_of (F := F) (pt i) (fun h => (heads (pt i) x0 x1 x2 x3 x4 x5 x6 x7 x8 h).dk) y10 j _ (row_start _ (i 0).isLt) (j 1).isLt
    isplitl [H11]
    · iexists _; isplitr; swap; · iexact H11
      ipureintro
      sl_unfold_words
      simp only [View.readAt_eq_ld, Memref.IsWhole.read_unread, View.readCov, rows_q0, rows_q1, rows_d0, rows_d1, rows_o0, rows_o1,
        load_kc0, load_kc1, load_vc0, load_vc1, load_sink, load_bias, load_s0]
      erw [load_k0, load_k1, load_s1]
      pick_goal 2; exact (i 0).isLt
      pick_goal 2; exact (i 0).isLt
      simp only [second_dq, second_dk, second_dkc, second_dv, second_dvc, second_ps, second_inv, second_dd, second_dsk]
      funext j
      refine (read_two _ _ _ _ _ _ _ _ _ (y11) (fun h => (heads (pt i) x0 x1 x2 x3 x4 x5 x6 x7 x8 h).dv) (harg12.read_unread _) (fun a b hr hc => ?_) (fun a b hr hc => ?_) j (j 1).isLt).trans ?_
      · exact (add_window (F := F) _ _ _).trans (congrArg (fun u : F .f32 => FloatOps.addf u _) (ld_sub _ _ _ _ _ _ _ _ hr hc))
      · exact (add_window (F := F) _ _ _).trans (congrArg (fun u : F .f32 => FloatOps.addf u _) (ld_sub _ _ _ _ _ _ _ _ hr hc))
      · exact addRows_of (F := F) (pt i) (fun h => (heads (pt i) x0 x1 x2 x3 x4 x5 x6 x7 x8 h).dv) y11 j _ (row_start _ (i 0).isLt) (j 1).isLt
    isplitl [H12]
    · iexists _; isplitr; swap; · iexact H12
      ipureintro
      sl_unfold_words
      simp only [View.readAt_eq_ld, Memref.IsWhole.read_unread, View.readCov, rows_q0, rows_q1, rows_d0, rows_d1, rows_o0, rows_o1,
        load_kc0, load_kc1, load_vc0, load_vc1, load_sink, load_bias, load_s0]
      erw [load_k0, load_k1, load_s1]
      pick_goal 2; exact (i 0).isLt
      pick_goal 2; exact (i 0).isLt
      simp only [second_dq, second_dk, second_dkc, second_dv, second_dvc, second_ps, second_inv, second_dd, second_dsk]
      funext j
      refine (read_two _ _ _ _ _ _ _ _ _ (y12) (fun h => (heads (pt i) x0 x1 x2 x3 x4 x5 x6 x7 x8 h).dkc) (harg13.read_unread _) (fun a b hr hc => ?_) (fun a b hr hc => ?_) j (j 1).isLt).trans ?_
      · exact (add_context (F := F) _ _ _).trans (congrArg (fun u : F .f32 => FloatOps.addf u _) (ld_sub _ _ _ _ _ _ _ _ hr hc))
      · exact (add_context (F := F) _ _ _).trans (congrArg (fun u : F .f32 => FloatOps.addf u _) (ld_sub _ _ _ _ _ _ _ _ hr hc))
      · exact addCols_of (F := F) (fun h => (heads (pt i) x0 x1 x2 x3 x4 x5 x6 x7 x8 h).dkc) y12 j (j 1).isLt
    isplitl [H13]
    · iexists _; isplitr; swap; · iexact H13
      ipureintro
      sl_unfold_words
      simp only [View.readAt_eq_ld, Memref.IsWhole.read_unread, View.readCov, rows_q0, rows_q1, rows_d0, rows_d1, rows_o0, rows_o1,
        load_kc0, load_kc1, load_vc0, load_vc1, load_sink, load_bias, load_s0]
      erw [load_k0, load_k1, load_s1]
      pick_goal 2; exact (i 0).isLt
      pick_goal 2; exact (i 0).isLt
      simp only [second_dq, second_dk, second_dkc, second_dv, second_dvc, second_ps, second_inv, second_dd, second_dsk]
      funext j
      refine (read_two _ _ _ _ _ _ _ _ _ (y13) (fun h => (heads (pt i) x0 x1 x2 x3 x4 x5 x6 x7 x8 h).dvc) (harg14.read_unread _) (fun a b hr hc => ?_) (fun a b hr hc => ?_) j (j 1).isLt).trans ?_
      · exact (add_context (F := F) _ _ _).trans (congrArg (fun u : F .f32 => FloatOps.addf u _) (ld_sub _ _ _ _ _ _ _ _ hr hc))
      · exact (add_context (F := F) _ _ _).trans (congrArg (fun u : F .f32 => FloatOps.addf u _) (ld_sub _ _ _ _ _ _ _ _ hr hc))
      · exact addCols_of (F := F) (fun h => (heads (pt i) x0 x1 x2 x3 x4 x5 x6 x7 x8 h).dvc) y13 j (j 1).isLt
    iexists _; isplitr; swap; · iexact H14
    ipureintro
    sl_unfold_words
    simp only [View.readAt_eq_ld, Memref.IsWhole.read_unread, View.readCov, rows_q0, rows_q1, rows_d0, rows_d1, rows_o0, rows_o1,
        load_kc0, load_kc1, load_vc0, load_vc1, load_sink, load_bias, load_s0]
    erw [load_k0, load_k1, load_s1]
    pick_goal 2; exact (i 0).isLt
    pick_goal 2; exact (i 0).isLt
    simp only [second_dq, second_dk, second_dkc, second_dv, second_dvc, second_ps, second_inv, second_dd, second_dsk]
    exact (read_whole _ _ _ _ _).trans rfl

end Cert.AttnBwd

end
-- ==== Proof.Run.lean ====
module

public import proofs.«01_k».proof.Proof.RunFirst
public import proofs.«01_k».proof.Proof.RunLater
public import Idealize.ShloMosaic.Lib.Claim
public import proofs.«01_k».proof.Proof.Gen.KernelIdeal.Skeleton
public import Idealize.ShloMosaic.Lib.Pipeline.ValueKit
public import Idealize.ShloMosaic.Lib.WritesUnit

@[expose] public section

set_option maxRecDepth 16384

/-!
# The whole run of the kernel

What every result holds after the body at every point: the block of `dq` depends on the point alone; the five other
results are folds over the points so far.  From this the run of the whole program, with the contents of the results at
its end and with its arguments unchanged.
-/

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the results hold, point by point -/

/-- A fold over the first `n` points. -/
def over {α : Type} (z : α) (f : Fin cfg0.N → α → α) : ℕ → α
  | 0 => z
  | n + 1 => if h : n < cfg0.N then f ⟨n, h⟩ (over z f n) else over z f n

theorem over_succ {α : Type} (z : α) (f : Fin cfg0.N → α → α) (t : Fin cfg0.N) :
    over z f (t.val + 1) = f t (over z f t.val) := by
  simp only [over, dif_pos t.isLt]

/-- What the two heads read and compute at a point, from the blocks the point is given. -/
def hd (c : Dev nD) (t : Fin cfg0.N) (h : Fin 2) : Head F :=
  heads (pt (grid0.coords t)) (iblk m c 0 t) (iblk m c 1 t) (iblk m c 2 t) (iblk m c 3 t) (iblk m c 4 t) (iblk m c 5 t)
    (iblk m c 6 t) (iblk m c 7 t) (iblk m c 8 t) h

/-- The block of `dq` at a point. -/
def dqAt (c : Dev nD) (t : Fin cfg0.N) : Vec F S128x512 .bf16 := outDq (hd m c t)

/-- The gradient of the keys after `n` points. -/
def dkAt (c : Dev nD) : ℕ → Vec F S8448x128 .f32 :=
  over k0_pay1 fun t y => addRows (pt (grid0.coords t)) (fun h => (hd m c t h).dk) y

/-- The gradient of the values after `n` points. -/
def dvAt (c : Dev nD) : ℕ → Vec F S8448x128 .f32 :=
  over k0_pay2 fun t y => addRows (pt (grid0.coords t)) (fun h => (hd m c t h).dv) y

/-- The gradient of the context's keys after `n` points. -/
def dkcAt (c : Dev nD) : ℕ → Vec F S256x128 .f32 :=
  over k0_pay3 fun t y => addCols (fun h => (hd m c t h).dkc) y

/-- The gradient of the context's values after `n` points. -/
def dvcAt (c : Dev nD) : ℕ → Vec F S256x128 .f32 :=
  over k0_pay4 fun t y => addCols (fun h => (hd m c t h).dvc) y

/-- The gradient of the sinks after `n` points. -/
def dsinkAt (c : Dev nD) : ℕ → Vec F S1x8 .f32 :=
  over k0_pay5 fun t y => k0_pay100 (sinkBoth (hd m c t 0) (hd m c t 1)) y

/-! ## The pipeline's data -/

abbrev ms0_0 (t : Fin cfg0.N) : Memref sig .tc .vmem S128x512 .bf16 := win0_0.stage (cfg0.slots t 0)
abbrev ms0_1 (t : Fin cfg0.N) : Memref sig .tc .vmem S128x512 .bf16 := win0_1.stage (cfg0.slots t 1)
abbrev ms0_2 (t : Fin cfg0.N) : Memref sig .tc .vmem S128x512 .bf16 := win0_2.stage (cfg0.slots t 2)
abbrev ms0_3 (t : Fin cfg0.N) : Memref sig .tc .vmem S8448x128 .bf16 := win0_3.stage (cfg0.slots t 3)
abbrev ms0_4 (t : Fin cfg0.N) : Memref sig .tc .vmem S8448x128 .bf16 := win0_4.stage (cfg0.slots t 4)
abbrev ms0_5 (t : Fin cfg0.N) : Memref sig .tc .vmem S256x128 .bf16 := win0_5.stage (cfg0.slots t 5)
abbrev ms0_6 (t : Fin cfg0.N) : Memref sig .tc .vmem S256x128 .bf16 := win0_6.stage (cfg0.slots t 6)
abbrev ms0_7 (t : Fin cfg0.N) : Memref sig .tc .vmem S1x8 .f32 := win0_7.stage (cfg0.slots t 7)
abbrev ms0_8 (t : Fin cfg0.N) : Memref sig .tc .vmem S1x512x384 .f32 := win0_8.stage (cfg0.slots t 8)
abbrev ms0_9 (t : Fin cfg0.N) : Memref sig .tc .vmem S128x512 .bf16 := win0_9.stage (cfg0.slots t 9)
abbrev ms0_10 (t : Fin cfg0.N) : Memref sig .tc .vmem S8448x128 .f32 := win0_10.stage (cfg0.slots t 10)
abbrev ms0_11 (t : Fin cfg0.N) : Memref sig .tc .vmem S8448x128 .f32 := win0_11.stage (cfg0.slots t 11)
abbrev ms0_12 (t : Fin cfg0.N) : Memref sig .tc .vmem S256x128 .f32 := win0_12.stage (cfg0.slots t 12)
abbrev ms0_13 (t : Fin cfg0.N) : Memref sig .tc .vmem S256x128 .f32 := win0_13.stage (cfg0.slots t 13)
abbrev ms0_14 (t : Fin cfg0.N) : Memref sig .tc .vmem S1x8 .f32 := win0_14.stage (cfg0.slots t 14)

/-- The pipeline's data on one device: the arrays as the host leaves them; after the body at a point every input's block in
    place, the block of `dq` of that point, and the accumulated results with that point counted in. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dqAt m c t
    | ⟨10, _⟩ => dkAt m c (t.val + 1)
    | ⟨11, _⟩ => dvAt m c (t.val + 1)
    | ⟨12, _⟩ => dkcAt m c (t.val + 1)
    | ⟨13, _⟩ => dvcAt m c (t.val + 1)
    | ⟨14, _⟩ => dsinkAt m c (t.val + 1)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = dqAt m c t := by dsimp only [dats]
theorem after0_10 (c : Dev nD) (t : Fin cfg0.N) : (dats m 0 c).after 10 t = dkAt m c (t.val + 1) := by dsimp only [dats]
theorem after0_11 (c : Dev nD) (t : Fin cfg0.N) : (dats m 0 c).after 11 t = dvAt m c (t.val + 1) := by dsimp only [dats]
theorem after0_12 (c : Dev nD) (t : Fin cfg0.N) : (dats m 0 c).after 12 t = dkcAt m c (t.val + 1) := by dsimp only [dats]
theorem after0_13 (c : Dev nD) (t : Fin cfg0.N) : (dats m 0 c).after 13 t = dvcAt m c (t.val + 1) := by dsimp only [dats]
theorem after0_14 (c : Dev nD) (t : Fin cfg0.N) : (dats m 0 c).after 14 t = dsinkAt m c (t.val + 1) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- At a later point an accumulated result holds what the point before left. -/
theorem before0_10 (c : Dev nD) (t : Fin cfg0.N) (ht : t.val ≠ 0) (d) : (dats m 0 c).before 10 t d = dkAt m c t.val := by
  have hN : t.val < 64 := lt_of_lt_of_eq t.isLt N_0
  rw [Dat.before_out_kept (dats m 0 c) 10 rfl t ht
    (Bool.eq_false_iff.mpr fun h => by have := (flush0_10 _).mp h; simp only at this; omega) (fun _ => rfl) (fun _ _ => rfl) d,
    after0_10]
  exact congrArg (dkAt m c) (by simp only; omega)
theorem before0_11 (c : Dev nD) (t : Fin cfg0.N) (ht : t.val ≠ 0) (d) : (dats m 0 c).before 11 t d = dvAt m c t.val := by
  have hN : t.val < 64 := lt_of_lt_of_eq t.isLt N_0
  rw [Dat.before_out_kept (dats m 0 c) 11 rfl t ht
    (Bool.eq_false_iff.mpr fun h => by have := (flush0_11 _).mp h; simp only at this; omega) (fun _ => rfl) (fun _ _ => rfl) d,
    after0_11]
  exact congrArg (dvAt m c) (by simp only; omega)
theorem before0_12 (c : Dev nD) (t : Fin cfg0.N) (ht : t.val ≠ 0) (d) : (dats m 0 c).before 12 t d = dkcAt m c t.val := by
  have hN : t.val < 64 := lt_of_lt_of_eq t.isLt N_0
  rw [Dat.before_out_kept (dats m 0 c) 12 rfl t ht
    (Bool.eq_false_iff.mpr fun h => by have := (flush0_12 _).mp h; simp only at this; omega) (fun _ => rfl) (fun _ _ => rfl) d,
    after0_12]
  exact congrArg (dkcAt m c) (by simp only; omega)
theorem before0_13 (c : Dev nD) (t : Fin cfg0.N) (ht : t.val ≠ 0) (d) : (dats m 0 c).before 13 t d = dvcAt m c t.val := by
  have hN : t.val < 64 := lt_of_lt_of_eq t.isLt N_0
  rw [Dat.before_out_kept (dats m 0 c) 13 rfl t ht
    (Bool.eq_false_iff.mpr fun h => by have := (flush0_13 _).mp h; simp only at this; omega) (fun _ => rfl) (fun _ _ => rfl) d,
    after0_13]
  exact congrArg (dvcAt m c) (by simp only; omega)
theorem before0_14 (c : Dev nD) (t : Fin cfg0.N) (ht : t.val ≠ 0) (d) : (dats m 0 c).before 14 t d = dsinkAt m c t.val := by
  have hN : t.val < 64 := lt_of_lt_of_eq t.isLt N_0
  rw [Dat.before_out_kept (dats m 0 c) 14 rfl t ht
    (Bool.eq_false_iff.mpr fun h => by have := (flush0_14 _).mp h; simp only at this; omega) (fun _ => rfl) (fun _ _ => rfl) d,
    after0_14]
  exact congrArg (dsinkAt m c) (by simp only; omega)

/-! ## The body at a point -/

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- What the body gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 2400000 in
/-- The body at any point, by the two runs of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  have e10 : dkAt m c (t.val + 1) = _ := over_succ _ _ t
  have e11 : dvAt m c (t.val + 1) = _ := over_succ _ _ t
  have e12 : dkcAt m c (t.val + 1) = _ := over_succ _ _ t
  have e13 : dvcAt m c (t.val + 1) = _ := over_succ _ _ t
  have e14 : dsinkAt m c (t.val + 1) = _ := over_succ _ _ t
  by_cases h0 : t.val = 0
  · rw [e10, e11, e12, e13, e14, h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((first_point c (grid0.coords t) _ _ _ _ _ _ _ _ _ _ _ _ _ _ _ _ _ _ _ _ _ _ _ _ _ _ _ _ _ _ ((is_first t).mpr h0) (iblk m c 0 t) (iblk m c 1 t) (iblk m c 2 t) (iblk m c 3 t) (iblk m c 4 t) (iblk m c 5 t) (iblk m c 6 t) (iblk m c 7 t) (iblk m c 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, H10, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · simp only [before0_10 m c t h0, before0_11 m c t h0, before0_12 m c t h0, before0_13 m c t h0, before0_14 m c t h0]
    rw [e10, e11, e12, e13, e14]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((later_point c (grid0.coords t) _ _ _ _ _ _ _ _ _ _ _ _ _ _ _ _ _ _ _ _ _ _ _ _ _ _ _ _ _ _ (fun h => h0 ((is_first t).mp h)) (iblk m c 0 t) (iblk m c 1 t) (iblk m c 2 t) (iblk m c 3 t) (iblk m c 4 t) (iblk m c 5 t) (iblk m c 6 t) (iblk m c 7 t) (iblk m c 8 t) _ (dkAt m c t.val) (dvAt m c t.val) (dkcAt m c t.val) (dvcAt m c t.val) (dsinkAt m c t.val)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H0, H1, H2, H3, H4, H5, H6, H7, H8, H9, H10, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body table's row at a point is the body at that point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution of the program ends, with the results as the pipeline's data say and with every counter at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The program ends with its arguments unchanged and every counter at zero. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ))
    ((θ_run defs _ _).mono (fun _ h => h.2) (run_quiescent m ρ))

end Cert.AttnBwd

end
-- ==== Proof.Whole.lean ====
module

public import proofs.«01_k».proof.Proof.Reals

@[expose] public section

noncomputable section

namespace Cert.AttnBwd

/-- The arrays of the whole sequence as real numbers: the queries and the gradient of the output by key head, query
    group, position and lane; the keys and values by key head, position and lane; the keys and values of the context; and
    the sink scores by key head and query group. -/
structure Whole where
  q : Fin 2 → Fin 4 → Fin 8192 → Fin 64 → ℝ
  ct : Fin 2 → Fin 4 → Fin 8192 → Fin 64 → ℝ
  k : Fin 2 → Fin 8192 → Fin 64 → ℝ
  v : Fin 2 → Fin 8192 → Fin 64 → ℝ
  kc : Fin 2 → Fin 256 → Fin 64 → ℝ
  vc : Fin 2 → Fin 256 → Fin 64 → ℝ
  s : Fin 2 → Fin 4 → ℝ

/-- Two positions are at most 128 apart. -/
def near (p j : Fin 8192) : Bool := decide (p.val ≤ j.val + 128 ∧ j.val ≤ p.val + 128)

namespace Whole

variable (D : Whole)

/-- The score of a query against a key of the sequence. -/
def S (h : Fin 2) (g : Fin 4) (p j : Fin 8192) : ℝ := (∑ l, D.q h g p l * D.k h j l) / 8

/-- The score of a query against a key of the context. -/
def SC (h : Fin 2) (g : Fin 4) (p : Fin 8192) (j : Fin 256) : ℝ := (∑ l, D.q h g p l * D.kc h j l) / 8

/-- The weight of a key of the sequence before division; zero when it is too far. -/
def W (h : Fin 2) (g : Fin 4) (p j : Fin 8192) : ℝ := if near p j then Real.exp (D.S h g p j) else 0

/-- The weight of a key of the context before division. -/
def C (h : Fin 2) (g : Fin 4) (p : Fin 8192) (j : Fin 256) : ℝ := Real.exp (D.SC h g p j)

/-- The sum of a query's weights with the sink's. -/
def den (h : Fin 2) (g : Fin 4) (p : Fin 8192) : ℝ := (∑ j, D.W h g p j) + (∑ j, D.C h g p j) + Real.exp (D.s h g)

/-- The attention's output. -/
def o (h : Fin 2) (g : Fin 4) (p : Fin 8192) (l : Fin 64) : ℝ :=
  (∑ j, D.W h g p j / D.den h g p * D.v h j l) + ∑ j, D.C h g p j / D.den h g p * D.vc h j l

/-- The gradient of a query's output against that output. -/
def dd (h : Fin 2) (g : Fin 4) (p : Fin 8192) : ℝ := ∑ l, D.ct h g p l * D.o h g p l

/-- The gradient of a score against a key of the sequence. -/
def dw (h : Fin 2) (g : Fin 4) (p j : Fin 8192) : ℝ :=
  D.W h g p j / D.den h g p * ((∑ l, D.ct h g p l * D.v h j l) - D.dd h g p)

/-- The gradient of a score against a key of the context. -/
def dc (h : Fin 2) (g : Fin 4) (p : Fin 8192) (j : Fin 256) : ℝ :=
  D.C h g p j / D.den h g p * ((∑ l, D.ct h g p l * D.vc h j l) - D.dd h g p)

/-- The gradient of the queries. -/
def dq (h : Fin 2) (g : Fin 4) (p : Fin 8192) (l : Fin 64) : ℝ :=
  (∑ j, D.dw h g p j * D.k h j l + ∑ j, D.dc h g p j * D.kc h j l) / 8

/-- The gradient of the keys. -/
def dk (h : Fin 2) (j : Fin 8192) (l : Fin 64) : ℝ := ∑ g, ∑ p, D.dw h g p j * D.q h g p l / 8

/-- The gradient of the values. -/
def dv (h : Fin 2) (j : Fin 8192) (l : Fin 64) : ℝ := ∑ g, ∑ p, D.W h g p j / D.den h g p * D.ct h g p l

/-- The gradient of the context's keys. -/
def dkc (h : Fin 2) (j : Fin 256) (l : Fin 64) : ℝ := ∑ g, ∑ p, D.dc h g p j * D.q h g p l / 8

/-- The gradient of the context's values. -/
def dvc (h : Fin 2) (j : Fin 256) (l : Fin 64) : ℝ := ∑ g, ∑ p, D.C h g p j / D.den h g p * D.ct h g p l

/-- The gradient of the sink scores. -/
def ds (h : Fin 2) (g : Fin 4) : ℝ := ∑ p, -(Real.exp (D.s h g) / D.den h g p) * D.dd h g p

theorem den_pos (h : Fin 2) (g : Fin 4) (p : Fin 8192) : 0 < D.den h g p := by
  have hw : 0 ≤ ∑ j, D.W h g p j := Finset.sum_nonneg fun j _ => by
    unfold W
    split
    · exact (Real.exp_pos _).le
    · exact le_rfl
  have hc : 0 ≤ ∑ j, D.C h g p j := Finset.sum_nonneg fun j _ => (Real.exp_pos _).le
  have := Real.exp_pos (D.s h g)
  unfold den
  linarith

end Whole

end Cert.AttnBwd
-- ==== Proof.Words.lean ====
module
public import proofs.«01_k».proof.Proof.Whole
public import Idealize.ShloMosaic.Lib.Pipeline.ValueKit
public import Idealize.ShloMosaic.Lib.Pointwise
public import Idealize.ShloMosaic.Lib.Tactic.WordOmega
@[expose] public section
/-!
# Differences of positions as words
-/

namespace Cert.AttnBwd
open Idealize.ShloMosaic

/-- A difference of two words compared with 128 in absolute value: `w` stands for the integer `z`. -/
theorem abs_le_word (w : BitVec 32) (z : ℤ) (hz : w.toInt = z) (hlo : -1000000 < z) (hhi : z < 1000000) :
    IntOp.cmpi .sle (IntOp.absi w) 128#32 = if (-128 ≤ z ∧ z ≤ 128) then 1#1 else 0#1 := by
  subst hz
  unfold IntOp.cmpi IntOp.absi
  simp only [BitVec.sle]
  have h1 : w.msb = decide (w.toInt < 0) := BitVec.msb_eq_toInt
  rw [h1]
  have hd : ∀ b : Bool, BitVec.ofBool b = if b = true then 1#1 else 0#1 := by decide
  rw [hd]
  have h128 : (128#32 : BitVec 32).toInt = 128 := by decide
  rw [h128]
  by_cases hneg : w.toInt < 0
  · have hn : (-w).toInt = -w.toInt := by
      rw [BitVec.toInt_neg, Int.bmod_eq_of_le] <;> omega
    simp only [hneg, decide_true, if_true, hn, decide_eq_true_eq]
    refine if_congr ?_ rfl rfl
    omega
  · simp only [hneg, decide_false, Bool.false_eq_true, if_false, decide_eq_true_eq]
    refine if_congr ?_ rfl rfl
    omega

/-- The word of a difference of two small numbers stands for their difference. -/
theorem sub_words (a b : ℕ) (ha : a < 1000000) (hb : b < 1000000) :
    (IntOp.subi (BitVec.ofNat 32 a) (BitVec.ofNat 32 b)).toInt = (a : ℤ) - b := by
  unfold IntOp.subi
  have h : ∀ n : ℕ, n < 1000000 → (BitVec.ofNat 32 n).toInt = n := fun n hn => by
    rw [BitVec.toInt_eq_toNat_cond, BitVec.toNat_ofNat, Nat.mod_eq_of_lt (by omega), if_pos (by omega)]
  rw [BitVec.toInt_sub, h a ha, h b hb, Int.bmod_eq_of_le] <;> omega
end Cert.AttnBwd
-- ==== Proof.RefRow.lean ====
module

public import proofs.«01_k».proof.Proof.Words
public import proofs.«01_k».proof.Proof.Gen.ReferenceIdeal.Read
public import Idealize.ShloMosaic.Lib.Pipeline.ValueKit
public import Idealize.ShloMosaic.Lib.Pointwise

@[expose] public section

/-!
# The reference's scores and products, over the reals

The reference's operations read one after the other, at arguments whose entries are real numbers.
-/

set_option maxRecDepth 16384

noncomputable section

namespace Cert.AttnBwd

open Idealize.ShloMosaic Idealize.ShloMosaic.Tactic
open Cert.ReferenceIdeal Cert.ReferenceIdeal.Gen Cert.ReferenceIdeal.Read

/-- The program's arguments hold the whole's real numbers: the gradient of the attention's output in the first half of
    the first argument's lanes, then the queries, the keys, the values, the context's keys and values and the sinks. -/
structure Whole.Reads (D : Whole) (x0 : (⟨S8192x1024, .bf16⟩ : BufTy).Contents (Elt Ideal))
    (x1 : (⟨S8192x512, .bf16⟩ : BufTy).Contents (Elt Ideal)) (x2 x3 : (⟨S8192x128, .bf16⟩ : BufTy).Contents (Elt Ideal))
    (x4 x5 : (⟨S256x128, .bf16⟩ : BufTy).Contents (Elt Ideal)) (x6 : (⟨S1x8, .f32⟩ : BufTy).Contents (Elt Ideal)) : Prop where
  ct : ∀ (h : Fin 2) (g : Fin 4) (p : Fin 8192) (l : Fin 64),
    x0 (ix2 p ⟨h.val * 256 + g.val * 64 + l.val, by omega⟩) = ((D.ct h g p l : ℝ) : EReal)
  q : ∀ (h : Fin 2) (g : Fin 4) (p : Fin 8192) (l : Fin 64),
    x1 (ix2 p ⟨h.val * 256 + g.val * 64 + l.val, by omega⟩) = ((D.q h g p l : ℝ) : EReal)
  k : ∀ (h : Fin 2) (j : Fin 8192) (l : Fin 64), x2 (ix2 j ⟨h.val * 64 + l.val, by omega⟩) = ((D.k h j l : ℝ) : EReal)
  v : ∀ (h : Fin 2) (j : Fin 8192) (l : Fin 64), x3 (ix2 j ⟨h.val * 64 + l.val, by omega⟩) = ((D.v h j l : ℝ) : EReal)
  kc : ∀ (h : Fin 2) (u : Fin 256) (l : Fin 64), x4 (ix2 u ⟨h.val * 64 + l.val, by omega⟩) = ((D.kc h u l : ℝ) : EReal)
  vc : ∀ (h : Fin 2) (u : Fin 256) (l : Fin 64), x5 (ix2 u ⟨h.val * 64 + l.val, by omega⟩) = ((D.vc h u l : ℝ) : EReal)
  s : ∀ (h : Fin 2) (g : Fin 4), x6 (ix2 0 ⟨h.val * 4 + g.val, by omega⟩) = ((D.s h g : ℝ) : EReal)

variable {D : Whole} {x0 : (⟨S8192x1024, .bf16⟩ : BufTy).Contents (Elt Ideal)}
  {x1 : (⟨S8192x512, .bf16⟩ : BufTy).Contents (Elt Ideal)} {x2 x3 : (⟨S8192x128, .bf16⟩ : BufTy).Contents (Elt Ideal)}
  {x4 x5 : (⟨S256x128, .bf16⟩ : BufTy).Contents (Elt Ideal)} {x6 : (⟨S1x8, .f32⟩ : BufTy).Contents (Elt Ideal)}

namespace Ref

theorem mask_at (h : Fin 2) (g : Fin 4) (p j : Fin 8192) :
    val_main_v26_1 (F := Ideal) (ix4 h g p j) = if near p j then 1#1 else 0#1 := by
  pointwise [val_main_v26_1, val_main_v21, val_main_v20, val_main_v19, val_main_v18, val_main_v17, val_main_v16,
    val_main_v15, val_main_v14, val_main_v13, val_main_c]
  rw [abs_le_word _ _ (sub_words j.val p.val (by omega) (by omega)) (by omega) (by omega)]
  refine if_congr ?_ rfl rfl
  unfold near
  rw [decide_eq_true_eq]
  omega

theorem q_at (hD : D.Reads x0 x1 x2 x3 x4 x5 x6) (h : Fin 2) (g : Fin 4) (p : Fin 8192) (l : Fin 64) :
    val_main_v8 x1 (ix4 p h g l) = ((D.q h g p l : ℝ) : EReal) := by
  rw [← hD.q h g p l]
  pointwise [val_main_v8, val_main_v7, val_main_v2]
  exact congrArg (fun c => x1 (ix2 p c)) (Fin.ext (by simp; omega))

theorem k_at (hD : D.Reads x0 x1 x2 x3 x4 x5 x6) (h : Fin 2) (j : Fin 8192) (l : Fin 64) :
    val_main_v9 x2 (ix3 j h l) = ((D.k h j l : ℝ) : EReal) := by
  rw [← hD.k h j l]
  pointwise [val_main_v9, val_main_v3]

theorem v_at (hD : D.Reads x0 x1 x2 x3 x4 x5 x6) (h : Fin 2) (j : Fin 8192) (l : Fin 64) :
    val_main_v10 x3 (ix3 j h l) = ((D.v h j l : ℝ) : EReal) := by
  rw [← hD.v h j l]
  pointwise [val_main_v10, val_main_v4]

theorem kc_at (hD : D.Reads x0 x1 x2 x3 x4 x5 x6) (h : Fin 2) (u : Fin 256) (l : Fin 64) :
    val_main_v11 x4 (ix3 u h l) = ((D.kc h u l : ℝ) : EReal) := by
  rw [← hD.kc h u l]
  pointwise [val_main_v11, val_main_v5]

theorem vc_at (hD : D.Reads x0 x1 x2 x3 x4 x5 x6) (h : Fin 2) (u : Fin 256) (l : Fin 64) :
    val_main_v12 x5 (ix3 u h l) = ((D.vc h u l : ℝ) : EReal) := by
  rw [← hD.vc h u l]
  pointwise [val_main_v12, val_main_v6]

theorem ct_at (hD : D.Reads x0 x1 x2 x3 x4 x5 x6) (h : Fin 2) (g : Fin 4) (p : Fin 8192) (l : Fin 64) :
    val_main_v70 x0 (ix4 p h g l) = ((D.ct h g p l : ℝ) : EReal) := by
  rw [← hD.ct h g p l]
  pointwise [val_main_v70, val_main_v1, val_main_v0]

theorem s_at (hD : D.Reads x0 x1 x2 x3 x4 x5 x6) (h : Fin 2) (g : Fin 4) (p : Fin 8192) :
    val_main_v32 x6 (ix4 h g p 0) = ((D.s h g : ℝ) : EReal) := by
  rw [← hD.s h g]
  pointwise [val_main_v32, val_main_v31]

/-- The scaled score of a query against a key of the sequence. -/
theorem score_at (hD : D.Reads x0 x1 x2 x3 x4 x5 x6) (h : Fin 2) (g : Fin 4) (p j : Fin 8192) :
    val_main_v25 x1 x2 (ix4 h g p j) = ((D.S h g p j : ℝ) : EReal) := by
  pointwise [val_main_v25, val_main_v24, val_main_cst, val_main_v23, val_main_v22]
  simp only [q_at hD, k_at hD, eighth, ← EReal.coe_mul, coe_sum]
  unfold Whole.S
  congr 1
  rw [one_div, ← div_eq_mul_inv]
  congr 1
  exact Finset.sum_congr rfl fun l _ => mul_comm _ _

/-- The scaled score of a query against a key of the context. -/
theorem scoreC_at (hD : D.Reads x0 x1 x2 x3 x4 x5 x6) (h : Fin 2) (g : Fin 4) (p : Fin 8192) (u : Fin 256) :
    val_main_v30 x1 x4 (ix4 h g p u) = ((D.SC h g p u : ℝ) : EReal) := by
  pointwise [val_main_v30, val_main_v29, val_main_cst_1, val_main_v28, val_main_v27]
  simp only [q_at hD, kc_at hD, eighth, ← EReal.coe_mul, coe_sum]
  unfold Whole.SC
  congr 1
  rw [one_div, ← div_eq_mul_inv]
  congr 1
  exact Finset.sum_congr rfl fun l _ => mul_comm _ _

/-- The row's scores: the sequence's, masked; -/
theorem row_at_seq (hD : D.Reads x0 x1 x2 x3 x4 x5 x6) (h : Fin 2) (g : Fin 4) (p j : Fin 8192) :
    val_main_v33 x1 x2 x4 x6 (ix4 h g p ⟨j.val, by omega⟩) = if near p j then ((D.S h g p j : ℝ) : EReal) else ⊥ := by
  rw [← score_at hD]
  pointwise [val_main_v33, val_main_v26_0, val_main_call0_v2, val_main_call0_v0, val_main_cst_0]
  rw [mask_at]
  cases near p j
  · exact minus_inf
  · rfl

/-- the context's; -/
theorem row_at_ctx (hD : D.Reads x0 x1 x2 x3 x4 x5 x6) (h : Fin 2) (g : Fin 4) (p : Fin 8192) (u : Fin 256) :
    val_main_v33 x1 x2 x4 x6 (ix4 h g p ⟨8192 + u.val, by omega⟩) = ((D.SC h g p u : ℝ) : EReal) := by
  rw [← scoreC_at hD]
  pointwise [val_main_v33]

/-- and the sink's. -/
theorem row_at_sink (hD : D.Reads x0 x1 x2 x3 x4 x5 x6) (h : Fin 2) (g : Fin 4) (p : Fin 8192) :
    val_main_v33 x1 x2 x4 x6 (ix4 h g p 8448) = ((D.s h g : ℝ) : EReal) := by
  rw [← s_at hD h g p]
  pointwise [val_main_v33]

/-- The gradient of a probability: the sequence's, -/
theorem dp_at_seq (hD : D.Reads x0 x1 x2 x3 x4 x5 x6) (h : Fin 2) (g : Fin 4) (p j : Fin 8192) :
    val_main_v81 x0 x3 x5 (ix4 h g p ⟨j.val, by omega⟩) = ((∑ l, D.ct h g p l * D.v h j l : ℝ) : EReal) := by
  pointwise [val_main_v81, val_main_v80, val_main_v75, val_main_cst_12, val_main_cst_13]
  rw [dif_neg (by simp), zero_add]
  pointwise [val_main_v77, val_main_v76]
  simp only [ct_at hD, v_at hD, ← EReal.coe_mul, coe_sum]

/-- the context's -/
theorem dp_at_ctx (hD : D.Reads x0 x1 x2 x3 x4 x5 x6) (h : Fin 2) (g : Fin 4) (p : Fin 8192) (u : Fin 256) :
    val_main_v81 x0 x3 x5 (ix4 h g p ⟨8192 + u.val, by omega⟩) = ((∑ l, D.ct h g p l * D.vc h u l : ℝ) : EReal) := by
  pointwise [val_main_v81, val_main_v80, val_main_v75, val_main_cst_12, val_main_cst_13]
  pointwise [val_main_v72, val_main_v71]
  simp only [ct_at hD, vc_at hD, ← EReal.coe_mul, coe_sum]

/-- and the sink's, which is zero. -/
theorem dp_at_sink (hD : D.Reads x0 x1 x2 x3 x4 x5 x6) (h : Fin 2) (g : Fin 4) (p : Fin 8192) :
    val_main_v81 x0 x3 x5 (ix4 h g p 8448) = ((0 : ℝ) : EReal) := by
  pointwise [val_main_v81, val_main_v80, val_main_v75, val_main_cst_12, val_main_cst_13]
  rfl

end Ref

end Cert.AttnBwd

end
-- ==== Proof.RefSoftmax.lean ====
module

public import proofs.«01_k».proof.Proof.RefRow
public import proofs.«01_k».proof.Proof.Gen.ReferenceIdeal.Read
public import Idealize.ShloMosaic.Lib.Pipeline.ValueKit
public import Idealize.ShloMosaic.Lib.Pointwise

@[expose] public section

/-!
# The reference's softmax and its gradient, over the reals

A row has 8449 columns: the sequence's 8192 keys, the context's 256 and the sink. Subtracting the row's maximum, whatever
real number it is, changes neither the probabilities nor their gradient.
-/

set_option maxRecDepth 16384

noncomputable section

namespace Cert.AttnBwd

open Idealize.ShloMosaic Idealize.ShloMosaic.Tactic
open Cert.ReferenceIdeal Cert.ReferenceIdeal.Gen Cert.ReferenceIdeal.Read

/-- The maximum of finitely many entries of which one is a real number and none plus infinity. -/
theorem fold_max_real {ι : Type*} [Fintype ι] (f : ι → EReal) (i : ι) (s : ℝ) (hi : f i = (s : EReal)) (hf : ∀ i, f i ≠ ⊤) :
    ∃ M : ℝ, Finset.fold max ⊥ f Finset.univ = (M : EReal) := by
  have hb : (s : EReal) ≤ Finset.fold max ⊥ f Finset.univ := by
    rw [Finset.le_fold_max]
    exact Or.inr ⟨i, Finset.mem_univ _, hi.ge⟩
  exact ⟨_, (EReal.coe_toReal (fold_max_ne_top Finset.univ f hf) (fun he => by rw [he] at hb; exact absurd hb (by simp))).symm⟩

/-- A fact about a row's columns, from the sequence's, the context's and the sink's. -/
theorem columns {P : Fin 8449 → Prop} (hs : ∀ j : Fin 8192, P ⟨j.val, by omega⟩) (hc : ∀ u : Fin 256, P ⟨8192 + u.val, by omega⟩)
    (hk : P 8448) (z : Fin 8449) : P z := by
  by_cases h1 : z.val < 8192
  · exact hs ⟨z.val, h1⟩
  · by_cases h2 : z.val < 8448
    · have hz : z = ⟨8192 + (⟨z.val - 8192, by omega⟩ : Fin 256).val, by simp only; omega⟩ := Fin.ext (by simp only; omega)
      rw [hz]
      exact hc _
    · have hz : z = 8448 := Fin.ext (by show z.val = 8448; omega)
      rw [hz]
      exact hk

/-- A row's sum, by the three kinds of columns. -/
theorem sum_columns (f : Fin 8449 → ℝ) :
    ∑ z, f z = (∑ j : Fin 8192, f ⟨j.val, by omega⟩) + (∑ u : Fin 256, f ⟨8192 + u.val, by omega⟩) + f 8448 := by
  have h1 := Fin.sum_univ_castSucc (n := 8448) f
  have h2 := Fin.sum_univ_add (a := 8192) (b := 256) (fun z : Fin 8448 => f z.castSucc)
  rw [h1, h2]
  rfl

namespace Whole

/-- A column's weight in a row. -/
def E (D : Whole) (h : Fin 2) (g : Fin 4) (p : Fin 8192) (z : Fin 8449) : ℝ :=
  if hz : z.val < 8192 then D.W h g p ⟨z.val, hz⟩
  else if hc : z.val < 8448 then D.C h g p ⟨z.val - 8192, by omega⟩ else Real.exp (D.s h g)

/-- The gradient of a column's probability. -/
def dP (D : Whole) (h : Fin 2) (g : Fin 4) (p : Fin 8192) (z : Fin 8449) : ℝ :=
  if hz : z.val < 8192 then ∑ l, D.ct h g p l * D.v h ⟨z.val, hz⟩ l
  else if hc : z.val < 8448 then ∑ l, D.ct h g p l * D.vc h ⟨z.val - 8192, by omega⟩ l else 0

variable (D : Whole) (h : Fin 2) (g : Fin 4) (p : Fin 8192)

theorem E_seq (j : Fin 8192) : D.E h g p ⟨j.val, by omega⟩ = D.W h g p j := by
  unfold E
  rw [dif_pos j.isLt]

theorem E_ctx (u : Fin 256) : D.E h g p ⟨8192 + u.val, by omega⟩ = D.C h g p u := by
  unfold E
  rw [dif_neg (by simp), dif_pos (by simp only; omega)]
  exact congrArg _ (Fin.ext (by simp))

theorem E_sink : D.E h g p 8448 = Real.exp (D.s h g) := by
  unfold E
  rw [dif_neg (by decide), dif_neg (by decide)]

theorem dP_seq (j : Fin 8192) : D.dP h g p ⟨j.val, by omega⟩ = ∑ l, D.ct h g p l * D.v h j l := by
  unfold dP
  rw [dif_pos j.isLt]

theorem dP_ctx (u : Fin 256) : D.dP h g p ⟨8192 + u.val, by omega⟩ = ∑ l, D.ct h g p l * D.vc h u l := by
  unfold dP
  rw [dif_neg (by simp), dif_pos (by simp only; omega)]
  have hu : (⟨(⟨8192 + u.val, by omega⟩ : Fin 8449).val - 8192, by simp only; omega⟩ : Fin 256) = u := Fin.ext (by simp)
  rw [hu]

theorem dP_sink : D.dP h g p 8448 = 0 := by
  unfold dP
  rw [dif_neg (by decide), dif_neg (by decide)]

theorem sum_E : ∑ z, D.E h g p z = D.den h g p := by
  rw [sum_columns]
  simp only [E_seq, E_ctx, E_sink]
  rfl

/-- The gradient of the output against the output is the probabilities' gradient against the probabilities. -/
theorem sum_E_dP : ∑ z, D.E h g p z / D.den h g p * D.dP h g p z = D.dd h g p := by
  rw [sum_columns]
  simp only [E_seq, E_ctx, dP_seq, dP_ctx, dP_sink, mul_zero, add_zero]
  unfold dd o
  simp only [mul_add, Finset.mul_sum, Finset.sum_add_distrib]
  refine congrArg₂ (· + ·) ?_ ?_
  · rw [Finset.sum_comm]
    exact Finset.sum_congr rfl fun l _ => Finset.sum_congr rfl fun j _ => by ring
  · rw [Finset.sum_comm]
    exact Finset.sum_congr rfl fun l _ => Finset.sum_congr rfl fun j _ => by ring

end Whole

variable {D : Whole} {x0 : (⟨S8192x1024, .bf16⟩ : BufTy).Contents (Elt Ideal)}
  {x1 : (⟨S8192x512, .bf16⟩ : BufTy).Contents (Elt Ideal)} {x2 x3 : (⟨S8192x128, .bf16⟩ : BufTy).Contents (Elt Ideal)}
  {x4 x5 : (⟨S256x128, .bf16⟩ : BufTy).Contents (Elt Ideal)} {x6 : (⟨S1x8, .f32⟩ : BufTy).Contents (Elt Ideal)}

namespace Ref

theorem fold_at (h : Fin 2) (g : Fin 4) (p : Fin 8192) :
    val_main_v34 x1 x2 x4 x6 (ix3 h g p)
      = Finset.fold max ⊥ (fun z => val_main_v33 x1 x2 x4 x6 (ix4 h g p z)) Finset.univ := by
  pointwise [val_main_v34, val_main_cst_2]
  rw [minus_inf]

theorem bottom_at (i : S2x4x8192.Idx) : val_main_v40 (F := Ideal) i = ⊥ := by
  rw [val_main_v40_apply, val_main_cst_4_apply]
  exact minus_inf

theorem max_eq (h : Fin 2) (g : Fin 4) (p : Fin 8192) :
    val_main_v41 x1 x2 x4 x6 (ix3 h g p)
      = Finset.fold max ⊥ (fun z => val_main_v33 x1 x2 x4 x6 (ix4 h g p z)) Finset.univ := by
  have hmax : ∀ a b : Ideal .f32, FloatOps.maximumf a b = max (a : EReal) b := fun _ _ => rfl
  rw [val_main_v41_apply, hmax, bottom_at, fold_at, max_eq_right bot_le]

theorem scores_ne_top (hD : D.Reads x0 x1 x2 x3 x4 x5 x6) (h : Fin 2) (g : Fin 4) (p : Fin 8192) (z : Fin 8449) :
    val_main_v33 x1 x2 x4 x6 (ix4 h g p z) ≠ ⊤ := by
  refine columns (P := fun z => val_main_v33 x1 x2 x4 x6 (ix4 h g p z) ≠ ⊤) (fun j => ?_) (fun u => ?_) ?_ z
  · show val_main_v33 x1 x2 x4 x6 (ix4 h g p ⟨j.val, by omega⟩) ≠ ⊤
    rw [row_at_seq hD]
    cases near p j
    · exact bot_ne_top
    · exact EReal.coe_ne_top _
  · show val_main_v33 x1 x2 x4 x6 (ix4 h g p ⟨8192 + u.val, by omega⟩) ≠ ⊤
    rw [row_at_ctx hD]
    exact EReal.coe_ne_top _
  · show val_main_v33 x1 x2 x4 x6 (ix4 h g p 8448) ≠ ⊤
    rw [row_at_sink hD]
    exact EReal.coe_ne_top _

/-- The row's maximum is a real number: the sink's score is one, and no score is plus infinity. -/
theorem max_at (hD : D.Reads x0 x1 x2 x3 x4 x5 x6) (h : Fin 2) (g : Fin 4) (p : Fin 8192) :
    ∃ M : ℝ, val_main_v41 x1 x2 x4 x6 (ix3 h g p) = (M : EReal) := by
  rw [max_eq]
  exact fold_max_real _ 8448 _ (row_at_sink hD h g p) (scores_ne_top hD h g p)

theorem max_read (h : Fin 2) (g : Fin 4) (p : Fin 8192) (z : Fin 8449) :
    val_main_v52 x1 x2 x4 x6 (ix4 h g p z) = val_main_v41 x1 x2 x4 x6 (ix3 h g p) := by
  rw [val_main_v52_apply, val_main_v51_apply]
  exact congrArg _ (funext fun a => by fin_cases a <;> rfl)

theorem den_read (h : Fin 2) (g : Fin 4) (p : Fin 8192) (z : Fin 8449) :
    val_main_v57 x1 x2 x4 x6 (ix4 h g p z) = val_main_v55 x1 x2 x4 x6 (ix3 h g p) := by
  rw [val_main_v57_apply, val_main_v56_apply]
  exact congrArg _ (funext fun a => by fin_cases a <;> rfl)

theorem den_read' (h : Fin 2) (g : Fin 4) (p : Fin 8192) (z : Fin 8449) :
    val_main_v88 x1 x2 x4 x6 (ix4 h g p z) = val_main_v55 x1 x2 x4 x6 (ix3 h g p) := by
  rw [val_main_v88_apply, val_main_v56_apply]
  exact congrArg _ (funext fun a => by fin_cases a <;> rfl)

theorem square_read (h : Fin 2) (g : Fin 4) (p : Fin 8192) (z : Fin 8449) :
    val_main_v82 x1 x2 x4 x6 (ix4 h g p z)
      = Ideal.div 1 (val_main_v55 x1 x2 x4 x6 (ix3 h g p) * val_main_v55 x1 x2 x4 x6 (ix3 h g p)) := by
  rw [val_main_v82_apply]
  have hi : idx_main_v82 (ix4 h g p z) = ix4 h g p 0 := funext fun a => by fin_cases a <;> rfl
  rw [hi]
  pointwise [val_main_v61, val_main_v60, val_main_cst_11, val_main_v59, val_main_v56]

theorem back_read (h : Fin 2) (g : Fin 4) (p : Fin 8192) (z : Fin 8449) :
    val_main_v91 x0 x1 x2 x3 x4 x5 x6 (ix4 h g p z)
      = -val_main_v85 x0 x1 x2 x3 x4 x5 x6 (ix3 h g p) := by
  rw [val_main_v91_apply]
  have hi : idx_main_v91 (ix4 h g p z) = ix3 h g p := funext fun a => by fin_cases a <;> rfl
  rw [hi]
  pointwise [val_main_v90, val_main_cst_15, val_main_v87, val_main_v86]
  rw [Fin.sum_univ_one]

/-- The exponentials of a row are its weights times one positive number. -/
theorem exp_at (hD : D.Reads x0 x1 x2 x3 x4 x5 x6) (h : Fin 2) (g : Fin 4) (p : Fin 8192) :
    ∃ a : ℝ, 0 < a ∧ ∀ z, val_main_v54 x1 x2 x4 x6 (ix4 h g p z) = ((a * D.E h g p z : ℝ) : EReal) := by
  obtain ⟨M, hM⟩ := max_at hD h g p
  refine ⟨Real.exp (-M), Real.exp_pos _, columns (fun j => ?_) (fun u => ?_) ?_⟩
  · pointwise [val_main_v54, val_main_v53]
    rw [max_read, hM, row_at_seq hD, exp_shift, Whole.E_seq]
    rfl
  · pointwise [val_main_v54, val_main_v53]
    rw [max_read, hM, row_at_ctx hD, Whole.E_ctx]
    exact exp_shift true _ _
  · pointwise [val_main_v54, val_main_v53]
    rw [max_read, hM, row_at_sink hD, Whole.E_sink]
    exact exp_shift true _ _

/-- The probabilities of a row, and the gradients of its scores. -/
theorem row (hD : D.Reads x0 x1 x2 x3 x4 x5 x6) (h : Fin 2) (g : Fin 4) (p : Fin 8192) (z : Fin 8449) :
    val_main_v58 x1 x2 x4 x6 (ix4 h g p z) = ((D.E h g p z / D.den h g p : ℝ) : EReal) ∧
    val_main_v93 x0 x1 x2 x3 x4 x5 x6 (ix4 h g p z)
      = ((D.E h g p z / D.den h g p * (D.dP h g p z - D.dd h g p) : ℝ) : EReal) := by
  obtain ⟨a, ha, he⟩ := exp_at hD h g p
  have hd := D.den_pos h g p
  have hp : ∀ z, val_main_v81 x0 x3 x5 (ix4 h g p z) = ((D.dP h g p z : ℝ) : EReal) := columns
    (fun j => by rw [dp_at_seq hD, Whole.dP_seq]) (fun u => by rw [dp_at_ctx hD, Whole.dP_ctx])
    (by rw [dp_at_sink hD, Whole.dP_sink])
  have hden : val_main_v55 x1 x2 x4 x6 (ix3 h g p) = ((a * D.den h g p : ℝ) : EReal) := by
    pointwise [val_main_v55, val_main_cst_10]
    simp only [he, coe_sum, ← Finset.mul_sum, Whole.sum_E]
  have hne : a * D.den h g p ≠ 0 := (mul_pos ha hd).ne'
  have hsq : ∀ z, val_main_v82 x1 x2 x4 x6 (ix4 h g p z)
      = ((1 / ((a * D.den h g p) * (a * D.den h g p)) : ℝ) : EReal) := fun z => by
    rw [square_read, hden, ← EReal.coe_mul, Ideal.div_coe (mul_ne_zero hne hne), one_mul]
  have hback : val_main_v85 x0 x1 x2 x3 x4 x5 x6 (ix3 h g p) = ((D.dd h g p / (a * D.den h g p) : ℝ) : EReal) := by
    pointwise [val_main_v85, val_main_cst_14, val_main_v84, val_main_v83]
    simp only [he, hp, hsq, ← EReal.coe_mul, coe_sum]
    congr 1
    rw [← D.sum_E_dP h g p, Finset.sum_div]
    refine Finset.sum_congr rfl fun z _ => ?_
    field_simp
  constructor
  · pointwise [val_main_v58]
    rw [den_read, hden, he, Ideal.div_coe hne, ← EReal.coe_mul]
    congr 1
    field_simp
  · pointwise [val_main_v93, val_main_v92, val_main_v89]
    rw [den_read', hden, he, hp, back_read, hback, Ideal.div_coe hne, ← EReal.coe_mul, ← EReal.coe_neg, ← EReal.coe_add,
      ← EReal.coe_mul]
    congr 1
    field_simp
    ring

end Ref

end Cert.AttnBwd

end
-- ==== Proof.RefGrads.lean ====
module

public import proofs.«01_k».proof.Proof.RefSoftmax
public import proofs.«01_k».proof.Proof.Gen.ReferenceIdeal.Read
public import Idealize.ShloMosaic.Lib.Pipeline.ValueKit
public import Idealize.ShloMosaic.Lib.Pointwise

@[expose] public section

/-!
# The reference's results, over the reals

The attention's output, which the kernel takes, and the six gradients.
-/

set_option maxRecDepth 16384

noncomputable section

namespace Cert.AttnBwd

open Idealize.ShloMosaic Idealize.ShloMosaic.Tactic
open Cert.ReferenceIdeal Cert.ReferenceIdeal.Gen Cert.ReferenceIdeal.Read

variable {D : Whole} {x0 : (⟨S8192x1024, .bf16⟩ : BufTy).Contents (Elt Ideal)}
  {x1 : (⟨S8192x512, .bf16⟩ : BufTy).Contents (Elt Ideal)} {x2 x3 : (⟨S8192x128, .bf16⟩ : BufTy).Contents (Elt Ideal)}
  {x4 x5 : (⟨S256x128, .bf16⟩ : BufTy).Contents (Elt Ideal)} {x6 : (⟨S1x8, .f32⟩ : BufTy).Contents (Elt Ideal)}

namespace Ref

theorem p_seq (hD : D.Reads x0 x1 x2 x3 x4 x5 x6) (h : Fin 2) (g : Fin 4) (p j : Fin 8192) :
    val_main_v62 x1 x2 x4 x6 (ix4 h g p j) = ((D.W h g p j / D.den h g p : ℝ) : EReal) := by
  pointwise [val_main_v62]
  rw [(row hD h g p _).1, Whole.E_seq]

theorem p_ctx (hD : D.Reads x0 x1 x2 x3 x4 x5 x6) (h : Fin 2) (g : Fin 4) (p : Fin 8192) (u : Fin 256) :
    val_main_v65 x1 x2 x4 x6 (ix4 h g p u) = ((D.C h g p u / D.den h g p : ℝ) : EReal) := by
  pointwise [val_main_v65]
  rw [(row hD h g p _).1, Whole.E_ctx]

/-- The gradients of the sequence's scores; a key too far has weight zero, so the mask changes nothing. -/
theorem ds_seq (hD : D.Reads x0 x1 x2 x3 x4 x5 x6) (h : Fin 2) (g : Fin 4) (p j : Fin 8192) :
    val_main_v107 x0 x1 x2 x3 x4 x5 x6 (ix4 h g p j) = ((D.dw h g p j : ℝ) : EReal) := by
  pointwise [val_main_v107, val_main_call1_v0, val_main_call1_cst, val_main_v94]
  rw [(row hD h g p _).2, Whole.E_seq, Whole.dP_seq, mask_at]
  unfold Whole.dw
  cases hn : near p j
  · have hW : D.W h g p j = 0 := by
      unfold Whole.W
      simp [hn]
    rw [hW, zero_div, zero_mul]
    rfl
  · rfl

theorem ds_ctx (hD : D.Reads x0 x1 x2 x3 x4 x5 x6) (h : Fin 2) (g : Fin 4) (p : Fin 8192) (u : Fin 256) :
    val_main_v95 x0 x1 x2 x3 x4 x5 x6 (ix4 h g p u) = ((D.dc h g p u : ℝ) : EReal) := by
  pointwise [val_main_v95]
  rw [(row hD h g p _).2, Whole.E_ctx, Whole.dP_ctx]
  rfl

theorem ds_sink (hD : D.Reads x0 x1 x2 x3 x4 x5 x6) (h : Fin 2) (g : Fin 4) (p : Fin 8192) :
    val_main_v96 x0 x1 x2 x3 x4 x5 x6 (ix4 h g p 0) = ((-(Real.exp (D.s h g) / D.den h g p) * D.dd h g p : ℝ) : EReal) := by
  pointwise [val_main_v96]
  rw [(row hD h g p _).2, Whole.E_sink, Whole.dP_sink]
  congr 1
  ring

/-- The attention's output. -/
theorem o_at (hD : D.Reads x0 x1 x2 x3 x4 x5 x6) (p : Fin 8192) (c : Fin 512) :
    val_main_v69 x1 x2 x3 x4 x5 x6 (ix2 p c)
      = ((D.o ⟨c.val / 256, by omega⟩ ⟨c.val / 64 % 4, by omega⟩ p ⟨c.val % 64, by omega⟩ : ℝ) : EReal) := by
  pointwise [val_main_v69, val_main_v68, val_main_v64, val_main_v67, val_main_v63, val_main_v66]
  simp only [p_seq hD, p_ctx hD, v_at hD, vc_at hD, ← EReal.coe_mul, coe_sum, ← EReal.coe_add]
  unfold Whole.o
  simp only [mul_comm (D.v _ _ _), mul_comm (D.vc _ _ _)]

theorem dq_at (hD : D.Reads x0 x1 x2 x3 x4 x5 x6) (p : Fin 8192) (c : Fin 512) :
    val_main_v122 x0 x1 x2 x3 x4 x5 x6 (ix2 p c)
      = ((D.dq ⟨c.val / 256, by omega⟩ ⟨c.val / 64 % 4, by omega⟩ p ⟨c.val % 64, by omega⟩ : ℝ) : EReal) := by
  pointwise [val_main_v122, val_main_v121, val_main_v120, val_main_v113, val_main_v112, val_main_v111, val_main_v110,
    val_main_v109, val_main_v108, val_main_cst_18, val_main_v104, val_main_v103, val_main_v102, val_main_v101, val_main_v100, val_main_cst_17]
  simp only [ds_seq hD, ds_ctx hD, k_at hD, kc_at hD, eighth, ← EReal.coe_mul, coe_sum, ← EReal.coe_add]
  unfold Whole.dq
  refine congrArg Real.toEReal ?_
  rw [add_comm, add_div, Finset.sum_div, Finset.sum_div]
  exact congrArg₂ (· + ·) (Finset.sum_congr rfl fun j _ => by ring) (Finset.sum_congr rfl fun j _ => by ring)

theorem dv_at (hD : D.Reads x0 x1 x2 x3 x4 x5 x6) (j : Fin 8192) (c : Fin 128) :
    val_main_v118 x0 x1 x2 x4 x6 (ix2 j c)
      = ((D.dv ⟨c.val / 64, by omega⟩ j ⟨c.val % 64, by omega⟩ : ℝ) : EReal) := by
  pointwise [val_main_v118, val_main_v79, val_main_v78, val_main_v76]
  simp only [p_seq hD, ct_at hD, ← EReal.coe_mul, coe_sum]
  unfold Whole.dv
  simp only [mul_comm (D.ct _ _ _ _)]

theorem dk_at (hD : D.Reads x0 x1 x2 x3 x4 x5 x6) (j : Fin 8192) (c : Fin 128) :
    val_main_v119 x0 x1 x2 x3 x4 x5 x6 (ix2 j c)
      = ((D.dk ⟨c.val / 64, by omega⟩ j ⟨c.val % 64, by omega⟩ : ℝ) : EReal) := by
  pointwise [val_main_v119, val_main_v115, val_main_v114, val_main_v110, val_main_v109, val_main_v108, val_main_cst_18]
  simp only [ds_seq hD, q_at hD, eighth, ← EReal.coe_mul, coe_sum]
  unfold Whole.dk
  refine congrArg Real.toEReal ?_
  rw [Finset.sum_comm]
  exact Finset.sum_congr rfl fun g _ => Finset.sum_congr rfl fun p _ => by ring

theorem dkc_at (hD : D.Reads x0 x1 x2 x3 x4 x5 x6) (u : Fin 256) (c : Fin 128) :
    val_main_v117 x0 x1 x2 x3 x4 x5 x6 (ix2 u c)
      = ((D.dkc ⟨c.val / 64, by omega⟩ u ⟨c.val % 64, by omega⟩ : ℝ) : EReal) := by
  pointwise [val_main_v117, val_main_v106, val_main_v105, val_main_v102, val_main_v101, val_main_v100, val_main_cst_17]
  simp only [ds_ctx hD, q_at hD, eighth, ← EReal.coe_mul, coe_sum]
  unfold Whole.dkc
  refine congrArg Real.toEReal ?_
  rw [Finset.sum_comm]
  exact Finset.sum_congr rfl fun g _ => Finset.sum_congr rfl fun p _ => by ring

theorem dvc_at (hD : D.Reads x0 x1 x2 x3 x4 x5 x6) (u : Fin 256) (c : Fin 128) :
    val_main_v116 x0 x1 x2 x4 x6 (ix2 u c)
      = ((D.dvc ⟨c.val / 64, by omega⟩ u ⟨c.val % 64, by omega⟩ : ℝ) : EReal) := by
  pointwise [val_main_v116, val_main_v74, val_main_v73, val_main_v71]
  simp only [p_ctx hD, ct_at hD, ← EReal.coe_mul, coe_sum]
  unfold Whole.dvc
  simp only [mul_comm (D.ct _ _ _ _)]

theorem dsink_at (hD : D.Reads x0 x1 x2 x3 x4 x5 x6) (e : Fin 8) :
    val_main_v99 x0 x1 x2 x3 x4 x5 x6 (ix2 0 e)
      = ((D.ds ⟨e.val / 4, by omega⟩ ⟨e.val % 4, by omega⟩ : ℝ) : EReal) := by
  pointwise [val_main_v99, val_main_v98, val_main_v97, val_main_cst_16]
  simp only [Fin.sum_univ_one, ds_sink hD, ← EReal.coe_mul, coe_sum]
  rfl

theorem pad_zero : (FloatOps.sitofp FTy.f32 (0#32 : BitVec 32) : Ideal .f32) = (0 : EReal) := by
  show (((0#32 : BitVec 32).toInt : ℝ) : EReal) = 0
  simp

theorem pad_dk_at (J : Fin 8448) (c : Fin 128) :
    val_main_v123 x0 x1 x2 x3 x4 x5 x6 (ix2 J c)
      = if hJ : 128 ≤ J.val ∧ J.val < 8320 then val_main_v119 x0 x1 x2 x3 x4 x5 x6 (ix2 ⟨J.val - 128, by omega⟩ c) else 0 := by
  pointwise [val_main_v123, val_main_call2_v0, val_main_c_19]
  by_cases hJ : 128 ≤ J.val ∧ J.val < 8320
  · rw [dif_pos ⟨hJ.1, by omega⟩, dif_pos hJ]
  · rw [dif_neg (fun h => hJ ⟨h.1, by omega⟩), dif_neg hJ]
    exact pad_zero

theorem pad_dv_at (J : Fin 8448) (c : Fin 128) :
    val_main_v124 x0 x1 x2 x4 x6 (ix2 J c)
      = if hJ : 128 ≤ J.val ∧ J.val < 8320 then val_main_v118 x0 x1 x2 x4 x6 (ix2 ⟨J.val - 128, by omega⟩ c) else 0 := by
  pointwise [val_main_v124, val_main_call3_v0, val_main_c_20]
  by_cases hJ : 128 ≤ J.val ∧ J.val < 8320
  · rw [dif_pos ⟨hJ.1, by omega⟩, dif_pos hJ]
  · rw [dif_neg (fun h => hJ ⟨h.1, by omega⟩), dif_neg hJ]
    exact pad_zero

end Ref

end Cert.AttnBwd

end
-- ==== Proof.Host.lean ====
module

public import proofs.«01_k».proof.Proof.Run
public import proofs.«01_k».proof.Proof.RefGrads
public import Idealize.ShloMosaic.Lib.StableHlo.RunRead
public import Idealize.ShloMosaic.Lib.StableHlo.ReadAt

@[expose] public section

/-!
# What the kernel's host lines hand it

The attention's output, which the host computes as the reference does; the keys and values with 128 rows of zeros at
both ends; and the three tables of the window's bias.
-/

set_option maxRecDepth 16384

noncomputable section

namespace Cert.AttnBwd

open Cert.KernelIdeal Cert.KernelIdeal.Gen
open Idealize.ShloMosaic Idealize.ShloMosaic.TcCoe Idealize.ShloMosaic.Tactic
open Idealize.SL.Sem

section

variable {F : FTy → Type} [FloatOps F] (m : (ℓ : Loc nD τ sig) → Buf (Elt F) ℓ) (c : Dev nD)

/-! The arguments, at their types. -/

abbrev arg0 : FVec F S8192x1024 .bf16 := m ((c.tc : Thread nD τ).loc main_arg0)
abbrev arg1 : FVec F S8192x512 .bf16 := m ((c.tc : Thread nD τ).loc main_arg1)
abbrev arg2 : FVec F S8192x128 .bf16 := m ((c.tc : Thread nD τ).loc main_arg2)
abbrev arg3 : FVec F S8192x128 .bf16 := m ((c.tc : Thread nD τ).loc main_arg3)
abbrev arg4 : FVec F S256x128 .bf16 := m ((c.tc : Thread nD τ).loc main_arg4)
abbrev arg5 : FVec F S256x128 .bf16 := m ((c.tc : Thread nD τ).loc main_arg5)
abbrev arg6 : FVec F S1x8 .f32 := m ((c.tc : Thread nD τ).loc main_arg6)

/-- The keys, padded. -/
theorem V_k : (V m c main_v52 : FVec F S8448x128 .bf16)
    = pad S8448x128 ![128, 0] ![128, 0] ![0, 0] (arg2 m c) (sitofp .bf16 (constantI S_ 32 0#32) : FVec F S_ .bf16)
        pads_S8192x128_S8448x128_1281280_000 h_S_ := by
  unfold V
  simp only [hostOps0, hostOps0_1, hostOps0_2, hostOps0_3, hostOps0_4, hostOps0_5,
    hostOps0_6, hostOps0_7, hostOps0_8, hostOps0_9, hostOps0_10, hostOps0_11, hostOps0_12,
    hostOps0_13, hostOps0_14, List.flatten_cons, List.flatten_nil,
    List.cons_append, List.nil_append, List.append_nil]
  after_reads_simp
  simp only [StableHlo.TRef.toBuf, StableHlo.TRef.ofBuf, cast_eq]

/-- The values, padded. -/
theorem V_v : (V m c main_v53 : FVec F S8448x128 .bf16)
    = pad S8448x128 ![128, 0] ![128, 0] ![0, 0] (arg3 m c) (sitofp .bf16 (constantI S_ 32 0#32) : FVec F S_ .bf16)
        pads_S8192x128_S8448x128_1281280_000 h_S_ := by
  unfold V
  simp only [hostOps0, hostOps0_1, hostOps0_2, hostOps0_3, hostOps0_4, hostOps0_5,
    hostOps0_6, hostOps0_7, hostOps0_8, hostOps0_9, hostOps0_10, hostOps0_11, hostOps0_12,
    hostOps0_13, hostOps0_14, List.flatten_cons, List.flatten_nil,
    List.cons_append, List.nil_append, List.append_nil]
  after_reads_simp
  simp only [StableHlo.TRef.toBuf, StableHlo.TRef.ofBuf, cast_eq]

/-- The attention's output, as the reference computes it. -/
theorem V_o : (V m c main_v51 : FVec F S8192x512 .bf16)
    = (truncf .bf16 (Cert.ReferenceIdeal.Read.val_main_v69 (F := F) (arg1 m c) (arg2 m c) (arg3 m c) (arg4 m c) (arg5 m c)
        (arg6 m c)) bitsLt_bf16_f32 : FVec F S8192x512 .bf16) := by
  unfold V
  simp only [hostOps0, hostOps0_1, hostOps0_2, hostOps0_3, hostOps0_4, hostOps0_5,
    hostOps0_6, hostOps0_7, hostOps0_8, hostOps0_9, hostOps0_10, hostOps0_11, hostOps0_12,
    hostOps0_13, hostOps0_14, List.flatten_cons, List.flatten_nil,
    List.cons_append, List.nil_append, List.append_nil]
  after_reads_simp
  dsimp only [Matrix.cons_val]
  rfl

/-- The rows of a block within their 128: the row's number modulo 128, as the host works it out. -/
def divisor : IVec S_ 32 :=
  select (cmpi .eq (id (constantI S_ 32 128#32) : IVec S_ 32) (constantI S_ 32 0#32)) (constantI S_ 32 1#32)
    (id (constantI S_ 32 128#32))

def rest : IVec S512 32 := Host.remsi (iotaInDim S512 32 0) (broadcastInDim S512 ![] bcast_S_S512 divisor)

def row : IVec S512 32 :=
  select
    (andi (cmpi .ne (cmpi .slt rest (broadcastInDim S512 ![] bcast_S_S512 (constantI S_ 32 0#32)))
        (broadcastInDim S512 ![] bcast_S_S512 (cmpi .slt divisor (constantI S_ 32 0#32))))
      (cmpi .ne rest (broadcastInDim S512 ![] bcast_S_S512 (constantI S_ 32 0#32))))
    (addi rest (broadcastInDim S512 ![] bcast_S_S512 divisor)) rest

/-- The keys of a window, by their number in it. -/
def key : IVec S1x384 32 := broadcastInDim S1x384 ![1] bcast_S384_S1x384_1 (iotaInDim S384 32 0)

def place (s : BitVec 32) : IVec S1x384 32 :=
  addi (broadcastInDim S1x384 ![] bcast_S_S1x384 (constantI S_ 32 s)) key

/-- One table: 0 at a key of the sequence at most 128 places from the row, minus infinity elsewhere. The window's first
    key stands at place `s` of the sequence. -/
def band (s : BitVec 32) : FVec F S512x384 .f32 :=
  select
    (andi
      (andi
        (cmpi .sle
          (absi (subi
            (broadcastInDim S512x384 ![0, 1] bcast_S1x384_S512x384_0_1
              (subi key (broadcastInDim S1x384 ![] bcast_S_S1x384 (constantI S_ 32 128#32))))
            (broadcastInDim S512x384 ![0, 1] bcast_S512x1_S512x384_0_1
              (broadcastInDim S512x1 ![0] bcast_S512_S512x1_0 row))))
          (broadcastInDim S512x384 ![] bcast_S_S512x384 (constantI S_ 32 128#32)))
        (broadcastInDim S512x384 ![0, 1] bcast_S1x384_S512x384_0_1
          (cmpi .sge (place s) (broadcastInDim S1x384 ![] bcast_S_S1x384 (constantI S_ 32 0#32)))))
      (broadcastInDim S512x384 ![0, 1] bcast_S1x384_S512x384_0_1
        (cmpi .slt (place s) (broadcastInDim S1x384 ![] bcast_S_S1x384 (constantI S_ 32 8192#32)))))
    (broadcastInDim S512x384 ![] bcast_S_S512x384 (constant S_ .f32 0x00000000#32))
    (broadcastInDim S512x384 ![] bcast_S_S512x384 (constant S_ .f32 0xFF800000#32))

def bandSlice (s : BitVec 32) : FVec F S1x512x384 .f32 :=
  broadcastInDim S1x512x384 ![1, 2] bcast_S512x384_S1x512x384_1_2 (band (F := F) s)

def bands : FVec F S3x512x384 .f32 :=
  id (concatenate S3x512x384 0 [⟨S1x512x384, bandSlice (F := F) 4294967168#32⟩, ⟨S1x512x384, bandSlice (F := F) 0#32⟩,
    ⟨S1x512x384, bandSlice (F := F) 7936#32⟩] concatenates_S1x512x384_S1x512x384_S1x512x384_S3x512x384_d0)

omit [FloatOps F] in
/-- Three equal slices give equal tables. -/
theorem bands_congr {a b d a' b' d' : FVec F S1x512x384 .f32} (ha : a = a') (hb : b = b') (hd : d = d') :
    (id (concatenate S3x512x384 0 [⟨S1x512x384, a⟩, ⟨S1x512x384, b⟩, ⟨S1x512x384, d⟩]
        concatenates_S1x512x384_S1x512x384_S1x512x384_S3x512x384_d0) : FVec F S3x512x384 .f32)
      = id (concatenate S3x512x384 0 [⟨S1x512x384, a'⟩, ⟨S1x512x384, b'⟩, ⟨S1x512x384, d'⟩]
        concatenates_S1x512x384_S1x512x384_S1x512x384_S3x512x384_d0) := by
  rw [ha, hb, hd]

/-- The tables of the bias. -/
theorem V_b : (V m c main_v120 : FVec F S3x512x384 .f32) = bands := by
  unfold V
  simp only [hostOps0, hostOps0_1, hostOps0_2, hostOps0_3, hostOps0_4, hostOps0_5,
    hostOps0_6, hostOps0_7, hostOps0_8, hostOps0_9, hostOps0_10, hostOps0_11, hostOps0_12,
    hostOps0_13, hostOps0_14, List.flatten_cons, List.flatten_nil,
    List.cons_append, List.nil_append, List.append_nil]
  after_reads_simp
  dsimp only [Matrix.cons_val]
  refine bands_congr ?_ ?_ ?_ <;>
  · after_reads_simp
    simp only [StableHlo.TRef.toBuf, StableHlo.TRef.ofBuf, cast_eq]
    unfold bandSlice band place key row rest divisor
    rfl

end

/-! The tables, entry by entry. -/

theorem row_at : ∀ r : Fin 512, row (ix1 r) = BitVec.ofNat 32 (r.val % 128) := by
  intro r
  pointwise [row, rest, divisor]
  revert r
  decide +kernel

theorem starts_below : ∀ j : Fin 384,
    (IntOp.cmpi .sge (IntOp.addi 4294967168#32 (BitVec.ofNat 32 j.val)) 0#32 = if 128 ≤ j.val then 1#1 else 0#1)
      ∧ IntOp.cmpi .sge (IntOp.addi 0#32 (BitVec.ofNat 32 j.val)) 0#32 = 1#1
      ∧ IntOp.cmpi .sge (IntOp.addi 7936#32 (BitVec.ofNat 32 j.val)) 0#32 = 1#1
      ∧ IntOp.cmpi .slt (IntOp.addi 4294967168#32 (BitVec.ofNat 32 j.val)) 8192#32 = 1#1
      ∧ IntOp.cmpi .slt (IntOp.addi 0#32 (BitVec.ofNat 32 j.val)) 8192#32 = 1#1
      ∧ (IntOp.cmpi .slt (IntOp.addi 7936#32 (BitVec.ofNat 32 j.val)) 8192#32 = if j.val < 256 then 1#1 else 0#1) := by
  decide +kernel

theorem dist_word (r : Fin 512) (j : Fin 384) :
    (IntOp.subi (IntOp.subi (BitVec.ofNat 32 j.val) 128#32) (BitVec.ofNat 32 (r.val % 128))).toInt
      = (j.val : ℤ) - 128 - (r.val % 128 : ℕ) := by
  have h := sub_words j.val 128 (by omega) (by omega)
  have hr := Nat.mod_lt r.val (show 0 < 128 by omega)
  have h' : (BitVec.ofNat 32 (r.val % 128)).toInt = (r.val % 128 : ℕ) := by
    rw [BitVec.toInt_eq_toNat_cond, BitVec.toNat_ofNat, Nat.mod_eq_of_lt (by omega), if_pos (by omega)]
  rw [show IntOp.subi (IntOp.subi (BitVec.ofNat 32 j.val) 128#32) (BitVec.ofNat 32 (r.val % 128))
    = IntOp.subi (BitVec.ofNat 32 j.val) 128#32 - BitVec.ofNat 32 (r.val % 128) from rfl, BitVec.toInt_sub, h, h',
    Int.bmod_def]
  split <;> omega

theorem select_and (p : Prop) [Decidable p] (a b : BitVec 1) (u w : EReal) :
    Scalar.select (IntOp.andi (IntOp.andi (if p then 1#1 else 0#1) a) b) u w = if p ∧ a = 1#1 ∧ b = 1#1 then u else w := by
  have hb : ∀ a : BitVec 1, a = 1#1 ∨ a = 0#1 := by decide
  unfold Scalar.select
  rcases hb a with rfl | rfl <;> rcases hb b with rfl | rfl <;> by_cases hp : p <;> simp [hp, IntOp.andi]

theorem band_at (s : BitVec 32) (r : Fin 512) (j : Fin 384) :
    band (F := Ideal) s (ix2 r j)
      = if (r.val % 128 ≤ j.val ∧ j.val ≤ r.val % 128 + 256)
          ∧ IntOp.cmpi .sge (IntOp.addi s (BitVec.ofNat 32 j.val)) 0#32 = 1#1
          ∧ IntOp.cmpi .slt (IntOp.addi s (BitVec.ofNat 32 j.val)) 8192#32 = 1#1
        then (0 : EReal) else (⊥ : EReal) := by
  have hd := abs_le_word _ _ (dist_word r j) (by omega) (by omega)
  pointwise [band, place, key]
  rw [row_at, hd, minus_inf, select_and]
  refine if_congr (and_congr ?_ Iff.rfl) rfl rfl
  omega

theorem bands_slice (k : Fin 3) (r : Fin 512) (j : Fin 384) :
    bands (F := Ideal) (ix3 k r j) = band (if k = 0 then 4294967168#32 else if k = 1 then 0#32 else 7936#32) (ix2 r j) := by
  unfold bands
  simp only [id_eq]
  pointwise [bandSlice]
  fin_cases k <;> rfl

theorem bands_at (k : Fin 3) (r : Fin 512) (j : Fin 384) :
    bands (F := Ideal) (ix3 k r j)
      = if (r.val % 128 ≤ j.val ∧ j.val ≤ r.val % 128 + 256) ∧ (k = 0 → 128 ≤ j.val) ∧ (k = 2 → j.val < 256)
        then (0 : EReal) else (⊥ : EReal) := by
  obtain ⟨h1, h2, h3, h4, h5, h6⟩ := starts_below j
  rw [bands_slice, band_at]
  fin_cases k
  · simp [h1, h4]
  · simp [h2, h5]
  · simp [h3, h6]

end Cert.AttnBwd

end
-- ==== Proof.HeadValue.lean ====
module

public import proofs.«01_k».proof.Proof.Step
public import proofs.«01_k».proof.Proof.Reals
public import Idealize.ShloMosaic.Lib.Pointwise

@[expose] public section

/-!
# One head's work at one point, over the reals

The stages of `Head`, at arrays of real numbers and a bias that is zero or minus infinity: softmax weights without any
running maximum, and the gradients as plain sums of products.
-/

set_option maxRecDepth 16384

noncomputable section

namespace Cert.AttnBwd

open Cert.KernelIdeal Cert.KernelIdeal.Gen
open Idealize.ShloMosaic Idealize.ShloMosaic.Tactic

/-- One head's arrays as real numbers; `ok r j` when row `r` attends to the window's row `j`. -/
structure Block where
  q : Fin 512 → Fin 64 → ℝ
  o : Fin 512 → Fin 64 → ℝ
  d : Fin 512 → Fin 64 → ℝ
  k : Fin 384 → Fin 64 → ℝ
  v : Fin 384 → Fin 64 → ℝ
  kc : Fin 256 → Fin 64 → ℝ
  vc : Fin 256 → Fin 64 → ℝ
  ok : Fin 512 → Fin 384 → Bool
  s : Fin 512 → ℝ

/-- The head's arrays are those real numbers. -/
structure Head.Is (e : Head Ideal) (x : Block) : Prop where
  q : ∀ r l, e.q (ix2 r l) = (x.q r l : EReal)
  o : ∀ r l, e.o (ix2 r l) = (x.o r l : EReal)
  d : ∀ r l, e.d (ix2 r l) = (x.d r l : EReal)
  k : ∀ r l, e.k (ix2 r l) = (x.k r l : EReal)
  v : ∀ r l, e.v (ix2 r l) = (x.v r l : EReal)
  kc : ∀ r l, e.kc (ix2 r l) = (x.kc r l : EReal)
  vc : ∀ r l, e.vc (ix2 r l) = (x.vc r l : EReal)
  b : ∀ r j, e.b (ix2 r j) = if x.ok r j then 0 else ⊥
  s : ∀ r, e.s (ix2 r 0) = (x.s r : EReal)

namespace Block
variable (x : Block)

/-- Window score. -/
def S (r : Fin 512) (j : Fin 384) : ℝ := (∑ l, x.q r l * x.k j l) / 8
/-- Context score. -/
def SC (r : Fin 512) (j : Fin 256) : ℝ := (∑ l, x.q r l * x.kc j l) / 8
/-- Window weight. -/
def W (r : Fin 512) (j : Fin 384) : ℝ := if x.ok r j then Real.exp (x.S r j) else 0
/-- Context weight. -/
def C (r : Fin 512) (j : Fin 256) : ℝ := Real.exp (x.SC r j)
/-- Sum of a row's weights. -/
def den (r : Fin 512) : ℝ := ∑ j, x.W r j + ∑ j, x.C r j + Real.exp (x.s r)
/-- Cotangent times output. -/
def dd (r : Fin 512) : ℝ := ∑ l, x.d r l * x.o r l
/-- Gradient of a window score. -/
def dw (r : Fin 512) (j : Fin 384) : ℝ := x.W r j / x.den r * (∑ l, x.d r l * x.v j l - x.dd r)
/-- Gradient of a context score. -/
def dc (r : Fin 512) (j : Fin 256) : ℝ := x.C r j / x.den r * (∑ l, x.d r l * x.vc j l - x.dd r)

theorem den_pos (r : Fin 512) : 0 < x.den r := by
  have h1 : 0 ≤ ∑ j, x.W r j := Finset.sum_nonneg fun j _ => by unfold W; split_ifs; positivity; exact le_rfl
  have h2 : 0 ≤ ∑ j, x.C r j := Finset.sum_nonneg fun j _ => (Real.exp_pos _).le
  have := Real.exp_pos (x.s r)
  unfold den; linarith

end Block

section
variable {e : Head Ideal} {x : Block} (h : e.Is x)
include h

theorem score_w (r : Fin 512) (j : Fin 384) :
    k0_pay34 e.q e.k e.b (ix2 r j) = if x.ok r j then (x.S r j : EReal) else ⊥ := by
  pointwise [k0_pay34, k0_pay33]
  simp only [h.q, h.k, h.b, eighth, ← EReal.coe_mul, coe_sum]
  have e1 : ∑ l, x.q r l * (1 / 8) * x.k j l = x.S r j := by
    unfold Block.S; rw [Finset.sum_div]; exact Finset.sum_congr rfl fun l _ => by ring
  rw [e1]
  cases x.ok r j
  · simp
  · simp

theorem score_c (r : Fin 512) (j : Fin 256) : k0_pay35 e.q e.kc (ix2 r j) = (x.SC r j : EReal) := by
  pointwise [k0_pay35, k0_pay33]
  simp only [h.q, h.kc, eighth, ← EReal.coe_mul, coe_sum]
  congr 1
  unfold Block.SC; rw [Finset.sum_div]; exact Finset.sum_congr rfl fun l _ => by ring

theorem row_max (r : Fin 512) : ∃ M : ℝ, k0_pay36 e.q e.k e.kc e.b e.s (ix2 r 0) = (M : EReal) := by
  pointwise [k0_pay36]
  rw [minus_inf, h.s]
  refine max_real (max_ne_top (fold_max_ne_top _ _ fun j => ?_) (fold_max_ne_top _ _ fun j => ?_)) _
  · rw [score_w h]
    cases x.ok r j
    · simp
    · simp
  · rw [score_c h]; exact EReal.coe_ne_top _

/-- The weights at a row, all with one factor of the row. -/
theorem weights (r : Fin 512) : ∃ E : ℝ, 0 < E ∧
    (∀ j, k0_pay37 e.q e.k e.kc e.b e.s (ix2 r j) = ((E * x.W r j : ℝ) : EReal)) ∧
    (∀ j, k0_pay38 e.q e.k e.kc e.b e.s (ix2 r j) = ((E * x.C r j : ℝ) : EReal)) ∧
    e.ps (ix2 r 0) = ((E * Real.exp (x.s r) : ℝ) : EReal) ∧
    e.inv (ix2 r 0) = ((1 / (E * x.den r) : ℝ) : EReal) := by
  obtain ⟨M, hM⟩ := row_max h r
  have h37 : ∀ j, k0_pay37 e.q e.k e.kc e.b e.s (ix2 r j) = ((Real.exp (-M) * x.W r j : ℝ) : EReal) := fun j => by
    pointwise [k0_pay37]
    rw [hM, score_w h, exp_shift, Block.W]
  have h38 : ∀ j, k0_pay38 e.q e.k e.kc e.b e.s (ix2 r j) = ((Real.exp (-M) * x.C r j : ℝ) : EReal) := fun j => by
    pointwise [k0_pay38]
    rw [hM, score_c h, Block.C]
    exact exp_shift true (x.SC r j) M
  have h39 : e.ps (ix2 r 0) = ((Real.exp (-M) * Real.exp (x.s r) : ℝ) : EReal) := by
    pointwise [Head.ps, k0_pay39]
    rw [hM, h.s]
    exact exp_shift true (x.s r) M
  refine ⟨Real.exp (-M), Real.exp_pos _, h37, h38, h39, ?_⟩
  have hp := x.den_pos r
  have hE := Real.exp_pos (-M)
  unfold Head.ps at h39
  pointwise [Head.inv, k0_pay40]
  simp only [h37, h38, h39, coe_sum, ← EReal.coe_add]
  have hd : ∑ j, Real.exp (-M) * x.W r j + ∑ j, Real.exp (-M) * x.C r j + Real.exp (-M) * Real.exp (x.s r)
      = Real.exp (-M) * x.den r := by
    unfold Block.den; rw [mul_add, mul_add, Finset.mul_sum, Finset.mul_sum]
  rw [hd, Ideal.div_coe (mul_pos hE hp).ne', one_mul]

theorem pw_at (r : Fin 512) (j : Fin 384) : e.pw (ix2 r j) = ((x.W r j / x.den r : ℝ) : EReal) := by
  obtain ⟨E, hE, h37, h38, h39, h40⟩ := weights h r
  have hp := (x.den_pos r).ne'
  unfold Head.inv at h40
  pointwise [Head.pw, k0_pay41]
  rw [h37, h40, ← EReal.coe_mul]
  congr 1; field_simp

theorem pc_at (r : Fin 512) (j : Fin 256) : e.pc (ix2 r j) = ((x.C r j / x.den r : ℝ) : EReal) := by
  obtain ⟨E, hE, h37, h38, h39, h40⟩ := weights h r
  have hp := (x.den_pos r).ne'
  unfold Head.inv at h40
  pointwise [Head.pc, k0_pay42]
  rw [h38, h40, ← EReal.coe_mul]
  congr 1; field_simp

theorem dd_at (r : Fin 512) : e.dd (ix2 r 0) = (x.dd r : EReal) := by
  pointwise [Head.dd, k0_pay43]
  simp only [h.d, h.o, ← EReal.coe_mul, coe_sum]
  rfl

theorem dsw_at (r : Fin 512) (j : Fin 384) : e.dsw (ix2 r j) = (x.dw r j : EReal) := by
  pointwise [Head.dsw, k0_pay46, k0_pay44, k0_pay45]
  simp only [pw_at h, dd_at h, h.d, h.v, ← EReal.coe_mul, coe_sum, ← EReal.coe_sub]
  rfl

theorem dsc_at (r : Fin 512) (j : Fin 256) : e.dsc (ix2 r j) = (x.dc r j : EReal) := by
  pointwise [Head.dsc, k0_pay47]
  simp only [pc_at h, dd_at h, h.d, h.vc, ← EReal.coe_mul, coe_sum, ← EReal.coe_sub]
  rfl

theorem dq_at (r : Fin 512) (l : Fin 64) :
    e.dq (ix2 r l) = (((∑ j, x.dw r j * x.k j l + ∑ j, x.dc r j * x.kc j l) / 8 : ℝ) : EReal) := by
  have hw := dsw_at h r
  have hc := dsc_at h r
  unfold Head.dsw at hw
  unfold Head.dsc at hc
  pointwise [Head.dq, k0_pay48]
  simp only [hw, hc, h.k, h.kc, eighth, ← EReal.coe_mul, coe_sum, ← EReal.coe_add]
  congr 1; ring

theorem dk_at (j : Fin 384) (l : Fin 64) : e.dk (ix2 j l) = ((∑ r, x.dw r j * x.q r l / 8 : ℝ) : EReal) := by
  have hw := fun r => dsw_at h r j
  unfold Head.dsw at hw
  pointwise [Head.dk, k0_pay49, k0_pay33]
  simp only [hw, h.q, eighth, ← EReal.coe_mul, coe_sum]
  congr 1
  exact Finset.sum_congr rfl fun r _ => by ring

theorem dkc_at (j : Fin 256) (l : Fin 64) : e.dkc (ix2 j l) = ((∑ r, x.dc r j * x.q r l / 8 : ℝ) : EReal) := by
  have hc := fun r => dsc_at h r j
  unfold Head.dsc at hc
  pointwise [Head.dkc, k0_pay50, k0_pay33]
  simp only [hc, h.q, eighth, ← EReal.coe_mul, coe_sum]
  congr 1
  exact Finset.sum_congr rfl fun r _ => by ring

theorem dv_at (j : Fin 384) (l : Fin 64) : e.dv (ix2 j l) = ((∑ r, x.W r j / x.den r * x.d r l : ℝ) : EReal) := by
  pointwise [Head.dv, k0_pay51]
  simp only [pw_at h, h.d, ← EReal.coe_mul, coe_sum]

theorem dvc_at (j : Fin 256) (l : Fin 64) : e.dvc (ix2 j l) = ((∑ r, x.C r j / x.den r * x.d r l : ℝ) : EReal) := by
  pointwise [Head.dvc, k0_pay52]
  simp only [pc_at h, h.d, ← EReal.coe_mul, coe_sum]

theorem dsk_at (r : Fin 512) : e.dsk (ix2 r 0) = ((-(Real.exp (x.s r) / x.den r) * x.dd r : ℝ) : EReal) := by
  obtain ⟨E, hE, h37, h38, h39, h40⟩ := weights h r
  have hp := (x.den_pos r).ne'
  pointwise [Head.dsk, k0_pay53]
  rw [h39, h40, dd_at h, ← EReal.coe_mul, ← EReal.coe_zero, ← EReal.coe_sub, ← EReal.coe_mul]
  congr 1; field_simp; ring

end

end Cert.AttnBwd

end
-- ==== Proof.Split.lean ====
module

public import proofs.«01_k».proof.Proof.Whole
public import proofs.«01_k».proof.Proof.HeadValue
public import Idealize.ShloMosaic.Lib.FinSumWindow

@[expose] public section

/-!
# The whole gradient cut into points

A point of the grid holds 128 rows of each of a kv head's four query heads, stacked to 512, and the 384 keys around
them. Its rows' weights, output and score gradients are those of the whole; the points' parts of the gradients of keys
and values sum to the whole's.
-/

noncomputable section

namespace Cert.AttnBwd

open Idealize.ShloMosaic

/-- The query head, among four, of a stacked row. -/
def grp (r : Fin 512) : Fin 4 := ⟨r.val / 128, by omega⟩

/-- The place in the sequence of a stacked row of point `n`. -/
def pos (n : Fin 64) (r : Fin 512) : Fin 8192 := ⟨128 * n.val + r.val % 128, by omega⟩

/-- A function of the sequence's places read at a row of the padded array: zero on the padding. -/
def padAt (f : Fin 8192 → ℝ) (J : ℕ) : ℝ := if h : 128 ≤ J ∧ J < 8320 then f ⟨J - 128, by omega⟩ else 0

/-- What a kv head's arrays hold at a point. -/
def Whole.block (D : Whole) (h : Fin 2) (n : Fin 64) : Block where
  q r l := D.q h (grp r) (pos n r) l
  o r l := D.o h (grp r) (pos n r) l
  d r l := D.ct h (grp r) (pos n r) l
  k j l := padAt (fun p => D.k h p l) (128 * n.val + j.val)
  v j l := padAt (fun p => D.v h p l) (128 * n.val + j.val)
  kc := D.kc h
  vc := D.vc h
  ok r j := decide ((128 ≤ 128 * n.val + j.val ∧ 128 * n.val + j.val < 8320) ∧ r.val % 128 ≤ j.val ∧ j.val ≤ r.val % 128 + 256)
  s r := D.s h (grp r)

/-- The sum over a window's keys of a function that vanishes far from one of the point's rows is the sum over all
    places. -/
theorem sum_padAt (f : Fin 8192 → ℝ) (n : Fin 64) (r : Fin 512) (hf : ∀ j, near (pos n r) j = false → f j = 0) :
    ∑ j : Fin 384, padAt f (128 * n.val + j.val) = ∑ j, f j := by
  have hr := Nat.mod_lt r.val (show 0 < 128 by omega)
  have e1 := FinSumWindow.sum_window (N := 8448) (W := 384) (128 * n.val) (by omega) (fun J => padAt f J.val) (fun J hJ => by
    unfold padAt
    split
    · refine hf _ ?_
      unfold near pos
      rw [decide_eq_false_iff_not]
      simp only
      omega
    · rfl)
  have e2 := FinSumWindow.sum_window (N := 8448) (W := 8192) 128 (by omega) (fun J => padAt f J.val) (fun J hJ => by
    unfold padAt
    rw [dif_neg (by omega)])
  rw [← e1, e2]
  refine Finset.sum_congr rfl fun j _ => ?_
  have hj : 128 ≤ 128 + j.val ∧ 128 + j.val < 8320 := by omega
  exact (dif_pos hj).trans (congrArg f (Fin.ext (by simp)))

/-- The rows of all points, over the four query heads, are the sequence's places. -/
theorem sum_rows (f : Fin 4 → Fin 8192 → ℝ) :
    ∑ n : Fin 64, ∑ r : Fin 512, f (grp r) (pos n r) = ∑ g, ∑ p, f g p := by
  have h1 : ∀ n : Fin 64, ∑ r : Fin 512, f (grp r) (pos n r)
      = ∑ g : Fin 4, ∑ i : Fin 128, f g ⟨128 * n.val + i.val, by omega⟩ := fun n => by
    rw [← Fintype.sum_prod_type', ← (finProdFinEquiv (m := 4) (n := 128)).sum_comp]
    refine Finset.sum_congr rfl fun x _ => ?_
    have hv : (finProdFinEquiv x).val = x.2.val + 128 * x.1.val := rfl
    refine congrArg₂ f (Fin.ext ?_) (Fin.ext ?_)
    · show (finProdFinEquiv x).val / 128 = x.1.val
      rw [hv]; omega
    · show 128 * n.val + (finProdFinEquiv x).val % 128 = 128 * n.val + x.2.val
      rw [hv]; omega
  have h2 : ∀ g : Fin 4, ∑ p : Fin 8192, f g p = ∑ n : Fin 64, ∑ i : Fin 128, f g ⟨128 * n.val + i.val, by omega⟩ := fun g => by
    rw [← Fintype.sum_prod_type', ← (finProdFinEquiv (m := 64) (n := 128)).sum_comp]
    refine Finset.sum_congr rfl fun x _ => congrArg (f g) (Fin.ext ?_)
    show x.2.val + 128 * x.1.val = 128 * x.1.val + x.2.val
    omega
  rw [Finset.sum_congr rfl fun n _ => h1 n, Finset.sum_comm]
  exact Finset.sum_congr rfl fun g _ => (h2 g).symm

namespace Whole

variable (D : Whole) (h : Fin 2) (n : Fin 64) (r : Fin 512)

theorem near_window (j : Fin 384) (hJ : 128 ≤ 128 * n.val + j.val ∧ 128 * n.val + j.val < 8320) :
    near (pos n r) ⟨128 * n.val + j.val - 128, by omega⟩ = decide (r.val % 128 ≤ j.val ∧ j.val ≤ r.val % 128 + 256) := by
  unfold near pos
  refine decide_eq_decide.mpr ?_
  simp only
  omega

theorem block_W (j : Fin 384) :
    (D.block h n).W r j = padAt (fun p => D.W h (grp r) (pos n r) p) (128 * n.val + j.val) := by
  unfold Block.W padAt
  by_cases hJ : 128 ≤ 128 * n.val + j.val ∧ 128 * n.val + j.val < 8320
  · rw [dif_pos hJ]
    unfold Whole.W
    beta_reduce
    rw [near_window n r j hJ]
    have hk : ∀ l, (D.block h n).k j l = D.k h ⟨128 * n.val + j.val - 128, by omega⟩ l := fun l => dif_pos hJ
    have hS : (D.block h n).S r j = D.S h (grp r) (pos n r) ⟨128 * n.val + j.val - 128, by omega⟩ := by
      unfold Block.S Whole.S
      simp only [hk]
      rfl
    rw [hS]
    refine if_congr ?_ rfl rfl
    show decide _ = true ↔ decide _ = true
    rw [decide_eq_true_eq, decide_eq_true_eq]
    exact ⟨fun x => x.2, fun x => ⟨hJ, x⟩⟩
  · rw [dif_neg hJ, if_neg]
    show ¬ decide _ = true
    rw [decide_eq_true_eq]
    exact fun x => hJ x.1

theorem W_far (g : Fin 4) (p j : Fin 8192) (hn : near p j = false) : D.W h g p j = 0 := by
  unfold Whole.W
  rw [hn]
  rfl

theorem block_den : (D.block h n).den r = D.den h (grp r) (pos n r) := by
  unfold Block.den Whole.den
  simp only [block_W]
  rw [sum_padAt _ n r fun j hj => D.W_far h _ _ j hj]
  rfl

theorem block_dd : (D.block h n).dd r = D.dd h (grp r) (pos n r) := rfl

theorem block_wv (j : Fin 384) :
    (D.block h n).W r j / (D.block h n).den r
      = padAt (fun p => D.W h (grp r) (pos n r) p / D.den h (grp r) (pos n r)) (128 * n.val + j.val) := by
  rw [block_den, block_W]
  unfold padAt
  split
  · rfl
  · rw [zero_div]

theorem block_dw (j : Fin 384) :
    (D.block h n).dw r j = padAt (fun p => D.dw h (grp r) (pos n r) p) (128 * n.val + j.val) := by
  unfold Block.dw
  rw [block_wv, block_dd]
  unfold padAt
  by_cases hJ : 128 ≤ 128 * n.val + j.val ∧ 128 * n.val + j.val < 8320
  · rw [dif_pos hJ, dif_pos hJ]
    have hv : ∀ l, (D.block h n).v j l = D.v h ⟨128 * n.val + j.val - 128, by omega⟩ l := fun l => dif_pos hJ
    simp only [hv]
    rfl
  · rw [dif_neg hJ, dif_neg hJ, zero_mul]

theorem block_dc (u : Fin 256) : (D.block h n).dc r u = D.dc h (grp r) (pos n r) u := by
  unfold Block.dc
  rw [block_den, block_dd]
  rfl

theorem dw_far (g : Fin 4) (p j : Fin 8192) (hn : near p j = false) : D.dw h g p j = 0 := by
  unfold Whole.dw
  rw [W_far _ _ _ _ _ hn, zero_div, zero_mul]

/-- A point's gradient of its queries is the whole's at its rows. -/
theorem block_dq (l : Fin 64) :
    (∑ j, (D.block h n).dw r j * (D.block h n).k j l + ∑ j, (D.block h n).dc r j * (D.block h n).kc j l) / 8
      = D.dq h (grp r) (pos n r) l := by
  unfold Whole.dq
  have e : ∀ j : Fin 384, (D.block h n).dw r j * (D.block h n).k j l
      = padAt (fun p => D.dw h (grp r) (pos n r) p * D.k h p l) (128 * n.val + j.val) := fun j => by
    rw [block_dw]
    rw [show (D.block h n).k j l = padAt (fun p => D.k h p l) (128 * n.val + j.val) from rfl]
    unfold padAt
    split
    · rfl
    · rw [zero_mul]
  simp only [e, block_dc]
  rw [sum_padAt _ n r fun j hj => by rw [dw_far _ _ _ _ _ hj, zero_mul]]
  rfl

/-! The points' parts of the accumulated gradients. -/

/-- A sum over the points whose window holds row `J` of the padded array, of a term that vanishes away from the row, is
    the sum over the four query heads and all places. -/
theorem sum_points (f : Fin 4 → Fin 8192 → Fin 8192 → ℝ) (hf : ∀ g p j, near p j = false → f g p j = 0) (J : ℕ) :
    ∑ n : Fin 64, (if 128 * n.val ≤ J ∧ J < 128 * n.val + 384 then
        ∑ r : Fin 512, padAt (fun p => f (grp r) (pos n r) p) J else 0)
      = padAt (fun j => ∑ g, ∑ p, f g p j) J := by
  have e : ∀ n : Fin 64, (if 128 * n.val ≤ J ∧ J < 128 * n.val + 384 then
        ∑ r : Fin 512, padAt (fun p => f (grp r) (pos n r) p) J else 0)
      = ∑ r : Fin 512, padAt (fun p => f (grp r) (pos n r) p) J := fun n => by
    split
    · rfl
    · rename_i hJ
      refine (Finset.sum_eq_zero fun r _ => ?_).symm
      unfold padAt
      split
      · refine hf _ _ _ ?_
        have hr := Nat.mod_lt r.val (show 0 < 128 by omega)
        unfold near pos
        rw [decide_eq_false_iff_not]
        simp only
        omega
      · rfl
  rw [Finset.sum_congr rfl fun n _ => e n]
  unfold padAt
  by_cases hJ : 128 ≤ J ∧ J < 8320
  · simp only [dif_pos hJ]
    exact sum_rows fun g p => f g p ⟨J - 128, by omega⟩
  · simp only [dif_neg hJ, Finset.sum_const_zero]

theorem points_dk (J : ℕ) (l : Fin 64) :
    ∑ n : Fin 64, (if hJ : 128 * n.val ≤ J ∧ J < 128 * n.val + 384 then
        ∑ r, (D.block h n).dw r ⟨J - 128 * n.val, by omega⟩ * (D.block h n).q r l / 8 else 0)
      = padAt (fun j => D.dk h j l) J := by
  refine Eq.trans (Finset.sum_congr rfl fun n _ => ?_) (sum_points (fun g p j => D.dw h g p j * D.q h g p l / 8)
    (fun g p j hj => by rw [dw_far _ _ _ _ _ hj, zero_mul, zero_div]) J)
  by_cases hJ : 128 * n.val ≤ J ∧ J < 128 * n.val + 384
  · rw [dif_pos hJ, if_pos hJ]
    refine Finset.sum_congr rfl fun r _ => ?_
    rw [block_dw]
    rw [show 128 * n.val + (⟨J - 128 * n.val, by omega⟩ : Fin 384).val = J from by simp only; omega]
    unfold padAt
    split
    · rfl
    · rw [zero_mul, zero_div]
  · rw [dif_neg hJ, if_neg hJ]

theorem points_dv (J : ℕ) (l : Fin 64) :
    ∑ n : Fin 64, (if hJ : 128 * n.val ≤ J ∧ J < 128 * n.val + 384 then
        ∑ r, (D.block h n).W r ⟨J - 128 * n.val, by omega⟩ / (D.block h n).den r * (D.block h n).d r l else 0)
      = padAt (fun j => D.dv h j l) J := by
  refine Eq.trans (Finset.sum_congr rfl fun n _ => ?_)
    (sum_points (fun g p j => D.W h g p j / D.den h g p * D.ct h g p l)
      (fun g p j hj => by rw [W_far _ _ _ _ _ hj, zero_div, zero_mul]) J)
  by_cases hJ : 128 * n.val ≤ J ∧ J < 128 * n.val + 384
  · rw [dif_pos hJ, if_pos hJ]
    refine Finset.sum_congr rfl fun r _ => ?_
    rw [block_wv]
    rw [show 128 * n.val + (⟨J - 128 * n.val, by omega⟩ : Fin 384).val = J from by simp only; omega]
    unfold padAt
    split
    · rfl
    · rw [zero_mul]
  · rw [dif_neg hJ, if_neg hJ]

theorem points_dkc (u : Fin 256) (l : Fin 64) :
    ∑ n : Fin 64, ∑ r, (D.block h n).dc r u * (D.block h n).q r l / 8 = D.dkc h u l := by
  simp only [block_dc]
  exact sum_rows fun g p => D.dc h g p u * D.q h g p l / 8

theorem points_dvc (u : Fin 256) (l : Fin 64) :
    ∑ n : Fin 64, ∑ r, (D.block h n).C r u / (D.block h n).den r * (D.block h n).d r l = D.dvc h u l := by
  simp only [block_den]
  exact sum_rows fun g p => D.C h g p u / D.den h g p * D.ct h g p l

theorem points_ds (g : Fin 4) :
    ∑ n : Fin 64, ∑ r, (if grp r = g then
        -(Real.exp ((D.block h n).s r) / (D.block h n).den r) * (D.block h n).dd r else 0) = D.ds h g := by
  simp only [block_den, block_dd]
  have e := sum_rows fun g' p => if g' = g then -(Real.exp (D.s h g') / D.den h g' p) * D.dd h g' p else 0
  refine e.trans ?_
  rw [Finset.sum_eq_single g (fun b _ hb => by simp [hb]) (by simp)]
  simp only [if_true]
  rfl

end Whole

end Cert.AttnBwd

end
-- ==== Proof.Blocks.lean ====
module

public import proofs.«01_k».proof.Proof.Host
public import proofs.«01_k».proof.Proof.Split

@[expose] public section

/-!
# What the body reads at a point

The blocks of the inputs at a point are parts of the arrays the host hands the kernel; the arrays that each kv head makes
of them hold the real numbers of `Whole.block`.
-/

set_option maxRecDepth 16384

noncomputable section

namespace Cert.AttnBwd

open Cert.KernelIdeal Cert.KernelIdeal.Gen
open Idealize.ShloMosaic Idealize.ShloMosaic.TcCoe Idealize.ShloMosaic.Tactic
open Idealize.SL.Sem

/-- Where each block stands in its array, at every point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![if t.val = 0 then 0 else if t.val = 63 then 2 else 1, 0, 0]
    ∧ win0_9.index t = ![t.val, 0] :=
  (by decide +kernel : ∀ t : Fin grid0.N, _)

section

variable {F : FTy → Type} [FloatOps F] (m : (ℓ : Loc nD τ sig) → Buf (Elt F) ℓ) (c : Dev nD) (t : Fin cfg0.N)

theorem lt64 : t.val < 64 := lt_of_lt_of_eq t.isLt N_0

theorem blk_d (i : Fin 128) (j : Fin 512) :
    (iblk m c 0 t : FVec F S128x512 .bf16) (ix2 i j) = arg0 m c (ix2 ⟨128 * t.val + i.val, by have := lt64 t; omega⟩ ⟨j.val, by omega⟩) := by
  blk_ext [iblk, V_main_arg0, idx t]

theorem blk_o (i : Fin 128) (j : Fin 512) :
    (iblk m c 1 t : FVec F S128x512 .bf16) (ix2 i j)
      = (V m c main_v51 : FVec F S8192x512 .bf16) (ix2 ⟨128 * t.val + i.val, by have := lt64 t; omega⟩ j) := by
  blk_ext [iblk, idx t]

theorem blk_q (i : Fin 128) (j : Fin 512) :
    (iblk m c 2 t : FVec F S128x512 .bf16) (ix2 i j) = arg1 m c (ix2 ⟨128 * t.val + i.val, by have := lt64 t; omega⟩ j) := by
  blk_ext [iblk, V_main_arg1, idx t]

theorem blk_k (i : Fin 8448) (j : Fin 128) :
    (iblk m c 3 t : FVec F S8448x128 .bf16) (ix2 i j) = (V m c main_v52 : FVec F S8448x128 .bf16) (ix2 i j) := by
  blk_ext [iblk, idx t]

theorem blk_v (i : Fin 8448) (j : Fin 128) :
    (iblk m c 4 t : FVec F S8448x128 .bf16) (ix2 i j) = (V m c main_v53 : FVec F S8448x128 .bf16) (ix2 i j) := by
  blk_ext [iblk, idx t]

theorem blk_kc (i : Fin 256) (j : Fin 128) :
    (iblk m c 5 t : FVec F S256x128 .bf16) (ix2 i j) = arg4 m c (ix2 i j) := by
  blk_ext [iblk, V_main_arg4, idx t]

theorem blk_vc (i : Fin 256) (j : Fin 128) :
    (iblk m c 6 t : FVec F S256x128 .bf16) (ix2 i j) = arg5 m c (ix2 i j) := by
  blk_ext [iblk, V_main_arg5, idx t]

theorem blk_s (j : Fin 8) :
    (iblk m c 7 t : FVec F S1x8 .f32) (ix2 0 j) = arg6 m c (ix2 0 j) := by
  blk_ext [iblk, V_main_arg6, idx t]

theorem blk_b (i : Fin 512) (j : Fin 384) :
    (iblk m c 8 t : FVec F S1x512x384 .f32) (ix3 0 i j)
      = (V m c main_v120 : FVec F S3x512x384 .f32) (ix3 (if t.val = 0 then 0 else if t.val = 63 then 2 else 1) i j) := by
  blk_ext [iblk, idx t]
  split_ifs <;> rfl

end

/-! The sinks: each stacked row takes its own query head's, found by its number among the lanes. -/

theorem group_word : ∀ r : Fin 512, IntOp.addi (IntOp.addi (IntOp.addi 0#32
        (BitVec.setWidth 32 (IntOp.cmpi .sge (BitVec.ofNat 32 r.val) 128#32)))
        (BitVec.setWidth 32 (IntOp.cmpi .sge (BitVec.ofNat 32 r.val) 256#32)))
        (BitVec.setWidth 32 (IntOp.cmpi .sge (BitVec.ofNat 32 r.val) 384#32)) = BitVec.ofNat 32 (grp r).val := by
  decide +kernel

theorem group_eq : ∀ g e : Fin 4, IntOp.cmpi .eq (BitVec.ofNat 32 g.val) (BitVec.ofNat 32 e.val)
    = if g = e then 1#1 else 0#1 := by
  decide +kernel

theorem lane_eq : ∀ g e : Fin 8, IntOp.cmpi .eq (BitVec.ofNat 32 g.val) (BitVec.ofNat 32 e.val)
    = if g = e then 1#1 else 0#1 := by
  decide +kernel

theorem select_if (p : Prop) [Decidable p] (u w : EReal) :
    Scalar.select (if p then 1#1 else 0#1) u w = if p then u else w := by
  unfold Scalar.select
  by_cases hp : p <;> simp [hp]

theorem lane_sum (e : Fin 8) (w : BitVec 32) (hw : w = BitVec.ofNat 32 e.val) (f : Fin 8 → EReal) :
    ∑ x : Fin 8, Scalar.select (IntOp.cmpi .eq (BitVec.ofNat 32 x.val) w) (f x) 0 = f e := by
  subst hw
  simp only [lane_eq, select_if]
  rw [Finset.sum_ite_eq' Finset.univ e f, if_pos (Finset.mem_univ e)]

theorem group_select (e : Fin 4) (w : BitVec 32) (hw : w = BitVec.ofNat 32 e.val) (r : Fin 512) (u : EReal) :
    Scalar.select (IntOp.cmpi .eq (BitVec.ofNat 32 (grp r).val) w) u 0 = if grp r = e then u else 0 := by
  subst hw
  rw [group_eq, select_if]

theorem lane_select (e : Fin 8) (w : BitVec 32) (hw : w = BitVec.ofNat 32 e.val) (l : Fin 8) (u : EReal) :
    Scalar.select (IntOp.cmpi .eq (BitVec.ofNat 32 l.val) w) u 0 = if l = e then u else 0 := by
  subst hw
  rw [lane_eq, select_if]

/-- One of four, by the number of the group. -/
theorem ladder (g : Fin 4) (f : Fin 4 → EReal) :
    Scalar.select (IntOp.cmpi .eq (BitVec.ofNat 32 g.val) 3#32) (f 3)
      (Scalar.select (IntOp.cmpi .eq (BitVec.ofNat 32 g.val) 2#32) (f 2)
        (Scalar.select (IntOp.cmpi .eq (BitVec.ofNat 32 g.val) 1#32) (f 1)
          (Scalar.select (IntOp.cmpi .eq (BitVec.ofNat 32 g.val) 0#32) (f 0) 0))) = f g := by
  have h3 := group_eq g 3
  have h2 := group_eq g 2
  have h1 := group_eq g 1
  have h0 := group_eq g 0
  simp only [Fin.isValue, Fin.val_zero, Fin.val_one, Fin.val_two, show (3 : Fin 4).val = 3 from rfl] at h0 h1 h2 h3
  rw [h3, h2, h1, h0]
  simp only [select_if]
  fin_cases g <;> rfl

theorem sinkCol_zero (x : FVec Ideal S1x8 .f32) (r : Fin 512) :
    sinkCol 0 x (ix2 r 0) = x (ix2 0 ⟨(grp r).val, by omega⟩) := by
  unfold sinkCol
  rw [if_pos rfl]
  pointwise [k0_pay28, k0_pay26, k0_pay27, k0_pay25, k0_pay23, k0_pay24, group, lanes]
  simp only [group_word]
  rw [lane_sum 3 3#32 rfl fun l => x (ix2 0 l), lane_sum 2 2#32 rfl fun l => x (ix2 0 l), lane_sum 1 1#32 rfl fun l => x (ix2 0 l),
    lane_sum 0 0#32 rfl fun l => x (ix2 0 l)]
  exact ladder (grp r) fun g => x (ix2 0 ⟨g.val, by omega⟩)

theorem sinkCol_one (x : FVec Ideal S1x8 .f32) (r : Fin 512) :
    sinkCol 1 x (ix2 r 0) = x (ix2 0 ⟨4 + (grp r).val, by omega⟩) := by
  unfold sinkCol
  rw [if_neg (by decide)]
  pointwise [k0_pay31, k0_pay29, k0_pay30, k0_pay25, k0_pay23, k0_pay24, group, lanes]
  simp only [group_word]
  rw [lane_sum 7 7#32 rfl fun l => x (ix2 0 l), lane_sum 6 6#32 rfl fun l => x (ix2 0 l), lane_sum 5 5#32 rfl fun l => x (ix2 0 l),
    lane_sum 4 4#32 rfl fun l => x (ix2 0 l)]
  exact ladder (grp r) fun g => x (ix2 0 ⟨4 + g.val, by omega⟩)

theorem sinkCol_at (h : Fin 2) (x : FVec Ideal S1x8 .f32) (r : Fin 512) :
    sinkCol h x (ix2 r 0) = x (ix2 0 ⟨h.val * 4 + (grp r).val, by omega⟩) := by
  fin_cases h
  · rw [show (⟨0, by decide⟩ : Fin 2) = 0 from rfl, sinkCol_zero]
    exact congrArg (fun e => x (ix2 0 e)) (Fin.ext (by simp))
  · rw [show (⟨1, by decide⟩ : Fin 2) = 1 from rfl, sinkCol_one]
    exact congrArg (fun e => x (ix2 0 e)) (Fin.ext (by simp))

/-- The sinks' gradient at a point: lane `4h + g` holds the sum over the rows of group `g` of head `h`. -/
theorem sinkBoth_at (e : Fin 2 → Head Ideal) (l : Fin 8) :
    sinkBoth (e 0) (e 1) (ix2 0 l)
      = ∑ r : Fin 512, if grp r = (⟨l.val % 4, by omega⟩ : Fin 4) then (e ⟨l.val / 4, by omega⟩).dsk (ix2 r 0) else (0 : EReal) := by
  unfold sinkBoth sinkFirst
  pointwise [k0_pay83, k0_pay80, k0_pay81, k0_pay82, k0_pay57, k0_pay54, k0_pay55, k0_pay56, group, lanes, k0_pay32, k0_pay25, k0_pay23, k0_pay24]
  have h0 : k0_pay53 (e 0).ps (e 0).inv (e 0).dd = (e 0).dsk := rfl
  have h1 : k0_pay79 (e 1).ps (e 1).inv (e 1).dd = (e 1).dsk := rfl
  simp only [group_word, h0, h1, group_select 0 0#32 rfl, group_select 1 1#32 rfl, group_select 2 2#32 rfl,
    group_select 3 3#32 rfl, lane_select 0 0#32 rfl, lane_select 1 1#32 rfl, lane_select 2 2#32 rfl,
    lane_select 3 3#32 rfl, lane_select 4 4#32 rfl, lane_select 5 5#32 rfl, lane_select 6 6#32 rfl, lane_select 7 7#32 rfl]
  fin_cases l <;> simp <;> rfl

end Cert.AttnBwd

end
-- ==== Proof.HeadBlocks.lean ====
module

public import proofs.«01_k».proof.Proof.Blocks

@[expose] public section

/-!
# The heads' arrays at a point, over the reals

The arrays that each kv head makes of a point's blocks hold the real numbers of `Whole.block`.
-/

set_option maxRecDepth 16384

noncomputable section

namespace Cert.AttnBwd

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (c : Dev nD) (t : Fin cfg0.N) (h : Fin 2) (D : Whole)

/-- The arguments on a device hold the whole's real numbers. -/
abbrev Holds : Prop := D.Reads (arg0 m c) (arg1 m c) (arg2 m c) (arg3 m c) (arg4 m c) (arg5 m c) (arg6 m c)

/-- A point's number. -/
def num : Fin 64 := ⟨t.val, lt64 t⟩

theorem pt_num : pt (grid0.coords t) = num t := Fin.ext (coord_val t)

theorem ix2_congr {n k : ℕ} {a a' : Fin n} {b b' : Fin k} (ha : a.val = a'.val) (hb : b.val = b'.val) :
    (ix2 a b : (⟨2, ![n, k]⟩ : Shape).Idx) = ix2 a' b' := by
  rw [Fin.ext ha, Fin.ext hb]

/-- The padded array of keys, or of values, over the reals. -/
theorem pad_at (f : Fin 2 → Fin 8192 → Fin 64 → ℝ) (x : FVec Ideal S8192x128 .bf16)
    (hx : ∀ (h : Fin 2) (j : Fin 8192) (l : Fin 64), x (ix2 j ⟨h.val * 64 + l.val, by omega⟩) = ((f h j l : ℝ) : EReal))
    (J : Fin 8448) (h : Fin 2) (l : Fin 64) (z : Fin 128) (hz : z.val = 64 * h.val + l.val) :
    pad S8448x128 ![128, 0] ![128, 0] ![0, 0] x (sitofp .bf16 (constantI S_ 32 0#32) : FVec Ideal S_ .bf16)
        pads_S8192x128_S8448x128_1281280_000 h_S_ (ix2 J z) = ((padAt (fun j => f h j l) J.val : ℝ) : EReal) := by
  pointwise []
  unfold padAt
  by_cases hJ : 128 ≤ J.val ∧ J.val < 8320
  · have hJ' : 128 ≤ J.val ∧ J.val - 128 < 8192 := by omega
    rw [dif_pos hJ, dif_pos hJ']
    refine Eq.trans (congrArg x (ix2_congr rfl ?_)) (hx h _ l)
    simp only; omega
  · rw [dif_neg hJ, dif_neg (by omega)]
    show (((0#32 : BitVec 32).toInt : ℝ) : EReal) = _
    simp

variable {m c D} (hD : Holds m c D)
include hD

theorem o_lane (g : Fin 4) (p : Fin 8192) (l : Fin 64) (z : Fin 512) (hz : z.val = 256 * h.val + 64 * g.val + l.val) :
    (V m c main_v51 : FVec Ideal S8192x512 .bf16) (ix2 p z) = ((D.o h g p l : ℝ) : EReal) := by
  rw [V_o]
  refine Eq.trans (Ref.o_at hD p z) ?_
  congr 2 <;> (apply Fin.ext; simp only; omega)

/-- What each kv head reads at a point are the real numbers of `Whole.block`. -/
theorem hd_is : (hd m c t h).Is (D.block h (num t)) where
  q r l := by
    show stacked h (iblk m c 2 t) (ix2 r l) = _
    pointwise [stacked]
    refine (blk_q m c t _ _).trans (Eq.trans (congrArg _ (ix2_congr rfl ?_)) (hD.q h (grp r) (pos (num t) r) l))
    simp only [grp]; omega
  o r l := by
    show stacked h (iblk m c 1 t) (ix2 r l) = _
    pointwise [stacked]
    exact (blk_o m c t _ _).trans (o_lane h hD (grp r) (pos (num t) r) l _ rfl)
  d r l := by
    show stacked h (iblk m c 0 t) (ix2 r l) = _
    pointwise [stacked]
    refine (blk_d m c t _ _).trans (Eq.trans (congrArg _ (ix2_congr rfl ?_)) (hD.ct h (grp r) (pos (num t) r) l))
    simp only [grp]; omega
  k r l := by
    show window h (pt (grid0.coords t)) (iblk m c 3 t) (ix2 r l) = _
    rw [pt_num]
    pointwise [window]
    refine (blk_k m c t _ _).trans (Eq.trans (congrFun (V_k m c) _) ?_)
    exact pad_at D.k (arg2 m c) hD.k _ h l _ rfl
  v r l := by
    show window h (pt (grid0.coords t)) (iblk m c 4 t) (ix2 r l) = _
    rw [pt_num]
    pointwise [window]
    refine (blk_v m c t _ _).trans (Eq.trans (congrFun (V_v m c) _) ?_)
    exact pad_at D.v (arg3 m c) hD.v _ h l _ rfl
  kc r l := by
    show context h (iblk m c 5 t) (ix2 r l) = _
    pointwise [context]
    refine (blk_kc m c t _ _).trans (Eq.trans (congrArg _ (ix2_congr rfl ?_)) (hD.kc h r l))
    simp only; omega
  vc r l := by
    show context h (iblk m c 6 t) (ix2 r l) = _
    pointwise [context]
    refine (blk_vc m c t _ _).trans (Eq.trans (congrArg _ (ix2_congr rfl ?_)) (hD.vc h r l))
    simp only; omega
  b r j := by
    show k0_pay16 (iblk m c 8 t) (ix2 r j) = _
    pointwise [k0_pay16]
    refine (blk_b m c t _ _).trans ((congrFun (V_b m c) _).trans ((bands_at _ r j).trans (if_congr ?_ rfl rfl)))
    show _ ↔ decide _ = true
    rw [decide_eq_true_eq]
    have := lt64 t
    show _ ↔ (128 ≤ 128 * t.val + j.val ∧ 128 * t.val + j.val < 8320) ∧ _
    by_cases h0 : t.val = 0
    · simp only [h0, if_true]
      simp
      omega
    · by_cases h1 : t.val = 63
      · simp only [h1]
        simp
        omega
      · simp only [if_neg h0, if_neg h1]
        simp
        omega
  s r := by
    show sinkCol h (iblk m c 7 t) (ix2 r 0) = _
    exact (sinkCol_at h _ r).trans ((blk_s m c t _).trans (hD.s h (grp r)))

end Cert.AttnBwd

end
-- ==== Proof.Results.lean ====
module

public import proofs.«01_k».proof.Proof.HeadBlocks

@[expose] public section

/-!
# The results after the run, over the reals

The block of `dq` of a point is the whole's at its rows; the accumulated results are the sums of the points' parts. Each
result's array is the reference's.
-/

set_option maxRecDepth 16384

noncomputable section

namespace Cert.AttnBwd

open Cert.KernelIdeal Cert.KernelIdeal.Gen
open Idealize.ShloMosaic Idealize.ShloMosaic.TcCoe Idealize.ShloMosaic.Tactic
open Idealize.SL.Sem

variable {m : (ℓ : Loc nD τ sig) → Buf (Elt Ideal) ℓ} {c : Dev nD} {D : Whole}

/-- A fold whose steps each add a real number to an entry leaves there the sum of those numbers. -/
theorem over_real {ι : Type} (z : ι → EReal) (f : Fin cfg0.N → (ι → EReal) → ι → EReal) (i : ι) (P : Fin 64 → ℝ)
    (hz : z i = 0) (hf : ∀ t y, f t y i = y i + ((P (num t) : ℝ) : EReal)) :
    over z f 64 i = ((∑ n, P n : ℝ) : EReal) := by
  have key : ∀ n : ℕ, ∀ hn : n ≤ 64, over z f n i = ((∑ k : Fin n, P ⟨k.val, by omega⟩ : ℝ) : EReal) := by
    intro n
    induction n with
    | zero => intro _; simp [over, hz]
    | succ n ih =>
      intro hn
      have e := over_succ z f ⟨n, lt_of_lt_of_eq hn N_0.symm⟩
      rw [show over z f (n + 1) = _ from e, hf, ih (by omega), ← EReal.coe_add, Fin.sum_univ_castSucc]
      rfl
  exact key 64 le_rfl

variable (hD : Holds m c D)
include hD

theorem dqAt_at (t : Fin cfg0.N) (i : Fin 128) (j : Fin 512) :
    (dqAt m c t : FVec Ideal S128x512 .bf16) (ix2 i j)
      = ((D.dq ⟨j.val / 256, by omega⟩ ⟨j.val / 64 % 4, by omega⟩ ⟨128 * t.val + i.val, by have := lt64 t; omega⟩
          ⟨j.val % 64, by omega⟩ : ℝ) : EReal) := by
  show (hd m c t ⟨j.val / 256, by omega⟩).dq (ix2 ⟨128 * (j.val / 64 % 4) + i.val, by omega⟩ ⟨j.val % 64, by omega⟩) = _
  rw [dq_at (hd_is t _ hD), Whole.block_dq]
  congr 2
  · apply Fin.ext; simp only [grp]; omega
  · apply Fin.ext; simp only [pos, num]; omega

theorem final_dq : (dats m 0 c).arrAt 9 (cfgs 0).N
    = Cert.ReferenceIdeal.Read.val_main_v122 (F := Ideal) (arg0 m c) (arg1 m c) (arg2 m c) (arg3 m c) (arg4 m c) (arg5 m c)
        (arg6 m c) := by
  refine (dats m 0 c).arrAt_eq_of_covers 9 _ (by decide +kernel) fun t hf y => ?_
  blk_simp
  rw [after0_9]
  have e : (win0_9.blk t).view.emb y = (ix2 ⟨128 * t.val + (y 0).val, by
      have h0 : (y 0).val < 128 := (y 0).isLt
      have := lt64 t
      omega⟩ (y 1) : S8192x512.Idx) := by
    blk_ext [idx t]
  rw [e]
  refine (congrArg (dqAt m c t) (eq_ix2 y)).trans ((dqAt_at hD t (y 0) (y 1)).trans (Ref.dq_at hD _ (y 1)).symm)

/-- The last point. -/
def last : Fin cfg0.N := ⟨63, lt_of_lt_of_eq (by decide) N_0.symm⟩

omit hD in
theorem last_val : last.val + 1 = 64 := rfl

theorem dkAt_at (J : Fin 8448) (z : Fin 128) :
    (dkAt m c 64 : FVec Ideal S8448x128 .f32) (ix2 J z)
      = ((padAt (fun j => D.dk ⟨z.val / 64, by omega⟩ j ⟨z.val % 64, by omega⟩) J.val : ℝ) : EReal) := by
  rw [← Whole.points_dk]
  refine over_real _ _ (ix2 J z) _ ?_ fun t y => ?_
  · pointwise [k0_pay1]
  · rw [pt_num]
    unfold addRows
    by_cases hJ : 128 * (num t).val ≤ J.val ∧ J.val < 128 * (num t).val + 384
    · refine (dif_pos hJ).trans ?_
      rw [dif_pos hJ]
      show y (ix2 J z) + (hd m c t ⟨z.val / 64, by omega⟩).dk (ix2 ⟨J.val - 128 * (num t).val, by omega⟩ ⟨z.val % 64, by omega⟩) = _
      rw [dk_at (hd_is t _ hD)]
    · refine (dif_neg hJ).trans ?_
      rw [dif_neg hJ]
      exact (add_zero _).symm

theorem final_dk : (dats m 0 c).arrAt 10 (cfgs 0).N
    = Cert.ReferenceIdeal.Read.val_main_v123 (F := Ideal) (arg0 m c) (arg1 m c) (arg2 m c) (arg3 m c) (arg4 m c) (arg5 m c) (arg6 m c) := by
  have key : ((dkAt m c 64 : FVec Ideal S8448x128 .f32) : S8448x128.Idx → Ideal .f32)
      = Cert.ReferenceIdeal.Read.val_main_v123 (F := Ideal) (arg0 m c) (arg1 m c) (arg2 m c) (arg3 m c) (arg4 m c) (arg5 m c) (arg6 m c) := funext fun j => by
    rw [eq_ix2 j]
    refine (dkAt_at hD (j 0) (j 1)).trans (Eq.trans ?_ (Ref.pad_dk_at (j 0) (j 1)).symm)
    unfold padAt
    by_cases hJ : 128 ≤ (j 0).val ∧ (j 0).val < 8320
    · rw [dif_pos hJ, dif_pos hJ]
      exact (Ref.dk_at hD _ (j 1)).symm
    · rw [dif_neg hJ, dif_neg hJ]
      exact EReal.coe_zero
  refine (dats m 0 c).arrAt_eq_of_after_last 10 last (by decide +kernel) _ fun j => ?_
  blk_simp
  rw [after0_10]
  exact congrFun key j

theorem dvAt_at (J : Fin 8448) (z : Fin 128) :
    (dvAt m c 64 : FVec Ideal S8448x128 .f32) (ix2 J z)
      = ((padAt (fun j => D.dv ⟨z.val / 64, by omega⟩ j ⟨z.val % 64, by omega⟩) J.val : ℝ) : EReal) := by
  rw [← Whole.points_dv]
  refine over_real _ _ (ix2 J z) _ ?_ fun t y => ?_
  · pointwise [k0_pay2]
  · rw [pt_num]
    unfold addRows
    by_cases hJ : 128 * (num t).val ≤ J.val ∧ J.val < 128 * (num t).val + 384
    · refine (dif_pos hJ).trans ?_
      rw [dif_pos hJ]
      show y (ix2 J z) + (hd m c t ⟨z.val / 64, by omega⟩).dv (ix2 ⟨J.val - 128 * (num t).val, by omega⟩ ⟨z.val % 64, by omega⟩) = _
      rw [dv_at (hd_is t _ hD)]
    · refine (dif_neg hJ).trans ?_
      rw [dif_neg hJ]
      exact (add_zero _).symm

theorem final_dv : (dats m 0 c).arrAt 11 (cfgs 0).N
    = Cert.ReferenceIdeal.Read.val_main_v124 (F := Ideal) (arg0 m c) (arg1 m c) (arg2 m c) (arg4 m c) (arg6 m c) := by
  have key : ((dvAt m c 64 : FVec Ideal S8448x128 .f32) : S8448x128.Idx → Ideal .f32)
      = Cert.ReferenceIdeal.Read.val_main_v124 (F := Ideal) (arg0 m c) (arg1 m c) (arg2 m c) (arg4 m c) (arg6 m c) := funext fun j => by
    rw [eq_ix2 j]
    refine (dvAt_at hD (j 0) (j 1)).trans (Eq.trans ?_ (Ref.pad_dv_at (j 0) (j 1)).symm)
    unfold padAt
    by_cases hJ : 128 ≤ (j 0).val ∧ (j 0).val < 8320
    · rw [dif_pos hJ, dif_pos hJ]
      exact (Ref.dv_at hD _ (j 1)).symm
    · rw [dif_neg hJ, dif_neg hJ]
      exact EReal.coe_zero
  refine (dats m 0 c).arrAt_eq_of_after_last 11 last (by decide +kernel) _ fun j => ?_
  blk_simp
  rw [after0_11]
  exact congrFun key j

theorem dkcAt_at (u : Fin 256) (z : Fin 128) :
    (dkcAt m c 64 : FVec Ideal S256x128 .f32) (ix2 u z)
      = ((D.dkc ⟨z.val / 64, by omega⟩ u ⟨z.val % 64, by omega⟩ : ℝ) : EReal) := by
  rw [← Whole.points_dkc]
  refine over_real _ _ (ix2 u z) _ ?_ fun t y => ?_
  · pointwise [k0_pay3]
  · show y (ix2 u z) + (hd m c t ⟨z.val / 64, by omega⟩).dkc (ix2 u ⟨z.val % 64, by omega⟩) = _
    rw [dkc_at (hd_is t _ hD)]

theorem final_dkc : (dats m 0 c).arrAt 12 (cfgs 0).N
    = Cert.ReferenceIdeal.Read.val_main_v117 (F := Ideal) (arg0 m c) (arg1 m c) (arg2 m c) (arg3 m c) (arg4 m c) (arg5 m c) (arg6 m c) := by
  have key : ((dkcAt m c 64 : FVec Ideal S256x128 .f32) : S256x128.Idx → Ideal .f32)
      = Cert.ReferenceIdeal.Read.val_main_v117 (F := Ideal) (arg0 m c) (arg1 m c) (arg2 m c) (arg3 m c) (arg4 m c) (arg5 m c) (arg6 m c) := funext fun j => by
    rw [eq_ix2 j]
    exact (dkcAt_at hD (j 0) (j 1)).trans (Ref.dkc_at hD (j 0) (j 1)).symm
  refine (dats m 0 c).arrAt_eq_of_after_last 12 last (by decide +kernel) _ fun j => ?_
  blk_simp
  rw [after0_12]
  exact congrFun key j

theorem dvcAt_at (u : Fin 256) (z : Fin 128) :
    (dvcAt m c 64 : FVec Ideal S256x128 .f32) (ix2 u z)
      = ((D.dvc ⟨z.val / 64, by omega⟩ u ⟨z.val % 64, by omega⟩ : ℝ) : EReal) := by
  rw [← Whole.points_dvc]
  refine over_real _ _ (ix2 u z) _ ?_ fun t y => ?_
  · pointwise [k0_pay4]
  · show y (ix2 u z) + (hd m c t ⟨z.val / 64, by omega⟩).dvc (ix2 u ⟨z.val % 64, by omega⟩) = _
    rw [dvc_at (hd_is t _ hD)]

theorem final_dvc : (dats m 0 c).arrAt 13 (cfgs 0).N
    = Cert.ReferenceIdeal.Read.val_main_v116 (F := Ideal) (arg0 m c) (arg1 m c) (arg2 m c) (arg4 m c) (arg6 m c) := by
  have key : ((dvcAt m c 64 : FVec Ideal S256x128 .f32) : S256x128.Idx → Ideal .f32)
      = Cert.ReferenceIdeal.Read.val_main_v116 (F := Ideal) (arg0 m c) (arg1 m c) (arg2 m c) (arg4 m c) (arg6 m c) := funext fun j => by
    rw [eq_ix2 j]
    exact (dvcAt_at hD (j 0) (j 1)).trans (Ref.dvc_at hD (j 0) (j 1)).symm
  refine (dats m 0 c).arrAt_eq_of_after_last 13 last (by decide +kernel) _ fun j => ?_
  blk_simp
  rw [after0_13]
  exact congrFun key j

theorem dsinkAt_at (e : Fin 8) :
    (dsinkAt m c 64 : FVec Ideal S1x8 .f32) (ix2 0 e)
      = ((D.ds ⟨e.val / 4, by omega⟩ ⟨e.val % 4, by omega⟩ : ℝ) : EReal) := by
  rw [← Whole.points_ds]
  refine over_real _ _ (ix2 0 e) _ ?_ fun t y => ?_
  · pointwise [k0_pay5]
  · pointwise [k0_pay100]
    rw [sinkBoth_at (hd m c t) e, ← coe_sum]
    refine congrArg (y (ix2 0 e) + ·) (Finset.sum_congr rfl fun r _ => ?_)
    split_ifs
    · exact dsk_at (hd_is t _ hD) r
    · rfl

theorem final_dsink : (dats m 0 c).arrAt 14 (cfgs 0).N
    = Cert.ReferenceIdeal.Read.val_main_v99 (F := Ideal) (arg0 m c) (arg1 m c) (arg2 m c) (arg3 m c) (arg4 m c) (arg5 m c) (arg6 m c) := by
  have key : ((dsinkAt m c 64 : FVec Ideal S1x8 .f32) : S1x8.Idx → Ideal .f32)
      = Cert.ReferenceIdeal.Read.val_main_v99 (F := Ideal) (arg0 m c) (arg1 m c) (arg2 m c) (arg3 m c) (arg4 m c) (arg5 m c) (arg6 m c) := funext fun j => by
    rw [show j = ix2 0 (j 1) from (eq_ix2 j).trans (congrArg (fun i => ix2 i (j 1)) (Subsingleton.elim (α := Fin 1) (j 0) 0))]
    exact (dsinkAt_at hD (j 1)).trans (Ref.dsink_at hD (j 1)).symm
  refine (dats m 0 c).arrAt_eq_of_after_last 14 last (by decide +kernel) _ fun j => ?_
  blk_simp
  rw [after0_14]
  exact congrFun key j

end Cert.AttnBwd

end
-- ==== Proof.Finite.lean ====
module

public import proofs.«01_k».proof.Proof.Results
public import proofs.«01_k».proof.Proof.Infinity
public import proofs.«01_k».proof.Proof.Gen.Pre_finite
public import proofs.«01_k».proof.Defs

@[expose] public section

/-!
# Finite arguments

Arguments with finite entries hold real numbers.
-/

noncomputable section

namespace Cert.AttnBwd

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (c : Dev nD)

/-- The real numbers that the arguments on a device hold. -/
def wholeOf : Whole where
  ct h g p l := ((arg0 m c (ix2 p ⟨h.val * 256 + g.val * 64 + l.val, by omega⟩) : EReal)).toReal
  q h g p l := ((arg1 m c (ix2 p ⟨h.val * 256 + g.val * 64 + l.val, by omega⟩) : EReal)).toReal
  k h j l := ((arg2 m c (ix2 j ⟨h.val * 64 + l.val, by omega⟩) : EReal)).toReal
  v h j l := ((arg3 m c (ix2 j ⟨h.val * 64 + l.val, by omega⟩) : EReal)).toReal
  kc h u l := ((arg4 m c (ix2 u ⟨h.val * 64 + l.val, by omega⟩) : EReal)).toReal
  vc h u l := ((arg5 m c (ix2 u ⟨h.val * 64 + l.val, by omega⟩) : EReal)).toReal
  s h g := ((arg6 m c (ix2 0 ⟨h.val * 4 + g.val, by omega⟩) : EReal)).toReal

theorem holds_of_finite
    (hm : Cert.Pre_KernelIdeal_finite (hPre_finite := Cert.Pre_finite.Gen.facts) m) : Holds m c (wholeOf m c) := by
  obtain ⟨h0, h1, h2, h3, h4, h5, h6⟩ := hm c
  constructor
  · intro h g p l
    have e := congrFun h0 (ix2 p ⟨h.val * 256 + g.val * 64 + l.val, by omega⟩)
    pointwise [Cert.Pre_finite.fn, Cert.Pre_finite.fn_part1] at e
    exact real_of_lt .bf16 _ _ inf_narrow e
  · intro h g p l
    have e := congrFun h1 (ix2 p ⟨h.val * 256 + g.val * 64 + l.val, by omega⟩)
    pointwise [Cert.Pre_finite.fn, Cert.Pre_finite.fn_part1] at e
    exact real_of_lt .bf16 _ _ inf_narrow e
  · intro h j l
    have e := congrFun h2 (ix2 j ⟨h.val * 64 + l.val, by omega⟩)
    pointwise [Cert.Pre_finite.fn, Cert.Pre_finite.fn_part1] at e
    exact real_of_lt .bf16 _ _ inf_narrow e
  · intro h j l
    have e := congrFun h3 (ix2 j ⟨h.val * 64 + l.val, by omega⟩)
    pointwise [Cert.Pre_finite.fn, Cert.Pre_finite.fn_part1] at e
    exact real_of_lt .bf16 _ _ inf_narrow e
  · intro h u l
    have e := congrFun h4 (ix2 u ⟨h.val * 64 + l.val, by omega⟩)
    pointwise [Cert.Pre_finite.fn, Cert.Pre_finite.fn_part1] at e
    exact real_of_lt .bf16 _ _ inf_narrow e
  · intro h u l
    have e := congrFun h5 (ix2 u ⟨h.val * 64 + l.val, by omega⟩)
    pointwise [Cert.Pre_finite.fn, Cert.Pre_finite.fn_part1] at e
    exact real_of_lt .bf16 _ _ inf_narrow e
  · intro h g
    have e := congrFun h6 (ix2 0 ⟨h.val * 4 + g.val, by omega⟩)
    pointwise [Cert.Pre_finite.fn, Cert.Pre_finite.fn_part1] at e
    exact real_of_lt .f32 _ _ inf_wide e

end Cert.AttnBwd

end
-- ==== Proof.WordRun.lean ====
module

public import proofs.«01_k».proof.Proof.Run
public import proofs.«01_k».proof.Proof.Gen.Kernel
public import proofs.«01_k».proof.Defs

@[expose] public section

/-!
# The kernel over the words

The kernel and the idealized kernel have the same text; the run over any float values is the run over the words too.
-/

set_option maxRecDepth 100000
set_option maxHeartbeats 1000000

noncomputable section

namespace Cert.AttnBwd

open Idealize.ShloMosaic Idealize.SL.Sem

local instance : Cert.Kernel.Facts := Cert.Kernel.Gen.facts
local instance : Cert.KernelIdeal.Facts := Cert.KernelIdeal.Gen.facts

/-- The two tables of bodies are equal. -/
theorem body_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => exact id rfl

/-- The two tables of all labels are equal. -/
theorem table_same : Cert.Kernel.defs (F := Bits) = Cert.KernelIdeal.defs (F := Bits) :=
  congrArg (Pipeline.defs _) body_same

/-- The two programs are equal. -/
theorem main_same : Cert.Kernel.main (F := Bits) = Cert.KernelIdeal.main (F := Bits) := id rfl

/-- The kernel over the words ends with its arguments unchanged and every counter at zero. -/
theorem frame_words : Cert.quiescent_Kernel (hKernel := Cert.Kernel.Gen.facts) := by
  intro m ρ _
  rw [table_same, main_same]
  exact frame_kernel (F := Bits) m ρ

end Cert.AttnBwd

end
-- ==== Proof.lean ====
/- The certificate: the frames of the calls and the equality of their results with the references'. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Pre_finite
public import proofs.«01_k».proof.Proof.Gen.Pre_finite2
public import proofs.«01_k».proof.Proof.FfnGrad
public import proofs.«01_k».proof.Proof.FfnIn
public import proofs.«01_k».proof.Proof.FfnFwd
public import proofs.«01_k».proof.Proof.FfnOut
public import proofs.«01_k».proof.Proof.ProjIn
public import proofs.«01_k».proof.Proof.ProjInGrad
public import proofs.«01_k».proof.Proof.ProjOut
public import proofs.«01_k».proof.Proof.ProjOutGrad
public import proofs.«01_k».proof.Proof.ProjInWeights
public import proofs.«01_k».proof.Proof.ProjOutWeights
public import proofs.«01_k».proof.Proof.FfnInWeights
public import proofs.«01_k».proof.Proof.FfnOutWeights
public import proofs.«01_k».proof.Proof.WeightWords
public import proofs.«01_k».proof.Proof.Finite
public import proofs.«01_k».proof.Proof.WordRun
public import Idealize.ShloMosaic.Adequacy
public import Idealize.ShloMosaic.Init

@[expose] public section

noncomputable section

namespace Cert.Proof

open Idealize.ShloMosaic Idealize.SL.Sem Cert.AttnBwd

/-- The reference terminates at every input with its arguments unchanged and its counters at zero. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2.2.2.2.2.2, Idealize.ShloMosaic.sem_eq_zero_of_no_sems (by decide) r.2⟩)
    (Cert.ReferenceIdeal.Value.run (F := Ideal) m ρ)

open Cert.ReferenceIdeal.Read in
/-- From equal arguments with finite entries the kernel and the reference end with the same gradients. -/
theorem same_gradients : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hm he
  refine ⟨
    fun c => val_main_v122 (F := Ideal) (arg0 m c) (arg1 m c) (arg2 m c) (arg3 m c) (arg4 m c) (arg5 m c) (arg6 m c),
    fun c => val_main_v123 (F := Ideal) (arg0 m c) (arg1 m c) (arg2 m c) (arg3 m c) (arg4 m c) (arg5 m c) (arg6 m c),
    fun c => val_main_v124 (F := Ideal) (arg0 m c) (arg1 m c) (arg2 m c) (arg4 m c) (arg6 m c),
    fun c => val_main_v117 (F := Ideal) (arg0 m c) (arg1 m c) (arg2 m c) (arg3 m c) (arg4 m c) (arg5 m c) (arg6 m c),
    fun c => val_main_v116 (F := Ideal) (arg0 m c) (arg1 m c) (arg2 m c) (arg4 m c) (arg6 m c),
    fun c => val_main_v99 (F := Ideal) (arg0 m c) (arg1 m c) (arg2 m c) (arg3 m c) (arg4 m c) (arg5 m c) (arg6 m c),
    (θ_run Cert.KernelIdeal.defs _ _).mono (fun r h c => ?_) (θ_run_and (run_main m g) (frame_kernel m g)),
    (θ_run Cert.ReferenceIdeal.defs _ _).mono (fun r h c => ?_) (Cert.ReferenceIdeal.Value.run (F := Ideal) m' g')⟩
  · have hD := holds_of_finite m c hm
    exact ⟨((h.1 c).1 9).trans (final_dq hD), ((h.1 c).1 10).trans (final_dk hD), ((h.1 c).1 11).trans (final_dv hD),
      ((h.1 c).1 12).trans (final_dkc hD), ((h.1 c).1 13).trans (final_dvc hD), ((h.1 c).1 14).trans (final_dsink hD),
      h.2.1 c⟩
  · obtain ⟨r0, r1, r2, r3, r4, r5, ha⟩ := h c
    obtain ⟨e0, e1, e2, e3, e4, e5, e6⟩ := he c
    rw [val_main_v122_eq, e0, e1, e2, e3, e4, e5, e6] at r0
    rw [val_main_v123_eq, e0, e1, e2, e3, e4, e5, e6] at r1
    rw [val_main_v124_eq, e0, e1, e2, e4, e6] at r2
    rw [val_main_v117_eq, e0, e1, e2, e3, e4, e5, e6] at r3
    rw [val_main_v116_eq, e0, e1, e2, e4, e6] at r4
    rw [val_main_v99_eq, e0, e1, e2, e3, e4, e5, e6] at r5
    exact ⟨r0, r1, r2, r3, r4, r5, ha⟩

/-- The certificate. -/
theorem claim : Cert.Claim :=
  ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite.Gen.facts, Cert.Pre_finite2.Gen.facts,
  frame_words, fun m ρ _ => frame_kernel m ρ, fun m ρ _ => frame_kernel m ρ, frame_reference, fun m ρ _ => frame_reference m ρ trivial,
  fun m ρ _ => Cert.Kernel2.Gen.frame m ρ,
  fun m ρ _ => Cert.Kernel2Ideal.Gen.frame m ρ,
  fun m ρ _ => Cert.Kernel2Ideal.Gen.frame m ρ,
  Cert.FfnGrad.frame_reference, fun m ρ _ => Cert.FfnGrad.frame_reference m ρ trivial,
  fun m ρ _ => Cert.Kernel3.Gen.frame m ρ,
  fun m ρ _ => Cert.Kernel3Ideal.Gen.frame m ρ, Cert.FfnIn.frame_reference,
  fun m ρ _ => Cert.Kernel4.Gen.frame m ρ,
  fun m ρ _ => Cert.Kernel4Ideal.Gen.frame m ρ, Cert.FfnFwd.frame_reference,
  fun m ρ _ => Cert.Kernel5.Gen.frame m ρ,
  fun m ρ _ => Cert.Kernel5Ideal.Gen.frame m ρ, Cert.FfnOut.frame_reference,
  fun m ρ _ => Cert.Kernel6.Gen.frame m ρ,
  fun m ρ _ => Cert.Kernel6Ideal.Gen.frame m ρ, Cert.ProjIn.frame_reference,
  fun m ρ _ => Cert.Kernel7.Gen.frame m ρ,
  fun m ρ _ => Cert.Kernel7Ideal.Gen.frame m ρ, Cert.ProjInGrad.frame_reference,
  fun m ρ _ => Cert.Kernel8.Gen.frame m ρ,
  fun m ρ _ => Cert.Kernel8Ideal.Gen.frame m ρ, Cert.ProjOut.frame_reference,
  fun m ρ _ => Cert.Kernel9.Gen.frame m ρ,
  fun m ρ _ => Cert.Kernel9Ideal.Gen.frame m ρ, Cert.ProjOutGrad.frame_reference,
  fun m ρ _ => Cert.Kernel10.Gen.frame m ρ,
  fun m ρ _ => Cert.Kernel10Ideal.Gen.frame m ρ, Cert.ProjInWeights.frame_reference,
  fun m ρ _ => Cert.Kernel11.Gen.frame m ρ,
  fun m ρ _ => Cert.Kernel11Ideal.Gen.frame m ρ, Cert.ProjOutWeights.frame_reference,
  Cert.FfnInWeights.frame_words,
  fun m ρ _ => Cert.FfnInWeights.frame_kernel m ρ, Cert.FfnInWeights.frame_reference,
  Cert.FfnOutWeights.frame_words,
  fun m ρ _ => Cert.FfnOutWeights.frame_kernel m ρ, Cert.FfnOutWeights.frame_reference,
  trivial, same_gradients,
  trivial, Cert.FfnGrad.same,
  trivial, Cert.FfnIn.same,
  trivial, Cert.FfnFwd.same,
  trivial, Cert.FfnOut.same,
  trivial, Cert.ProjIn.same,
  trivial, Cert.ProjInGrad.same,
  trivial, Cert.ProjOut.same,
  trivial, Cert.ProjOutGrad.same,
  trivial, Cert.ProjInWeights.same,
  trivial, Cert.ProjOutWeights.same,
  trivial, Cert.FfnInWeights.same,
  trivial, Cert.FfnOutWeights.same⟩

end Cert.Proof

end
